-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x112x2x128 Cert.KernelIdeal.S2x112x1x128
  ∧ IdealRules.bf16_pair.PackStatement Cert.KernelIdeal.S112x256
  ∧ IdealRules.bf16_pair.Statement Cert.KernelIdeal.S1x112x2x128 Cert.KernelIdeal.S1x112x1x128
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x256x7168 : Shape := ⟨3, ![12, 256, 7168]⟩
abbrev S12x256x112 : Shape := ⟨3, ![12, 256, 112]⟩
abbrev S12x24x14336 : Shape := ⟨3, ![12, 24, 14336]⟩
abbrev S12x256x24 : Shape := ⟨3, ![12, 256, 24]⟩
abbrev S12x256 : Shape := ⟨2, ![12, 256]⟩
abbrev S12x1x256 : Shape := ⟨3, ![12, 1, 256]⟩
abbrev S1x256x7168 : Shape := ⟨3, ![1, 256, 7168]⟩
abbrev S1x256x112 : Shape := ⟨3, ![1, 256, 112]⟩
abbrev S1x24x14336 : Shape := ⟨3, ![1, 24, 14336]⟩
abbrev S1x256x24 : Shape := ⟨3, ![1, 256, 24]⟩
abbrev S1x1x256 : Shape := ⟨3, ![1, 1, 256]⟩
abbrev S14336x128 : Shape := ⟨2, ![14336, 128]⟩
abbrev S256x256 : Shape := ⟨2, ![256, 256]⟩
abbrev S2x112x128 : Shape := ⟨3, ![2, 112, 128]⟩
abbrev S2x14336x128 : Shape := ⟨3, ![2, 14336, 128]⟩
abbrev S2x896x128 : Shape := ⟨3, ![2, 896, 128]⟩
abbrev S1x24x128 : Shape := ⟨3, ![1, 24, 128]⟩
abbrev S24x128 : Shape := ⟨2, ![24, 128]⟩
abbrev S72x128 : Shape := ⟨2, ![72, 128]⟩
abbrev S56x128 : Shape := ⟨2, ![56, 128]⟩
abbrev S128x128 : Shape := ⟨2, ![128, 128]⟩
abbrev S256x24 : Shape := ⟨2, ![256, 24]⟩
abbrev S256x104 : Shape := ⟨2, ![256, 104]⟩
abbrev S256x128 : Shape := ⟨2, ![256, 128]⟩
abbrev S128x256 : Shape := ⟨2, ![128, 256]⟩
abbrev S24x256 : Shape := ⟨2, ![24, 256]⟩
abbrev S72x256 : Shape := ⟨2, ![72, 256]⟩
abbrev S56x256 : Shape := ⟨2, ![56, 256]⟩
abbrev S256x112 : Shape := ⟨2, ![256, 112]⟩
abbrev S256x16 : Shape := ⟨2, ![256, 16]⟩
abbrev S112x256 : Shape := ⟨2, ![112, 256]⟩
abbrev S112x128 : Shape := ⟨2, ![112, 128]⟩
abbrev S1x112x128 : Shape := ⟨3, ![1, 112, 128]⟩
abbrev S8x128 : Shape := ⟨2, ![8, 128]⟩
abbrev S1x128x128 : Shape := ⟨3, ![1, 128, 128]⟩
abbrev S128x1x128 : Shape := ⟨3, ![128, 1, 128]⟩
abbrev S128x2x128 : Shape := ⟨3, ![128, 2, 128]⟩
abbrev S1x1x128 : Shape := ⟨3, ![1, 1, 128]⟩
abbrev S1x128 : Shape := ⟨2, ![1, 128]⟩
abbrev S16x128 : Shape := ⟨2, ![16, 128]⟩
abbrev S8x16x128 : Shape := ⟨3, ![8, 16, 128]⟩
abbrev S1x16x128 : Shape := ⟨3, ![1, 16, 128]⟩
abbrev S16x8x128 : Shape := ⟨3, ![16, 8, 128]⟩
abbrev S1x8x128 : Shape := ⟨3, ![1, 8, 128]⟩
abbrev S128 : Shape := ⟨1, ![128]⟩
abbrev S128x112 : Shape := ⟨2, ![128, 112]⟩

abbrev nBuf : Space → Nat
  | .hbm => 8
  | .vmem => 20
  | .smem => 0
  | _ => 0

abbrev bufTy : (tb : Table) → Fin (tcTables nBuf tb) → BufTy
  | .hbm, ⟨0, _⟩ => ⟨S12x256x7168, .i8⟩
  | .hbm, ⟨1, _⟩ => ⟨S12x256x112, .bf16⟩
  | .hbm, ⟨2, _⟩ => ⟨S12x24x14336, .bf16⟩
  | .hbm, ⟨3, _⟩ => ⟨S12x256x24, .bf16⟩
  | .hbm, ⟨4, _⟩ => ⟨S12x256, .f32⟩
  | .hbm, ⟨5, _⟩ => ⟨S12x1x256, .f32⟩
  | .hbm, ⟨6, _⟩ => ⟨S12x256x7168, .i8⟩
  | .hbm, ⟨7, _⟩ => ⟨S12x256x112, .bf16⟩
  | .local _ .vmem, ⟨0, _⟩ => ⟨S1x256x7168, .i8⟩
  | .local _ .vmem, ⟨1, _⟩ => ⟨S1x256x7168, .i8⟩
  | .local _ .vmem, ⟨2, _⟩ => ⟨S1x256x112, .bf16⟩
  | .local _ .vmem, ⟨3, _⟩ => ⟨S1x256x112, .bf16⟩
  | .local _ .vmem, ⟨4, _⟩ => ⟨S1x24x14336, .bf16⟩
  | .local _ .vmem, ⟨5, _⟩ => ⟨S1x24x14336, .bf16⟩
  | .local _ .vmem, ⟨6, _⟩ => ⟨S1x256x24, .bf16⟩
  | .local _ .vmem, ⟨7, _⟩ => ⟨S1x256x24, .bf16⟩
  | .local _ .vmem, ⟨8, _⟩ => ⟨S1x1x256, .f32⟩
  | .local _ .vmem, ⟨9, _⟩ => ⟨S1x1x256, .f32⟩
  | .local _ .vmem, ⟨10, _⟩ => ⟨S1x256x7168, .i8⟩
  | .local _ .vmem, ⟨11, _⟩ => ⟨S1x256x7168, .i8⟩
  | .local _ .vmem, ⟨12, _⟩ => ⟨S1x256x112, .bf16⟩
  | .local _ .vmem, ⟨13, _⟩ => ⟨S1x256x112, .bf16⟩
  | .local _ .vmem, ⟨14, _⟩ => ⟨S14336x128, .bf16⟩
  | .local _ .vmem, ⟨15, _⟩ => ⟨S256x256, .bf16⟩
  | .local _ .vmem, ⟨16, _⟩ => ⟨S2x112x128, .i32⟩
  | .local _ .vmem, ⟨17, _⟩ => ⟨S2x14336x128, .f32⟩
  | .local _ .vmem, ⟨18, _⟩ => ⟨S2x896x128, .f32⟩
  | .local _ .vmem, ⟨19, _⟩ => ⟨S2x112x128, .f32⟩
  | _, _ => ⟨S12x256x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![12], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32 : BitVec 32 := 2#32
  let v155 : BitVec 32 := Scalar.muli arg14 c2_i32
  let c7_i32 : BitVec 32 := 7#32
  let v156 : BitVec 32 := Scalar.muli v155 c7_i32
  let c0_i32_93 : BitVec 32 := 0#32
  let v157 : BitVec 32 := Scalar.addi v156 c0_i32_93
  let c128_i32 : BitVec 32 := 128#32
  let v158 : BitVec 32 := Scalar.muli v157 c128_i32
  v158
def k0_off1 (k0_t1 : Fin k0_t1_loop.trips) (c0_i32_93 : BitVec 32) : Fin 3 → Nat :=
  let c0_94 : Index := 0#32
  let c0_95 : Index := 0#32
  let c0_i32 : BitVec 32 := 0#32
  let c1_i32 : BitVec 32 := 1#32
  let arg14 : BitVec 32 := Scf.iv c0_i32 c1_i32 k0_t1
  let c2_i32 : BitVec 32 := 2#32
  let v155 : BitVec 32 := Scalar.muli arg14 c2_i32
  let c7_i32 : BitVec 32 := 7#32
  let v156 : BitVec 32 := Scalar.muli v155 c7_i32
  let v157 : BitVec 32 := Scalar.addi v156 c0_i32_93
  let c128_i32 : BitVec 32 := 128#32
  let v158 : BitVec 32 := Scalar.muli v157 c128_i32
  let v159 : BitVec 32 := v158
  let v160 : Index := Scalar.indexCast v159
  ![0, 0, v160.toNat]
def k0_off2 (k0_t1 : Fin k0_t1_loop.trips) (c0_i32_93 : BitVec 32) : Fin 2 → Nat :=
  let c0_i32 : BitVec 32 := 0#32
  let c1_i32 : BitVec 32 := 1#32
  let arg14 : BitVec 32 := Scf.iv c0_i32 c1_i32 k0_t1
  let c2_i32 : BitVec 32 := 2#32
  let v155 : BitVec 32 := Scalar.muli arg14 c2_i32
  let c7_i32 : BitVec 32 := 7#32
  let v156 : BitVec 32 := Scalar.muli v155 c7_i32
  let v157 : BitVec 32 := Scalar.addi v156 c0_i32_93
  let c128_i32 : BitVec 32 := 128#32
  let v158 : BitVec 32 := Scalar.muli v157 c128_i32
  let v159 : BitVec 32 := v158
  let v169 : Index := Scalar.indexCast v159
  let c0_97 : Index := 0#32
  ![v169.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_98 : BitVec 32 := 2#32
  let v173 : BitVec 32 := Scalar.muli arg14 c2_i32_98
  let c7_i32_99 : BitVec 32 := 7#32
  let v174 : BitVec 32 := Scalar.muli v173 c7_i32_99
  let c1_i32_100 : BitVec 32 := 1#32
  let v175 : BitVec 32 := Scalar.addi v174 c1_i32_100
  let c128_i32_101 : BitVec 32 := 128#32
  let v176 : BitVec 32 := Scalar.muli v175 c128_i32_101
  v176
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_106 : BitVec 32 := 2#32
  let v191 : BitVec 32 := Scalar.muli arg14 c2_i32_106
  let c7_i32_107 : BitVec 32 := 7#32
  let v192 : BitVec 32 := Scalar.muli v191 c7_i32_107
  let c2_i32_108 : BitVec 32 := 2#32
  let v193 : BitVec 32 := Scalar.addi v192 c2_i32_108
  let c128_i32_109 : BitVec 32 := 128#32
  let v194 : BitVec 32 := Scalar.muli v193 c128_i32_109
  v194
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_114 : BitVec 32 := 2#32
  let v209 : BitVec 32 := Scalar.muli arg14 c2_i32_114
  let c7_i32_115 : BitVec 32 := 7#32
  let v210 : BitVec 32 := Scalar.muli v209 c7_i32_115
  let c3_i32 : BitVec 32 := 3#32
  let v211 : BitVec 32 := Scalar.addi v210 c3_i32
  let c128_i32_116 : BitVec 32 := 128#32
  let v212 : BitVec 32 := Scalar.muli v211 c128_i32_116
  v212
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_121 : BitVec 32 := 2#32
  let v227 : BitVec 32 := Scalar.muli arg14 c2_i32_121
  let c7_i32_122 : BitVec 32 := 7#32
  let v228 : BitVec 32 := Scalar.muli v227 c7_i32_122
  let c4_i32 : BitVec 32 := 4#32
  let v229 : BitVec 32 := Scalar.addi v228 c4_i32
  let c128_i32_123 : BitVec 32 := 128#32
  let v230 : BitVec 32 := Scalar.muli v229 c128_i32_123
  v230
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_128 : BitVec 32 := 2#32
  let v245 : BitVec 32 := Scalar.muli arg14 c2_i32_128
  let c7_i32_129 : BitVec 32 := 7#32
  let v246 : BitVec 32 := Scalar.muli v245 c7_i32_129
  let c5_i32 : BitVec 32 := 5#32
  let v247 : BitVec 32 := Scalar.addi v246 c5_i32
  let c128_i32_130 : BitVec 32 := 128#32
  let v248 : BitVec 32 := Scalar.muli v247 c128_i32_130
  v248
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_135 : BitVec 32 := 2#32
  let v263 : BitVec 32 := Scalar.muli arg14 c2_i32_135
  let c7_i32_136 : BitVec 32 := 7#32
  let v264 : BitVec 32 := Scalar.muli v263 c7_i32_136
  let c6_i32 : BitVec 32 := 6#32
  let v265 : BitVec 32 := Scalar.addi v264 c6_i32
  let c128_i32_137 : BitVec 32 := 128#32
  let v266 : BitVec 32 := Scalar.muli v265 c128_i32_137
  v266
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_142 : BitVec 32 := 2#32
  let v281 : BitVec 32 := Scalar.muli arg14 c2_i32_142
  let c7_i32_143 : BitVec 32 := 7#32
  let v282 : BitVec 32 := Scalar.muli v281 c7_i32_143
  let c7_i32_144 : BitVec 32 := 7#32
  let v283 : BitVec 32 := Scalar.addi v282 c7_i32_144
  let c128_i32_145 : BitVec 32 := 128#32
  let v284 : BitVec 32 := Scalar.muli v283 c128_i32_145
  v284
def k0_mult9 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_150 : BitVec 32 := 2#32
  let v299 : BitVec 32 := Scalar.muli arg14 c2_i32_150
  let c7_i32_151 : BitVec 32 := 7#32
  let v300 : BitVec 32 := Scalar.muli v299 c7_i32_151
  let c8_i32_152 : BitVec 32 := 8#32
  let v301 : BitVec 32 := Scalar.addi v300 c8_i32_152
  let c128_i32_153 : BitVec 32 := 128#32
  let v302 : BitVec 32 := Scalar.muli v301 c128_i32_153
  v302
def k0_mult10 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_158 : BitVec 32 := 2#32
  let v317 : BitVec 32 := Scalar.muli arg14 c2_i32_158
  let c7_i32_159 : BitVec 32 := 7#32
  let v318 : BitVec 32 := Scalar.muli v317 c7_i32_159
  let c9_i32 : BitVec 32 := 9#32
  let v319 : BitVec 32 := Scalar.addi v318 c9_i32
  let c128_i32_160 : BitVec 32 := 128#32
  let v320 : BitVec 32 := Scalar.muli v319 c128_i32_160
  v320
def k0_mult11 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_165 : BitVec 32 := 2#32
  let v335 : BitVec 32 := Scalar.muli arg14 c2_i32_165
  let c7_i32_166 : BitVec 32 := 7#32
  let v336 : BitVec 32 := Scalar.muli v335 c7_i32_166
  let c10_i32 : BitVec 32 := 10#32
  let v337 : BitVec 32 := Scalar.addi v336 c10_i32
  let c128_i32_167 : BitVec 32 := 128#32
  let v338 : BitVec 32 := Scalar.muli v337 c128_i32_167
  v338
def k0_mult12 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_172 : BitVec 32 := 2#32
  let v353 : BitVec 32 := Scalar.muli arg14 c2_i32_172
  let c7_i32_173 : BitVec 32 := 7#32
  let v354 : BitVec 32 := Scalar.muli v353 c7_i32_173
  let c11_i32 : BitVec 32 := 11#32
  let v355 : BitVec 32 := Scalar.addi v354 c11_i32
  let c128_i32_174 : BitVec 32 := 128#32
  let v356 : BitVec 32 := Scalar.muli v355 c128_i32_174
  v356
def k0_mult13 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_179 : BitVec 32 := 2#32
  let v371 : BitVec 32 := Scalar.muli arg14 c2_i32_179
  let c7_i32_180 : BitVec 32 := 7#32
  let v372 : BitVec 32 := Scalar.muli v371 c7_i32_180
  let c12_i32 : BitVec 32 := 12#32
  let v373 : BitVec 32 := Scalar.addi v372 c12_i32
  let c128_i32_181 : BitVec 32 := 128#32
  let v374 : BitVec 32 := Scalar.muli v373 c128_i32_181
  v374
def k0_mult14 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_186 : BitVec 32 := 2#32
  let v389 : BitVec 32 := Scalar.muli arg14 c2_i32_186
  let c7_i32_187 : BitVec 32 := 7#32
  let v390 : BitVec 32 := Scalar.muli v389 c7_i32_187
  let c13_i32 : BitVec 32 := 13#32
  let v391 : BitVec 32 := Scalar.addi v390 c13_i32
  let c128_i32_188 : BitVec 32 := 128#32
  let v392 : BitVec 32 := Scalar.muli v391 c128_i32_188
  v392
@[reducible] def k0_t2_loop : Scf.Loop 32 :=
  let c0_i32_19 : BitVec 32 := 0#32
  let c8_i32_20 : BitVec 32 := 8#32
  let v49 : BitVec 32 := Scalar.addi c0_i32_19 c8_i32_20
  let c1_i32_21 : BitVec 32 := 1#32
  ⟨c0_i32_19, v49, c1_i32_21⟩
def k0_mult15 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let c128_i32 : BitVec 32 := 128#32
  let v158 : BitVec 32 := Scalar.muli v157 c128_i32
  v158
def k0_off3 (k0_t2 : Fin k0_t2_loop.trips) (c0_i32_95 : BitVec 32) : Fin 3 → Nat :=
  let c0_96 : Index := 0#32
  let c0_97 : Index := 0#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let c128_i32 : BitVec 32 := 128#32
  let v158 : BitVec 32 := Scalar.muli v157 c128_i32
  let v159 : BitVec 32 := v158
  let v160 : Index := Scalar.indexCast v159
  ![0, 0, v160.toNat]
def k0_off4 (k0_t2 : Fin k0_t2_loop.trips) (c0_i32_95 : BitVec 32) : Fin 3 → Nat :=
  let c0_100 : Index := 0#32
  let c128_101 : Index := 128#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let c128_i32 : BitVec 32 := 128#32
  let v158 : BitVec 32 := Scalar.muli v157 c128_i32
  let v159 : BitVec 32 := v158
  let v179 : Index := Scalar.indexCast v159
  ![0, 128, v179.toNat]
def k0_mult16 (k0_t2 : Fin k0_t2_loop.trips) : BitVec 32 :=
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v198 : BitVec 32 := Scalar.muli c2_i32 v157
  let c0_i32_106 : BitVec 32 := 0#32
  let v199 : BitVec 32 := Scalar.addi v198 c0_i32_106
  let c128_i32_107 : BitVec 32 := 128#32
  let v200 : BitVec 32 := Scalar.muli v199 c128_i32_107
  v200
def k0_off5 (k0_t2 : Fin k0_t2_loop.trips) (c0_i32_95 : BitVec 32) (c0_i32_106 : BitVec 32) : Fin 3 → Nat :=
  let c0_108 : Index := 0#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let v202 : Index := Scalar.indexCast v199
  let c0_109 : Index := 0#32
  ![0, v202.toNat, 0]
def k0_off6 (k0_t2 : Fin k0_t2_loop.trips) (c0_i32_95 : BitVec 32) (c0_i32_106 : BitVec 32) : Fin 3 → Nat :=
  let c1_110 : Index := 1#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let v213 : Index := Scalar.indexCast v199
  let c0_111 : Index := 0#32
  ![1, v213.toNat, 0]
def k0_off7 (k0_t2 : Fin k0_t2_loop.trips) (c0_i32_95 : BitVec 32) (c0_i32_106 : BitVec 32) : Fin 2 → Nat :=
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c128_i32_107 : BitVec 32 := 128#32
  let v200 : BitVec 32 := Scalar.muli v199 c128_i32_107
  let v201 : BitVec 32 := v200
  let v224 : Index := Scalar.indexCast v201
  let c0_112 : Index := 0#32
  ![v224.toNat, 0]
def k0_off8 (k0_t2 : Fin k0_t2_loop.trips) (c0_i32_95 : BitVec 32) (c0_i32_106 : BitVec 32) : Fin 3 → Nat :=
  let c0_114 : Index := 0#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c128_i32_107 : BitVec 32 := 128#32
  let v200 : BitVec 32 := Scalar.muli v199 c128_i32_107
  let v201 : BitVec 32 := v200
  let v232 : Index := Scalar.indexCast v201
  let c0_115 : Index := 0#32
  ![0, v232.toNat, 0]
def k0_mult17 (k0_t2 : Fin k0_t2_loop.trips) : BitVec 32 :=
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v198 : BitVec 32 := Scalar.muli c2_i32 v157
  let c0_i32_106 : BitVec 32 := 0#32
  let v199 : BitVec 32 := Scalar.addi v198 c0_i32_106
  let c8_i32_118 : BitVec 32 := 8#32
  let v242 : BitVec 32 := Scalar.muli v199 c8_i32_118
  v242
def k0_off9 (k0_t2 : Fin k0_t2_loop.trips) (c0_i32_95 : BitVec 32) (c0_i32_106 : BitVec 32) : Fin 3 → Nat :=
  let c0_119 : Index := 0#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c8_i32_118 : BitVec 32 := 8#32
  let v242 : BitVec 32 := Scalar.muli v199 c8_i32_118
  let v243 : BitVec 32 := v242
  let v244 : Index := Scalar.indexCast v243
  let c0_120 : Index := 0#32
  ![0, v244.toNat, 0]
def k0_off10 (k0_t2 : Fin k0_t2_loop.trips) (c0_i32_95 : BitVec 32) (c0_i32_106 : BitVec 32) : Fin 3 → Nat :=
  let c1_121 : Index := 1#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c128_i32_107 : BitVec 32 := 128#32
  let v200 : BitVec 32 := Scalar.muli v199 c128_i32_107
  let v201 : BitVec 32 := v200
  let v248 : Index := Scalar.indexCast v201
  let c0_122 : Index := 0#32
  ![1, v248.toNat, 0]
def k0_mult18 (k0_t2 : Fin k0_t2_loop.trips) : BitVec 32 :=
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v198 : BitVec 32 := Scalar.muli c2_i32 v157
  let c0_i32_106 : BitVec 32 := 0#32
  let v199 : BitVec 32 := Scalar.addi v198 c0_i32_106
  let c8_i32_125 : BitVec 32 := 8#32
  let v258 : BitVec 32 := Scalar.muli v199 c8_i32_125
  v258
def k0_off11 (k0_t2 : Fin k0_t2_loop.trips) (c0_i32_95 : BitVec 32) (c0_i32_106 : BitVec 32) : Fin 3 → Nat :=
  let c1_126 : Index := 1#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c8_i32_125 : BitVec 32 := 8#32
  let v258 : BitVec 32 := Scalar.muli v199 c8_i32_125
  let v259 : BitVec 32 := v258
  let v260 : Index := Scalar.indexCast v259
  let c0_127 : Index := 0#32
  ![1, v260.toNat, 0]
def k0_mult19 (k0_t2 : Fin k0_t2_loop.trips) : BitVec 32 :=
  let c2_i32_128 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v264 : BitVec 32 := Scalar.muli c2_i32_128 v157
  let c1_i32_129 : BitVec 32 := 1#32
  let v265 : BitVec 32 := Scalar.addi v264 c1_i32_129
  let c128_i32_130 : BitVec 32 := 128#32
  let v266 : BitVec 32 := Scalar.muli v265 c128_i32_130
  v266
def k0_mult20 (k0_t2 : Fin k0_t2_loop.trips) : BitVec 32 :=
  let c2_i32_128 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v264 : BitVec 32 := Scalar.muli c2_i32_128 v157
  let c1_i32_129 : BitVec 32 := 1#32
  let v265 : BitVec 32 := Scalar.addi v264 c1_i32_129
  let c8_i32_141 : BitVec 32 := 8#32
  let v308 : BitVec 32 := Scalar.muli v265 c8_i32_141
  v308
def k0_mult21 (k0_t2 : Fin k0_t2_loop.trips) : BitVec 32 :=
  let c2_i32_128 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v264 : BitVec 32 := Scalar.muli c2_i32_128 v157
  let c1_i32_129 : BitVec 32 := 1#32
  let v265 : BitVec 32 := Scalar.addi v264 c1_i32_129
  let c8_i32_148 : BitVec 32 := 8#32
  let v324 : BitVec 32 := Scalar.muli v265 c8_i32_148
  v324
def k0_mult22 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let c128_i32_153 : BitVec 32 := 128#32
  let v332 : BitVec 32 := Scalar.muli v331 c128_i32_153
  v332
def k0_mult23 (k0_t2 : Fin k0_t2_loop.trips) : BitVec 32 :=
  let c2_i32_166 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v372 : BitVec 32 := Scalar.muli c2_i32_166 v331
  let c0_i32_167 : BitVec 32 := 0#32
  let v373 : BitVec 32 := Scalar.addi v372 c0_i32_167
  let c128_i32_168 : BitVec 32 := 128#32
  let v374 : BitVec 32 := Scalar.muli v373 c128_i32_168
  v374
def k0_mult24 (k0_t2 : Fin k0_t2_loop.trips) : BitVec 32 :=
  let c2_i32_166 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v372 : BitVec 32 := Scalar.muli c2_i32_166 v331
  let c0_i32_167 : BitVec 32 := 0#32
  let v373 : BitVec 32 := Scalar.addi v372 c0_i32_167
  let c8_i32_179 : BitVec 32 := 8#32
  let v416 : BitVec 32 := Scalar.muli v373 c8_i32_179
  v416
def k0_mult25 (k0_t2 : Fin k0_t2_loop.trips) : BitVec 32 :=
  let c2_i32_166 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v372 : BitVec 32 := Scalar.muli c2_i32_166 v331
  let c0_i32_167 : BitVec 32 := 0#32
  let v373 : BitVec 32 := Scalar.addi v372 c0_i32_167
  let c8_i32_186 : BitVec 32 := 8#32
  let v432 : BitVec 32 := Scalar.muli v373 c8_i32_186
  v432
def k0_mult26 (k0_t2 : Fin k0_t2_loop.trips) : BitVec 32 :=
  let c2_i32_189 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v438 : BitVec 32 := Scalar.muli c2_i32_189 v331
  let c1_i32_190 : BitVec 32 := 1#32
  let v439 : BitVec 32 := Scalar.addi v438 c1_i32_190
  let c128_i32_191 : BitVec 32 := 128#32
  let v440 : BitVec 32 := Scalar.muli v439 c128_i32_191
  v440
def k0_mult27 (k0_t2 : Fin k0_t2_loop.trips) : BitVec 32 :=
  let c2_i32_189 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v438 : BitVec 32 := Scalar.muli c2_i32_189 v331
  let c1_i32_190 : BitVec 32 := 1#32
  let v439 : BitVec 32 := Scalar.addi v438 c1_i32_190
  let c8_i32_202 : BitVec 32 := 8#32
  let v482 : BitVec 32 := Scalar.muli v439 c8_i32_202
  v482
def k0_mult28 (k0_t2 : Fin k0_t2_loop.trips) : BitVec 32 :=
  let c2_i32_189 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v438 : BitVec 32 := Scalar.muli c2_i32_189 v331
  let c1_i32_190 : BitVec 32 := 1#32
  let v439 : BitVec 32 := Scalar.addi v438 c1_i32_190
  let c8_i32_209 : BitVec 32 := 8#32
  let v498 : BitVec 32 := Scalar.muli v439 c8_i32_209
  v498
def k0_mult29 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let c128_i32_214 : BitVec 32 := 128#32
  let v506 : BitVec 32 := Scalar.muli v505 c128_i32_214
  v506
def k0_mult30 (k0_t2 : Fin k0_t2_loop.trips) : BitVec 32 :=
  let c2_i32_227 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v546 : BitVec 32 := Scalar.muli c2_i32_227 v505
  let c0_i32_228 : BitVec 32 := 0#32
  let v547 : BitVec 32 := Scalar.addi v546 c0_i32_228
  let c128_i32_229 : BitVec 32 := 128#32
  let v548 : BitVec 32 := Scalar.muli v547 c128_i32_229
  v548
def k0_mult31 (k0_t2 : Fin k0_t2_loop.trips) : BitVec 32 :=
  let c2_i32_227 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v546 : BitVec 32 := Scalar.muli c2_i32_227 v505
  let c0_i32_228 : BitVec 32 := 0#32
  let v547 : BitVec 32 := Scalar.addi v546 c0_i32_228
  let c8_i32_240 : BitVec 32 := 8#32
  let v590 : BitVec 32 := Scalar.muli v547 c8_i32_240
  v590
def k0_mult32 (k0_t2 : Fin k0_t2_loop.trips) : BitVec 32 :=
  let c2_i32_227 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v546 : BitVec 32 := Scalar.muli c2_i32_227 v505
  let c0_i32_228 : BitVec 32 := 0#32
  let v547 : BitVec 32 := Scalar.addi v546 c0_i32_228
  let c8_i32_247 : BitVec 32 := 8#32
  let v606 : BitVec 32 := Scalar.muli v547 c8_i32_247
  v606
def k0_mult33 (k0_t2 : Fin k0_t2_loop.trips) : BitVec 32 :=
  let c2_i32_250 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v612 : BitVec 32 := Scalar.muli c2_i32_250 v505
  let c1_i32_251 : BitVec 32 := 1#32
  let v613 : BitVec 32 := Scalar.addi v612 c1_i32_251
  let c128_i32_252 : BitVec 32 := 128#32
  let v614 : BitVec 32 := Scalar.muli v613 c128_i32_252
  v614
def k0_mult34 (k0_t2 : Fin k0_t2_loop.trips) : BitVec 32 :=
  let c2_i32_250 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v612 : BitVec 32 := Scalar.muli c2_i32_250 v505
  let c1_i32_251 : BitVec 32 := 1#32
  let v613 : BitVec 32 := Scalar.addi v612 c1_i32_251
  let c8_i32_263 : BitVec 32 := 8#32
  let v656 : BitVec 32 := Scalar.muli v613 c8_i32_263
  v656
def k0_mult35 (k0_t2 : Fin k0_t2_loop.trips) : BitVec 32 :=
  let c2_i32_250 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v612 : BitVec 32 := Scalar.muli c2_i32_250 v505
  let c1_i32_251 : BitVec 32 := 1#32
  let v613 : BitVec 32 := Scalar.addi v612 c1_i32_251
  let c8_i32_270 : BitVec 32 := 8#32
  let v672 : BitVec 32 := Scalar.muli v613 c8_i32_270
  v672
def k0_mult36 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let c128_i32_274 : BitVec 32 := 128#32
  let v680 : BitVec 32 := Scalar.muli v679 c128_i32_274
  v680
def k0_mult37 (k0_t2 : Fin k0_t2_loop.trips) : BitVec 32 :=
  let c2_i32_287 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v720 : BitVec 32 := Scalar.muli c2_i32_287 v679
  let c0_i32_288 : BitVec 32 := 0#32
  let v721 : BitVec 32 := Scalar.addi v720 c0_i32_288
  let c128_i32_289 : BitVec 32 := 128#32
  let v722 : BitVec 32 := Scalar.muli v721 c128_i32_289
  v722
def k0_mult38 (k0_t2 : Fin k0_t2_loop.trips) : BitVec 32 :=
  let c2_i32_287 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v720 : BitVec 32 := Scalar.muli c2_i32_287 v679
  let c0_i32_288 : BitVec 32 := 0#32
  let v721 : BitVec 32 := Scalar.addi v720 c0_i32_288
  let c8_i32_300 : BitVec 32 := 8#32
  let v764 : BitVec 32 := Scalar.muli v721 c8_i32_300
  v764
def k0_mult39 (k0_t2 : Fin k0_t2_loop.trips) : BitVec 32 :=
  let c2_i32_287 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v720 : BitVec 32 := Scalar.muli c2_i32_287 v679
  let c0_i32_288 : BitVec 32 := 0#32
  let v721 : BitVec 32 := Scalar.addi v720 c0_i32_288
  let c8_i32_307 : BitVec 32 := 8#32
  let v780 : BitVec 32 := Scalar.muli v721 c8_i32_307
  v780
def k0_mult40 (k0_t2 : Fin k0_t2_loop.trips) : BitVec 32 :=
  let c2_i32_310 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v786 : BitVec 32 := Scalar.muli c2_i32_310 v679
  let c1_i32_311 : BitVec 32 := 1#32
  let v787 : BitVec 32 := Scalar.addi v786 c1_i32_311
  let c128_i32_312 : BitVec 32 := 128#32
  let v788 : BitVec 32 := Scalar.muli v787 c128_i32_312
  v788
def k0_mult41 (k0_t2 : Fin k0_t2_loop.trips) : BitVec 32 :=
  let c2_i32_310 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v786 : BitVec 32 := Scalar.muli c2_i32_310 v679
  let c1_i32_311 : BitVec 32 := 1#32
  let v787 : BitVec 32 := Scalar.addi v786 c1_i32_311
  let c8_i32_323 : BitVec 32 := 8#32
  let v830 : BitVec 32 := Scalar.muli v787 c8_i32_323
  v830
def k0_mult42 (k0_t2 : Fin k0_t2_loop.trips) : BitVec 32 :=
  let c2_i32_310 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v786 : BitVec 32 := Scalar.muli c2_i32_310 v679
  let c1_i32_311 : BitVec 32 := 1#32
  let v787 : BitVec 32 := Scalar.addi v786 c1_i32_311
  let c8_i32_330 : BitVec 32 := 8#32
  let v846 : BitVec 32 := Scalar.muli v787 c8_i32_330
  v846
def k0_mult43 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let c128_i32_334 : BitVec 32 := 128#32
  let v854 : BitVec 32 := Scalar.muli v853 c128_i32_334
  v854
def k0_mult44 (k0_t2 : Fin k0_t2_loop.trips) : BitVec 32 :=
  let c2_i32_347 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v894 : BitVec 32 := Scalar.muli c2_i32_347 v853
  let c0_i32_348 : BitVec 32 := 0#32
  let v895 : BitVec 32 := Scalar.addi v894 c0_i32_348
  let c128_i32_349 : BitVec 32 := 128#32
  let v896 : BitVec 32 := Scalar.muli v895 c128_i32_349
  v896
def k0_mult45 (k0_t2 : Fin k0_t2_loop.trips) : BitVec 32 :=
  let c2_i32_347 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v894 : BitVec 32 := Scalar.muli c2_i32_347 v853
  let c0_i32_348 : BitVec 32 := 0#32
  let v895 : BitVec 32 := Scalar.addi v894 c0_i32_348
  let c8_i32_360 : BitVec 32 := 8#32
  let v938 : BitVec 32 := Scalar.muli v895 c8_i32_360
  v938
def k0_mult46 (k0_t2 : Fin k0_t2_loop.trips) : BitVec 32 :=
  let c2_i32_347 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v894 : BitVec 32 := Scalar.muli c2_i32_347 v853
  let c0_i32_348 : BitVec 32 := 0#32
  let v895 : BitVec 32 := Scalar.addi v894 c0_i32_348
  let c8_i32_367 : BitVec 32 := 8#32
  let v954 : BitVec 32 := Scalar.muli v895 c8_i32_367
  v954
def k0_mult47 (k0_t2 : Fin k0_t2_loop.trips) : BitVec 32 :=
  let c2_i32_370 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v960 : BitVec 32 := Scalar.muli c2_i32_370 v853
  let c1_i32_371 : BitVec 32 := 1#32
  let v961 : BitVec 32 := Scalar.addi v960 c1_i32_371
  let c128_i32_372 : BitVec 32 := 128#32
  let v962 : BitVec 32 := Scalar.muli v961 c128_i32_372
  v962
def k0_mult48 (k0_t2 : Fin k0_t2_loop.trips) : BitVec 32 :=
  let c2_i32_370 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v960 : BitVec 32 := Scalar.muli c2_i32_370 v853
  let c1_i32_371 : BitVec 32 := 1#32
  let v961 : BitVec 32 := Scalar.addi v960 c1_i32_371
  let c8_i32_383 : BitVec 32 := 8#32
  let v1004 : BitVec 32 := Scalar.muli v961 c8_i32_383
  v1004
def k0_mult49 (k0_t2 : Fin k0_t2_loop.trips) : BitVec 32 :=
  let c2_i32_370 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v960 : BitVec 32 := Scalar.muli c2_i32_370 v853
  let c1_i32_371 : BitVec 32 := 1#32
  let v961 : BitVec 32 := Scalar.addi v960 c1_i32_371
  let c8_i32_390 : BitVec 32 := 8#32
  let v1020 : BitVec 32 := Scalar.muli v961 c8_i32_390
  v1020
def k0_mult50 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let c128_i32_394 : BitVec 32 := 128#32
  let v1028 : BitVec 32 := Scalar.muli v1027 c128_i32_394
  v1028
def k0_mult51 (k0_t2 : Fin k0_t2_loop.trips) : BitVec 32 :=
  let c2_i32_407 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1068 : BitVec 32 := Scalar.muli c2_i32_407 v1027
  let c0_i32_408 : BitVec 32 := 0#32
  let v1069 : BitVec 32 := Scalar.addi v1068 c0_i32_408
  let c128_i32_409 : BitVec 32 := 128#32
  let v1070 : BitVec 32 := Scalar.muli v1069 c128_i32_409
  v1070
def k0_mult52 (k0_t2 : Fin k0_t2_loop.trips) : BitVec 32 :=
  let c2_i32_407 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1068 : BitVec 32 := Scalar.muli c2_i32_407 v1027
  let c0_i32_408 : BitVec 32 := 0#32
  let v1069 : BitVec 32 := Scalar.addi v1068 c0_i32_408
  let c8_i32_420 : BitVec 32 := 8#32
  let v1112 : BitVec 32 := Scalar.muli v1069 c8_i32_420
  v1112
def k0_mult53 (k0_t2 : Fin k0_t2_loop.trips) : BitVec 32 :=
  let c2_i32_407 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1068 : BitVec 32 := Scalar.muli c2_i32_407 v1027
  let c0_i32_408 : BitVec 32 := 0#32
  let v1069 : BitVec 32 := Scalar.addi v1068 c0_i32_408
  let c8_i32_427 : BitVec 32 := 8#32
  let v1128 : BitVec 32 := Scalar.muli v1069 c8_i32_427
  v1128
def k0_mult54 (k0_t2 : Fin k0_t2_loop.trips) : BitVec 32 :=
  let c2_i32_430 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1134 : BitVec 32 := Scalar.muli c2_i32_430 v1027
  let c1_i32_431 : BitVec 32 := 1#32
  let v1135 : BitVec 32 := Scalar.addi v1134 c1_i32_431
  let c128_i32_432 : BitVec 32 := 128#32
  let v1136 : BitVec 32 := Scalar.muli v1135 c128_i32_432
  v1136
def k0_mult55 (k0_t2 : Fin k0_t2_loop.trips) : BitVec 32 :=
  let c2_i32_430 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1134 : BitVec 32 := Scalar.muli c2_i32_430 v1027
  let c1_i32_431 : BitVec 32 := 1#32
  let v1135 : BitVec 32 := Scalar.addi v1134 c1_i32_431
  let c8_i32_443 : BitVec 32 := 8#32
  let v1178 : BitVec 32 := Scalar.muli v1135 c8_i32_443
  v1178
def k0_mult56 (k0_t2 : Fin k0_t2_loop.trips) : BitVec 32 :=
  let c2_i32_430 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1134 : BitVec 32 := Scalar.muli c2_i32_430 v1027
  let c1_i32_431 : BitVec 32 := 1#32
  let v1135 : BitVec 32 := Scalar.addi v1134 c1_i32_431
  let c8_i32_450 : BitVec 32 := 8#32
  let v1194 : BitVec 32 := Scalar.muli v1135 c8_i32_450
  v1194
def k0_mult57 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let c128_i32_454 : BitVec 32 := 128#32
  let v1202 : BitVec 32 := Scalar.muli v1201 c128_i32_454
  v1202
def k0_mult58 (k0_t2 : Fin k0_t2_loop.trips) : BitVec 32 :=
  let c2_i32_467 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1242 : BitVec 32 := Scalar.muli c2_i32_467 v1201
  let c0_i32_468 : BitVec 32 := 0#32
  let v1243 : BitVec 32 := Scalar.addi v1242 c0_i32_468
  let c128_i32_469 : BitVec 32 := 128#32
  let v1244 : BitVec 32 := Scalar.muli v1243 c128_i32_469
  v1244
def k0_mult59 (k0_t2 : Fin k0_t2_loop.trips) : BitVec 32 :=
  let c2_i32_467 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1242 : BitVec 32 := Scalar.muli c2_i32_467 v1201
  let c0_i32_468 : BitVec 32 := 0#32
  let v1243 : BitVec 32 := Scalar.addi v1242 c0_i32_468
  let c8_i32_480 : BitVec 32 := 8#32
  let v1286 : BitVec 32 := Scalar.muli v1243 c8_i32_480
  v1286
def k0_mult60 (k0_t2 : Fin k0_t2_loop.trips) : BitVec 32 :=
  let c2_i32_467 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1242 : BitVec 32 := Scalar.muli c2_i32_467 v1201
  let c0_i32_468 : BitVec 32 := 0#32
  let v1243 : BitVec 32 := Scalar.addi v1242 c0_i32_468
  let c8_i32_487 : BitVec 32 := 8#32
  let v1302 : BitVec 32 := Scalar.muli v1243 c8_i32_487
  v1302
def k0_mult61 (k0_t2 : Fin k0_t2_loop.trips) : BitVec 32 :=
  let c2_i32_490 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1308 : BitVec 32 := Scalar.muli c2_i32_490 v1201
  let c1_i32_491 : BitVec 32 := 1#32
  let v1309 : BitVec 32 := Scalar.addi v1308 c1_i32_491
  let c128_i32_492 : BitVec 32 := 128#32
  let v1310 : BitVec 32 := Scalar.muli v1309 c128_i32_492
  v1310
def k0_mult62 (k0_t2 : Fin k0_t2_loop.trips) : BitVec 32 :=
  let c2_i32_490 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1308 : BitVec 32 := Scalar.muli c2_i32_490 v1201
  let c1_i32_491 : BitVec 32 := 1#32
  let v1309 : BitVec 32 := Scalar.addi v1308 c1_i32_491
  let c8_i32_503 : BitVec 32 := 8#32
  let v1352 : BitVec 32 := Scalar.muli v1309 c8_i32_503
  v1352
def k0_mult63 (k0_t2 : Fin k0_t2_loop.trips) : BitVec 32 :=
  let c2_i32_490 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1308 : BitVec 32 := Scalar.muli c2_i32_490 v1201
  let c1_i32_491 : BitVec 32 := 1#32
  let v1309 : BitVec 32 := Scalar.addi v1308 c1_i32_491
  let c8_i32_510 : BitVec 32 := 8#32
  let v1368 : BitVec 32 := Scalar.muli v1309 c8_i32_510
  v1368
@[reducible] def k0_t3_loop : Scf.Loop 32 :=
  let c0_i32_89 : BitVec 32 := 0#32
  let c8_i32_90 : BitVec 32 := 8#32
  let v154 : BitVec 32 := Scalar.addi c0_i32_89 c8_i32_90
  let c1_i32_91 : BitVec 32 := 1#32
  ⟨c0_i32_89, v154, c1_i32_91⟩
def k0_mult64 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let c128_i32 : BitVec 32 := 128#32
  let v157 : BitVec 32 := Scalar.muli v156 c128_i32
  v157
def k0_off12 (k0_t3 : Fin k0_t3_loop.trips) (c0_i32_93 : BitVec 32) (c0_i32_94 : BitVec 32) : Fin 3 → Nat :=
  let c0_95 : Index := 0#32
  let c2_i32 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let v159 : BitVec 32 := Scalar.muli c2_i32 v156
  let v160 : BitVec 32 := Scalar.addi v159 c0_i32_94
  let v161 : Index := Scalar.indexCast v160
  let c0_96 : Index := 0#32
  ![0, v161.toNat, 0]
def k0_mult65 (k0_t3 : Fin k0_t3_loop.trips) : BitVec 32 :=
  let c2_i32 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let v159 : BitVec 32 := Scalar.muli c2_i32 v156
  let c0_i32_94 : BitVec 32 := 0#32
  let v160 : BitVec 32 := Scalar.addi v159 c0_i32_94
  let c128_i32_97 : BitVec 32 := 128#32
  let v166 : BitVec 32 := Scalar.muli v160 c128_i32_97
  v166
def k0_off13 (k0_t3 : Fin k0_t3_loop.trips) (c0_i32_93 : BitVec 32) (c0_i32_94 : BitVec 32) : Fin 3 → Nat :=
  let c0_98 : Index := 0#32
  let c2_i32 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let v159 : BitVec 32 := Scalar.muli c2_i32 v156
  let v160 : BitVec 32 := Scalar.addi v159 c0_i32_94
  let c128_i32_97 : BitVec 32 := 128#32
  let v166 : BitVec 32 := Scalar.muli v160 c128_i32_97
  let v167 : BitVec 32 := v166
  let v168 : Index := Scalar.indexCast v167
  let c0_99 : Index := 0#32
  ![0, v168.toNat, 0]
def k0_mult66 (k0_t3 : Fin k0_t3_loop.trips) : BitVec 32 :=
  let c2_i32_103 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let v186 : BitVec 32 := Scalar.muli c2_i32_103 v156
  let c1_i32_104 : BitVec 32 := 1#32
  let v187 : BitVec 32 := Scalar.addi v186 c1_i32_104
  let c128_i32_107 : BitVec 32 := 128#32
  let v193 : BitVec 32 := Scalar.muli v187 c128_i32_107
  v193
def k0_off14 (k0_t3 : Fin k0_t3_loop.trips) (c0_i32_93 : BitVec 32) : Fin 3 → Nat :=
  let c0_115 : Index := 0#32
  let c0_116 : Index := 0#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let c128_i32 : BitVec 32 := 128#32
  let v157 : BitVec 32 := Scalar.muli v156 c128_i32
  let v158 : BitVec 32 := v157
  let v230 : Index := Scalar.indexCast v158
  ![0, 0, v230.toNat]
def k0_off15 (k0_t3 : Fin k0_t3_loop.trips) (c0_i32_93 : BitVec 32) (c0_i32_118 : BitVec 32) : Fin 3 → Nat :=
  let c1_119 : Index := 1#32
  let c2_i32_117 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let v234 : BitVec 32 := Scalar.muli c2_i32_117 v156
  let v235 : BitVec 32 := Scalar.addi v234 c0_i32_118
  let v236 : Index := Scalar.indexCast v235
  let c0_120 : Index := 0#32
  ![1, v236.toNat, 0]
def k0_mult67 (k0_t3 : Fin k0_t3_loop.trips) : BitVec 32 :=
  let c2_i32_117 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let v234 : BitVec 32 := Scalar.muli c2_i32_117 v156
  let c0_i32_118 : BitVec 32 := 0#32
  let v235 : BitVec 32 := Scalar.addi v234 c0_i32_118
  let c128_i32_121 : BitVec 32 := 128#32
  let v241 : BitVec 32 := Scalar.muli v235 c128_i32_121
  v241
def k0_off16 (k0_t3 : Fin k0_t3_loop.trips) (c0_i32_93 : BitVec 32) (c0_i32_118 : BitVec 32) : Fin 3 → Nat :=
  let c1_122 : Index := 1#32
  let c2_i32_117 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let v234 : BitVec 32 := Scalar.muli c2_i32_117 v156
  let v235 : BitVec 32 := Scalar.addi v234 c0_i32_118
  let c128_i32_121 : BitVec 32 := 128#32
  let v241 : BitVec 32 := Scalar.muli v235 c128_i32_121
  let v242 : BitVec 32 := v241
  let v243 : Index := Scalar.indexCast v242
  let c0_123 : Index := 0#32
  ![1, v243.toNat, 0]
def k0_mult68 (k0_t3 : Fin k0_t3_loop.trips) : BitVec 32 :=
  let c2_i32_128 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let v261 : BitVec 32 := Scalar.muli c2_i32_128 v156
  let c1_i32_129 : BitVec 32 := 1#32
  let v262 : BitVec 32 := Scalar.addi v261 c1_i32_129
  let c128_i32_132 : BitVec 32 := 128#32
  let v268 : BitVec 32 := Scalar.muli v262 c128_i32_132
  v268
def k0_off17 (k0_t3 : Fin k0_t3_loop.trips) (c0_i32_93 : BitVec 32) : Fin 3 → Nat :=
  let c0_142 : Index := 0#32
  let c128_143 : Index := 128#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let c128_i32 : BitVec 32 := 128#32
  let v157 : BitVec 32 := Scalar.muli v156 c128_i32
  let v158 : BitVec 32 := v157
  let v305 : Index := Scalar.indexCast v158
  ![0, 128, v305.toNat]
def k0_mult69 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let c128_i32_146 : BitVec 32 := 128#32
  let v311 : BitVec 32 := Scalar.muli v310 c128_i32_146
  v311
def k0_mult70 (k0_t3 : Fin k0_t3_loop.trips) : BitVec 32 :=
  let c2_i32_147 : BitVec 32 := 2#32
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let v313 : BitVec 32 := Scalar.muli c2_i32_147 v310
  let c0_i32_148 : BitVec 32 := 0#32
  let v314 : BitVec 32 := Scalar.addi v313 c0_i32_148
  let c128_i32_151 : BitVec 32 := 128#32
  let v320 : BitVec 32 := Scalar.muli v314 c128_i32_151
  v320
def k0_mult71 (k0_t3 : Fin k0_t3_loop.trips) : BitVec 32 :=
  let c2_i32_158 : BitVec 32 := 2#32
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let v340 : BitVec 32 := Scalar.muli c2_i32_158 v310
  let c1_i32_159 : BitVec 32 := 1#32
  let v341 : BitVec 32 := Scalar.addi v340 c1_i32_159
  let c128_i32_162 : BitVec 32 := 128#32
  let v347 : BitVec 32 := Scalar.muli v341 c128_i32_162
  v347
def k0_mult72 (k0_t3 : Fin k0_t3_loop.trips) : BitVec 32 :=
  let c2_i32_174 : BitVec 32 := 2#32
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let v388 : BitVec 32 := Scalar.muli c2_i32_174 v310
  let c0_i32_175 : BitVec 32 := 0#32
  let v389 : BitVec 32 := Scalar.addi v388 c0_i32_175
  let c128_i32_178 : BitVec 32 := 128#32
  let v395 : BitVec 32 := Scalar.muli v389 c128_i32_178
  v395
def k0_mult73 (k0_t3 : Fin k0_t3_loop.trips) : BitVec 32 :=
  let c2_i32_185 : BitVec 32 := 2#32
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let v415 : BitVec 32 := Scalar.muli c2_i32_185 v310
  let c1_i32_186 : BitVec 32 := 1#32
  let v416 : BitVec 32 := Scalar.addi v415 c1_i32_186
  let c128_i32_189 : BitVec 32 := 128#32
  let v422 : BitVec 32 := Scalar.muli v416 c128_i32_189
  v422
def k0_mult74 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let c128_i32_203 : BitVec 32 := 128#32
  let v465 : BitVec 32 := Scalar.muli v464 c128_i32_203
  v465
def k0_mult75 (k0_t3 : Fin k0_t3_loop.trips) : BitVec 32 :=
  let c2_i32_204 : BitVec 32 := 2#32
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let v467 : BitVec 32 := Scalar.muli c2_i32_204 v464
  let c0_i32_205 : BitVec 32 := 0#32
  let v468 : BitVec 32 := Scalar.addi v467 c0_i32_205
  let c128_i32_208 : BitVec 32 := 128#32
  let v474 : BitVec 32 := Scalar.muli v468 c128_i32_208
  v474
def k0_mult76 (k0_t3 : Fin k0_t3_loop.trips) : BitVec 32 :=
  let c2_i32_215 : BitVec 32 := 2#32
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let v494 : BitVec 32 := Scalar.muli c2_i32_215 v464
  let c1_i32_216 : BitVec 32 := 1#32
  let v495 : BitVec 32 := Scalar.addi v494 c1_i32_216
  let c128_i32_219 : BitVec 32 := 128#32
  let v501 : BitVec 32 := Scalar.muli v495 c128_i32_219
  v501
def k0_mult77 (k0_t3 : Fin k0_t3_loop.trips) : BitVec 32 :=
  let c2_i32_231 : BitVec 32 := 2#32
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let v542 : BitVec 32 := Scalar.muli c2_i32_231 v464
  let c0_i32_232 : BitVec 32 := 0#32
  let v543 : BitVec 32 := Scalar.addi v542 c0_i32_232
  let c128_i32_235 : BitVec 32 := 128#32
  let v549 : BitVec 32 := Scalar.muli v543 c128_i32_235
  v549
def k0_mult78 (k0_t3 : Fin k0_t3_loop.trips) : BitVec 32 :=
  let c2_i32_242 : BitVec 32 := 2#32
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let v569 : BitVec 32 := Scalar.muli c2_i32_242 v464
  let c1_i32_243 : BitVec 32 := 1#32
  let v570 : BitVec 32 := Scalar.addi v569 c1_i32_243
  let c128_i32_246 : BitVec 32 := 128#32
  let v576 : BitVec 32 := Scalar.muli v570 c128_i32_246
  v576
def k0_mult79 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let c128_i32_259 : BitVec 32 := 128#32
  let v619 : BitVec 32 := Scalar.muli v618 c128_i32_259
  v619
def k0_mult80 (k0_t3 : Fin k0_t3_loop.trips) : BitVec 32 :=
  let c2_i32_260 : BitVec 32 := 2#32
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let v621 : BitVec 32 := Scalar.muli c2_i32_260 v618
  let c0_i32_261 : BitVec 32 := 0#32
  let v622 : BitVec 32 := Scalar.addi v621 c0_i32_261
  let c128_i32_264 : BitVec 32 := 128#32
  let v628 : BitVec 32 := Scalar.muli v622 c128_i32_264
  v628
def k0_mult81 (k0_t3 : Fin k0_t3_loop.trips) : BitVec 32 :=
  let c2_i32_271 : BitVec 32 := 2#32
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let v648 : BitVec 32 := Scalar.muli c2_i32_271 v618
  let c1_i32_272 : BitVec 32 := 1#32
  let v649 : BitVec 32 := Scalar.addi v648 c1_i32_272
  let c128_i32_275 : BitVec 32 := 128#32
  let v655 : BitVec 32 := Scalar.muli v649 c128_i32_275
  v655
def k0_mult82 (k0_t3 : Fin k0_t3_loop.trips) : BitVec 32 :=
  let c2_i32_287 : BitVec 32 := 2#32
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let v696 : BitVec 32 := Scalar.muli c2_i32_287 v618
  let c0_i32_288 : BitVec 32 := 0#32
  let v697 : BitVec 32 := Scalar.addi v696 c0_i32_288
  let c128_i32_291 : BitVec 32 := 128#32
  let v703 : BitVec 32 := Scalar.muli v697 c128_i32_291
  v703
def k0_mult83 (k0_t3 : Fin k0_t3_loop.trips) : BitVec 32 :=
  let c2_i32_298 : BitVec 32 := 2#32
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let v723 : BitVec 32 := Scalar.muli c2_i32_298 v618
  let c1_i32_299 : BitVec 32 := 1#32
  let v724 : BitVec 32 := Scalar.addi v723 c1_i32_299
  let c128_i32_302 : BitVec 32 := 128#32
  let v730 : BitVec 32 := Scalar.muli v724 c128_i32_302
  v730
def k0_mult84 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let c128_i32_316 : BitVec 32 := 128#32
  let v773 : BitVec 32 := Scalar.muli v772 c128_i32_316
  v773
def k0_mult85 (k0_t3 : Fin k0_t3_loop.trips) : BitVec 32 :=
  let c2_i32_317 : BitVec 32 := 2#32
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let v775 : BitVec 32 := Scalar.muli c2_i32_317 v772
  let c0_i32_318 : BitVec 32 := 0#32
  let v776 : BitVec 32 := Scalar.addi v775 c0_i32_318
  let c128_i32_321 : BitVec 32 := 128#32
  let v782 : BitVec 32 := Scalar.muli v776 c128_i32_321
  v782
def k0_mult86 (k0_t3 : Fin k0_t3_loop.trips) : BitVec 32 :=
  let c2_i32_328 : BitVec 32 := 2#32
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let v802 : BitVec 32 := Scalar.muli c2_i32_328 v772
  let c1_i32_329 : BitVec 32 := 1#32
  let v803 : BitVec 32 := Scalar.addi v802 c1_i32_329
  let c128_i32_332 : BitVec 32 := 128#32
  let v809 : BitVec 32 := Scalar.muli v803 c128_i32_332
  v809
def k0_mult87 (k0_t3 : Fin k0_t3_loop.trips) : BitVec 32 :=
  let c2_i32_344 : BitVec 32 := 2#32
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let v850 : BitVec 32 := Scalar.muli c2_i32_344 v772
  let c0_i32_345 : BitVec 32 := 0#32
  let v851 : BitVec 32 := Scalar.addi v850 c0_i32_345
  let c128_i32_348 : BitVec 32 := 128#32
  let v857 : BitVec 32 := Scalar.muli v851 c128_i32_348
  v857
def k0_mult88 (k0_t3 : Fin k0_t3_loop.trips) : BitVec 32 :=
  let c2_i32_355 : BitVec 32 := 2#32
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let v877 : BitVec 32 := Scalar.muli c2_i32_355 v772
  let c1_i32_356 : BitVec 32 := 1#32
  let v878 : BitVec 32 := Scalar.addi v877 c1_i32_356
  let c128_i32_359 : BitVec 32 := 128#32
  let v884 : BitVec 32 := Scalar.muli v878 c128_i32_359
  v884
def k0_mult89 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let c128_i32_372 : BitVec 32 := 128#32
  let v927 : BitVec 32 := Scalar.muli v926 c128_i32_372
  v927
def k0_mult90 (k0_t3 : Fin k0_t3_loop.trips) : BitVec 32 :=
  let c2_i32_373 : BitVec 32 := 2#32
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let v929 : BitVec 32 := Scalar.muli c2_i32_373 v926
  let c0_i32_374 : BitVec 32 := 0#32
  let v930 : BitVec 32 := Scalar.addi v929 c0_i32_374
  let c128_i32_377 : BitVec 32 := 128#32
  let v936 : BitVec 32 := Scalar.muli v930 c128_i32_377
  v936
def k0_mult91 (k0_t3 : Fin k0_t3_loop.trips) : BitVec 32 :=
  let c2_i32_384 : BitVec 32 := 2#32
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let v956 : BitVec 32 := Scalar.muli c2_i32_384 v926
  let c1_i32_385 : BitVec 32 := 1#32
  let v957 : BitVec 32 := Scalar.addi v956 c1_i32_385
  let c128_i32_388 : BitVec 32 := 128#32
  let v963 : BitVec 32 := Scalar.muli v957 c128_i32_388
  v963
def k0_mult92 (k0_t3 : Fin k0_t3_loop.trips) : BitVec 32 :=
  let c2_i32_400 : BitVec 32 := 2#32
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let v1004 : BitVec 32 := Scalar.muli c2_i32_400 v926
  let c0_i32_401 : BitVec 32 := 0#32
  let v1005 : BitVec 32 := Scalar.addi v1004 c0_i32_401
  let c128_i32_404 : BitVec 32 := 128#32
  let v1011 : BitVec 32 := Scalar.muli v1005 c128_i32_404
  v1011
def k0_mult93 (k0_t3 : Fin k0_t3_loop.trips) : BitVec 32 :=
  let c2_i32_411 : BitVec 32 := 2#32
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let v1031 : BitVec 32 := Scalar.muli c2_i32_411 v926
  let c1_i32_412 : BitVec 32 := 1#32
  let v1032 : BitVec 32 := Scalar.addi v1031 c1_i32_412
  let c128_i32_415 : BitVec 32 := 128#32
  let v1038 : BitVec 32 := Scalar.muli v1032 c128_i32_415
  v1038
def k0_mult94 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let c128_i32_428 : BitVec 32 := 128#32
  let v1081 : BitVec 32 := Scalar.muli v1080 c128_i32_428
  v1081
def k0_mult95 (k0_t3 : Fin k0_t3_loop.trips) : BitVec 32 :=
  let c2_i32_429 : BitVec 32 := 2#32
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let v1083 : BitVec 32 := Scalar.muli c2_i32_429 v1080
  let c0_i32_430 : BitVec 32 := 0#32
  let v1084 : BitVec 32 := Scalar.addi v1083 c0_i32_430
  let c128_i32_433 : BitVec 32 := 128#32
  let v1090 : BitVec 32 := Scalar.muli v1084 c128_i32_433
  v1090
def k0_mult96 (k0_t3 : Fin k0_t3_loop.trips) : BitVec 32 :=
  let c2_i32_440 : BitVec 32 := 2#32
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let v1110 : BitVec 32 := Scalar.muli c2_i32_440 v1080
  let c1_i32_441 : BitVec 32 := 1#32
  let v1111 : BitVec 32 := Scalar.addi v1110 c1_i32_441
  let c128_i32_444 : BitVec 32 := 128#32
  let v1117 : BitVec 32 := Scalar.muli v1111 c128_i32_444
  v1117
def k0_mult97 (k0_t3 : Fin k0_t3_loop.trips) : BitVec 32 :=
  let c2_i32_456 : BitVec 32 := 2#32
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let v1158 : BitVec 32 := Scalar.muli c2_i32_456 v1080
  let c0_i32_457 : BitVec 32 := 0#32
  let v1159 : BitVec 32 := Scalar.addi v1158 c0_i32_457
  let c128_i32_460 : BitVec 32 := 128#32
  let v1165 : BitVec 32 := Scalar.muli v1159 c128_i32_460
  v1165
def k0_mult98 (k0_t3 : Fin k0_t3_loop.trips) : BitVec 32 :=
  let c2_i32_467 : BitVec 32 := 2#32
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let v1185 : BitVec 32 := Scalar.muli c2_i32_467 v1080
  let c1_i32_468 : BitVec 32 := 1#32
  let v1186 : BitVec 32 := Scalar.addi v1185 c1_i32_468
  let c128_i32_471 : BitVec 32 := 128#32
  let v1192 : BitVec 32 := Scalar.muli v1186 c128_i32_471
  v1192
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x112 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x14336 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x24 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x7168 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x112 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S12x256x7168 : Shape := ⟨3, ![12, 256, 7168]⟩
abbrev S12x256x112 : Shape := ⟨3, ![12, 256, 112]⟩
abbrev S12x24x14336 : Shape := ⟨3, ![12, 24, 14336]⟩
abbrev S12x256x24 : Shape := ⟨3, ![12, 256, 24]⟩
abbrev S12x256 : Shape := ⟨2, ![12, 256]⟩
abbrev S12x1x256 : Shape := ⟨3, ![12, 1, 256]⟩
abbrev S1x256x7168 : Shape := ⟨3, ![1, 256, 7168]⟩
abbrev S1x256x112 : Shape := ⟨3, ![1, 256, 112]⟩
abbrev S1x24x14336 : Shape := ⟨3, ![1, 24, 14336]⟩
abbrev S1x256x24 : Shape := ⟨3, ![1, 256, 24]⟩
abbrev S1x1x256 : Shape := ⟨3, ![1, 1, 256]⟩
abbrev S14336x128 : Shape := ⟨2, ![14336, 128]⟩
abbrev S256x256 : Shape := ⟨2, ![256, 256]⟩
abbrev S2x112x128 : Shape := ⟨3, ![2, 112, 128]⟩
abbrev S2x112x2x128 : Shape := ⟨4, ![2, 112, 2, 128]⟩
abbrev S2x112x1x128 : Shape := ⟨4, ![2, 112, 1, 128]⟩
abbrev S2x14336x128 : Shape := ⟨3, ![2, 14336, 128]⟩
abbrev S2x896x128 : Shape := ⟨3, ![2, 896, 128]⟩
abbrev S1x24x128 : Shape := ⟨3, ![1, 24, 128]⟩
abbrev S24x128 : Shape := ⟨2, ![24, 128]⟩
abbrev S72x128 : Shape := ⟨2, ![72, 128]⟩
abbrev S56x128 : Shape := ⟨2, ![56, 128]⟩
abbrev S128x128 : Shape := ⟨2, ![128, 128]⟩
abbrev S256x24 : Shape := ⟨2, ![256, 24]⟩
abbrev S256x104 : Shape := ⟨2, ![256, 104]⟩
abbrev S256x128 : Shape := ⟨2, ![256, 128]⟩
abbrev S128x256 : Shape := ⟨2, ![128, 256]⟩
abbrev S24x256 : Shape := ⟨2, ![24, 256]⟩
abbrev S72x256 : Shape := ⟨2, ![72, 256]⟩
abbrev S56x256 : Shape := ⟨2, ![56, 256]⟩
abbrev S256x112 : Shape := ⟨2, ![256, 112]⟩
abbrev S256x16 : Shape := ⟨2, ![256, 16]⟩
abbrev S112x256 : Shape := ⟨2, ![112, 256]⟩
abbrev S112x128 : Shape := ⟨2, ![112, 128]⟩
abbrev S1x112x128 : Shape := ⟨3, ![1, 112, 128]⟩
abbrev S1x112x2x128 : Shape := ⟨4, ![1, 112, 2, 128]⟩
abbrev S1x112x1x128 : Shape := ⟨4, ![1, 112, 1, 128]⟩
abbrev S8x128 : Shape := ⟨2, ![8, 128]⟩
abbrev S1x128x128 : Shape := ⟨3, ![1, 128, 128]⟩
abbrev S128x1x128 : Shape := ⟨3, ![128, 1, 128]⟩
abbrev S128x2x128 : Shape := ⟨3, ![128, 2, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S16x128 : Shape := ⟨2, ![16, 128]⟩
abbrev S8x16x128 : Shape := ⟨3, ![8, 16, 128]⟩
abbrev S1x16x128 : Shape := ⟨3, ![1, 16, 128]⟩
abbrev S16x8x128 : Shape := ⟨3, ![16, 8, 128]⟩
abbrev S1x8x128 : Shape := ⟨3, ![1, 8, 128]⟩
abbrev S128 : Shape := ⟨1, ![128]⟩
abbrev S128x112 : Shape := ⟨2, ![128, 112]⟩

abbrev nBuf : Space → Nat
  | .hbm => 8
  | .vmem => 20
  | .smem => 0
  | _ => 0

abbrev bufTy : (tb : Table) → Fin (tcTables nBuf tb) → BufTy
  | .hbm, ⟨0, _⟩ => ⟨S12x256x7168, .i8⟩
  | .hbm, ⟨1, _⟩ => ⟨S12x256x112, .bf16⟩
  | .hbm, ⟨2, _⟩ => ⟨S12x24x14336, .bf16⟩
  | .hbm, ⟨3, _⟩ => ⟨S12x256x24, .bf16⟩
  | .hbm, ⟨4, _⟩ => ⟨S12x256, .f32⟩
  | .hbm, ⟨5, _⟩ => ⟨S12x1x256, .f32⟩
  | .hbm, ⟨6, _⟩ => ⟨S12x256x7168, .i8⟩
  | .hbm, ⟨7, _⟩ => ⟨S12x256x112, .bf16⟩
  | .local _ .vmem, ⟨0, _⟩ => ⟨S1x256x7168, .i8⟩
  | .local _ .vmem, ⟨1, _⟩ => ⟨S1x256x7168, .i8⟩
  | .local _ .vmem, ⟨2, _⟩ => ⟨S1x256x112, .bf16⟩
  | .local _ .vmem, ⟨3, _⟩ => ⟨S1x256x112, .bf16⟩
  | .local _ .vmem, ⟨4, _⟩ => ⟨S1x24x14336, .bf16⟩
  | .local _ .vmem, ⟨5, _⟩ => ⟨S1x24x14336, .bf16⟩
  | .local _ .vmem, ⟨6, _⟩ => ⟨S1x256x24, .bf16⟩
  | .local _ .vmem, ⟨7, _⟩ => ⟨S1x256x24, .bf16⟩
  | .local _ .vmem, ⟨8, _⟩ => ⟨S1x1x256, .f32⟩
  | .local _ .vmem, ⟨9, _⟩ => ⟨S1x1x256, .f32⟩
  | .local _ .vmem, ⟨10, _⟩ => ⟨S1x256x7168, .i8⟩
  | .local _ .vmem, ⟨11, _⟩ => ⟨S1x256x7168, .i8⟩
  | .local _ .vmem, ⟨12, _⟩ => ⟨S1x256x112, .bf16⟩
  | .local _ .vmem, ⟨13, _⟩ => ⟨S1x256x112, .bf16⟩
  | .local _ .vmem, ⟨14, _⟩ => ⟨S14336x128, .bf16⟩
  | .local _ .vmem, ⟨15, _⟩ => ⟨S256x256, .bf16⟩
  | .local _ .vmem, ⟨16, _⟩ => ⟨S2x112x2x128, .bf16⟩
  | .local _ .vmem, ⟨17, _⟩ => ⟨S2x14336x128, .f32⟩
  | .local _ .vmem, ⟨18, _⟩ => ⟨S2x896x128, .f32⟩
  | .local _ .vmem, ⟨19, _⟩ => ⟨S2x112x128, .f32⟩
  | _, _ => ⟨S12x256x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32 : BitVec 32 := 2#32
  let v155 : BitVec 32 := Scalar.muli arg14 c2_i32
  let c7_i32 : BitVec 32 := 7#32
  let v156 : BitVec 32 := Scalar.muli v155 c7_i32
  let c0_i32_93 : BitVec 32 := 0#32
  let v157 : BitVec 32 := Scalar.addi v156 c0_i32_93
  let c128_i32 : BitVec 32 := 128#32
  let v158 : BitVec 32 := Scalar.muli v157 c128_i32
  v158
def k0_off1 (k0_t1 : Fin k0_t1_loop.trips) (c0_i32_93 : BitVec 32) : Fin 3 → Nat :=
  let c0_94 : Index := 0#32
  let c0_95 : Index := 0#32
  let c0_i32 : BitVec 32 := 0#32
  let c1_i32 : BitVec 32 := 1#32
  let arg14 : BitVec 32 := Scf.iv c0_i32 c1_i32 k0_t1
  let c2_i32 : BitVec 32 := 2#32
  let v155 : BitVec 32 := Scalar.muli arg14 c2_i32
  let c7_i32 : BitVec 32 := 7#32
  let v156 : BitVec 32 := Scalar.muli v155 c7_i32
  let v157 : BitVec 32 := Scalar.addi v156 c0_i32_93
  let c128_i32 : BitVec 32 := 128#32
  let v158 : BitVec 32 := Scalar.muli v157 c128_i32
  let v159 : BitVec 32 := v158
  let v160 : Index := Scalar.indexCast v159
  ![0, 0, v160.toNat]
def k0_off2 (k0_t1 : Fin k0_t1_loop.trips) (c0_i32_93 : BitVec 32) : Fin 2 → Nat :=
  let c0_i32 : BitVec 32 := 0#32
  let c1_i32 : BitVec 32 := 1#32
  let arg14 : BitVec 32 := Scf.iv c0_i32 c1_i32 k0_t1
  let c2_i32 : BitVec 32 := 2#32
  let v155 : BitVec 32 := Scalar.muli arg14 c2_i32
  let c7_i32 : BitVec 32 := 7#32
  let v156 : BitVec 32 := Scalar.muli v155 c7_i32
  let v157 : BitVec 32 := Scalar.addi v156 c0_i32_93
  let c128_i32 : BitVec 32 := 128#32
  let v158 : BitVec 32 := Scalar.muli v157 c128_i32
  let v159 : BitVec 32 := v158
  let v169 : Index := Scalar.indexCast v159
  let c0_97 : Index := 0#32
  ![v169.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_98 : BitVec 32 := 2#32
  let v173 : BitVec 32 := Scalar.muli arg14 c2_i32_98
  let c7_i32_99 : BitVec 32 := 7#32
  let v174 : BitVec 32 := Scalar.muli v173 c7_i32_99
  let c1_i32_100 : BitVec 32 := 1#32
  let v175 : BitVec 32 := Scalar.addi v174 c1_i32_100
  let c128_i32_101 : BitVec 32 := 128#32
  let v176 : BitVec 32 := Scalar.muli v175 c128_i32_101
  v176
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_106 : BitVec 32 := 2#32
  let v191 : BitVec 32 := Scalar.muli arg14 c2_i32_106
  let c7_i32_107 : BitVec 32 := 7#32
  let v192 : BitVec 32 := Scalar.muli v191 c7_i32_107
  let c2_i32_108 : BitVec 32 := 2#32
  let v193 : BitVec 32 := Scalar.addi v192 c2_i32_108
  let c128_i32_109 : BitVec 32 := 128#32
  let v194 : BitVec 32 := Scalar.muli v193 c128_i32_109
  v194
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_114 : BitVec 32 := 2#32
  let v209 : BitVec 32 := Scalar.muli arg14 c2_i32_114
  let c7_i32_115 : BitVec 32 := 7#32
  let v210 : BitVec 32 := Scalar.muli v209 c7_i32_115
  let c3_i32 : BitVec 32 := 3#32
  let v211 : BitVec 32 := Scalar.addi v210 c3_i32
  let c128_i32_116 : BitVec 32 := 128#32
  let v212 : BitVec 32 := Scalar.muli v211 c128_i32_116
  v212
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_121 : BitVec 32 := 2#32
  let v227 : BitVec 32 := Scalar.muli arg14 c2_i32_121
  let c7_i32_122 : BitVec 32 := 7#32
  let v228 : BitVec 32 := Scalar.muli v227 c7_i32_122
  let c4_i32 : BitVec 32 := 4#32
  let v229 : BitVec 32 := Scalar.addi v228 c4_i32
  let c128_i32_123 : BitVec 32 := 128#32
  let v230 : BitVec 32 := Scalar.muli v229 c128_i32_123
  v230
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_128 : BitVec 32 := 2#32
  let v245 : BitVec 32 := Scalar.muli arg14 c2_i32_128
  let c7_i32_129 : BitVec 32 := 7#32
  let v246 : BitVec 32 := Scalar.muli v245 c7_i32_129
  let c5_i32 : BitVec 32 := 5#32
  let v247 : BitVec 32 := Scalar.addi v246 c5_i32
  let c128_i32_130 : BitVec 32 := 128#32
  let v248 : BitVec 32 := Scalar.muli v247 c128_i32_130
  v248
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_135 : BitVec 32 := 2#32
  let v263 : BitVec 32 := Scalar.muli arg14 c2_i32_135
  let c7_i32_136 : BitVec 32 := 7#32
  let v264 : BitVec 32 := Scalar.muli v263 c7_i32_136
  let c6_i32 : BitVec 32 := 6#32
  let v265 : BitVec 32 := Scalar.addi v264 c6_i32
  let c128_i32_137 : BitVec 32 := 128#32
  let v266 : BitVec 32 := Scalar.muli v265 c128_i32_137
  v266
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_142 : BitVec 32 := 2#32
  let v281 : BitVec 32 := Scalar.muli arg14 c2_i32_142
  let c7_i32_143 : BitVec 32 := 7#32
  let v282 : BitVec 32 := Scalar.muli v281 c7_i32_143
  let c7_i32_144 : BitVec 32 := 7#32
  let v283 : BitVec 32 := Scalar.addi v282 c7_i32_144
  let c128_i32_145 : BitVec 32 := 128#32
  let v284 : BitVec 32 := Scalar.muli v283 c128_i32_145
  v284
def k0_mult9 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_150 : BitVec 32 := 2#32
  let v299 : BitVec 32 := Scalar.muli arg14 c2_i32_150
  let c7_i32_151 : BitVec 32 := 7#32
  let v300 : BitVec 32 := Scalar.muli v299 c7_i32_151
  let c8_i32_152 : BitVec 32 := 8#32
  let v301 : BitVec 32 := Scalar.addi v300 c8_i32_152
  let c128_i32_153 : BitVec 32 := 128#32
  let v302 : BitVec 32 := Scalar.muli v301 c128_i32_153
  v302
def k0_mult10 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_158 : BitVec 32 := 2#32
  let v317 : BitVec 32 := Scalar.muli arg14 c2_i32_158
  let c7_i32_159 : BitVec 32 := 7#32
  let v318 : BitVec 32 := Scalar.muli v317 c7_i32_159
  let c9_i32 : BitVec 32 := 9#32
  let v319 : BitVec 32 := Scalar.addi v318 c9_i32
  let c128_i32_160 : BitVec 32 := 128#32
  let v320 : BitVec 32 := Scalar.muli v319 c128_i32_160
  v320
def k0_mult11 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_165 : BitVec 32 := 2#32
  let v335 : BitVec 32 := Scalar.muli arg14 c2_i32_165
  let c7_i32_166 : BitVec 32 := 7#32
  let v336 : BitVec 32 := Scalar.muli v335 c7_i32_166
  let c10_i32 : BitVec 32 := 10#32
  let v337 : BitVec 32 := Scalar.addi v336 c10_i32
  let c128_i32_167 : BitVec 32 := 128#32
  let v338 : BitVec 32 := Scalar.muli v337 c128_i32_167
  v338
def k0_mult12 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_172 : BitVec 32 := 2#32
  let v353 : BitVec 32 := Scalar.muli arg14 c2_i32_172
  let c7_i32_173 : BitVec 32 := 7#32
  let v354 : BitVec 32 := Scalar.muli v353 c7_i32_173
  let c11_i32 : BitVec 32 := 11#32
  let v355 : BitVec 32 := Scalar.addi v354 c11_i32
  let c128_i32_174 : BitVec 32 := 128#32
  let v356 : BitVec 32 := Scalar.muli v355 c128_i32_174
  v356
def k0_mult13 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_179 : BitVec 32 := 2#32
  let v371 : BitVec 32 := Scalar.muli arg14 c2_i32_179
  let c7_i32_180 : BitVec 32 := 7#32
  let v372 : BitVec 32 := Scalar.muli v371 c7_i32_180
  let c12_i32 : BitVec 32 := 12#32
  let v373 : BitVec 32 := Scalar.addi v372 c12_i32
  let c128_i32_181 : BitVec 32 := 128#32
  let v374 : BitVec 32 := Scalar.muli v373 c128_i32_181
  v374
def k0_mult14 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_186 : BitVec 32 := 2#32
  let v389 : BitVec 32 := Scalar.muli arg14 c2_i32_186
  let c7_i32_187 : BitVec 32 := 7#32
  let v390 : BitVec 32 := Scalar.muli v389 c7_i32_187
  let c13_i32 : BitVec 32 := 13#32
  let v391 : BitVec 32 := Scalar.addi v390 c13_i32
  let c128_i32_188 : BitVec 32 := 128#32
  let v392 : BitVec 32 := Scalar.muli v391 c128_i32_188
  v392
@[reducible] def k0_t2_loop : Scf.Loop 32 :=
  let c0_i32_19 : BitVec 32 := 0#32
  let c8_i32_20 : BitVec 32 := 8#32
  let v49 : BitVec 32 := Scalar.addi c0_i32_19 c8_i32_20
  let c1_i32_21 : BitVec 32 := 1#32
  ⟨c0_i32_19, v49, c1_i32_21⟩
def k0_mult15 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let c128_i32 : BitVec 32 := 128#32
  let v158 : BitVec 32 := Scalar.muli v157 c128_i32
  v158
def k0_off3 (k0_t2 : Fin k0_t2_loop.trips) (c0_i32_95 : BitVec 32) : Fin 3 → Nat :=
  let c0_96 : Index := 0#32
  let c0_97 : Index := 0#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let c128_i32 : BitVec 32 := 128#32
  let v158 : BitVec 32 := Scalar.muli v157 c128_i32
  let v159 : BitVec 32 := v158
  let v160 : Index := Scalar.indexCast v159
  ![0, 0, v160.toNat]
def k0_off4 (k0_t2 : Fin k0_t2_loop.trips) (c0_i32_95 : BitVec 32) : Fin 3 → Nat :=
  let c0_100 : Index := 0#32
  let c128_101 : Index := 128#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let c128_i32 : BitVec 32 := 128#32
  let v158 : BitVec 32 := Scalar.muli v157 c128_i32
  let v159 : BitVec 32 := v158
  let v179 : Index := Scalar.indexCast v159
  ![0, 128, v179.toNat]
def k0_mult16 (k0_t2 : Fin k0_t2_loop.trips) : BitVec 32 :=
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v198 : BitVec 32 := Scalar.muli c2_i32 v157
  let c0_i32_106 : BitVec 32 := 0#32
  let v199 : BitVec 32 := Scalar.addi v198 c0_i32_106
  let c128_i32_107 : BitVec 32 := 128#32
  let v200 : BitVec 32 := Scalar.muli v199 c128_i32_107
  v200
def k0_off5 (k0_t2 : Fin k0_t2_loop.trips) (c0_i32_95 : BitVec 32) (c0_i32_106 : BitVec 32) : Fin 4 → Nat :=
  let c0_108 : Index := 0#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let v202 : Index := Scalar.indexCast v199
  let c0_109 : Index := 0#32
  ![0, v202.toNat, 0, 0]
def k0_off6 (k0_t2 : Fin k0_t2_loop.trips) (c0_i32_95 : BitVec 32) (c0_i32_106 : BitVec 32) : Fin 4 → Nat :=
  let c1_110 : Index := 1#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let v213 : Index := Scalar.indexCast v199
  let c0_111 : Index := 0#32
  ![1, v213.toNat, 0, 0]
def k0_off7 (k0_t2 : Fin k0_t2_loop.trips) (c0_i32_95 : BitVec 32) (c0_i32_106 : BitVec 32) : Fin 2 → Nat :=
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c128_i32_107 : BitVec 32 := 128#32
  let v200 : BitVec 32 := Scalar.muli v199 c128_i32_107
  let v201 : BitVec 32 := v200
  let v224 : Index := Scalar.indexCast v201
  let c0_112 : Index := 0#32
  ![v224.toNat, 0]
def k0_off8 (k0_t2 : Fin k0_t2_loop.trips) (c0_i32_95 : BitVec 32) (c0_i32_106 : BitVec 32) : Fin 3 → Nat :=
  let c0_114 : Index := 0#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c128_i32_107 : BitVec 32 := 128#32
  let v200 : BitVec 32 := Scalar.muli v199 c128_i32_107
  let v201 : BitVec 32 := v200
  let v232 : Index := Scalar.indexCast v201
  let c0_115 : Index := 0#32
  ![0, v232.toNat, 0]
def k0_mult17 (k0_t2 : Fin k0_t2_loop.trips) : BitVec 32 :=
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v198 : BitVec 32 := Scalar.muli c2_i32 v157
  let c0_i32_106 : BitVec 32 := 0#32
  let v199 : BitVec 32 := Scalar.addi v198 c0_i32_106
  let c8_i32_118 : BitVec 32 := 8#32
  let v242 : BitVec 32 := Scalar.muli v199 c8_i32_118
  v242
def k0_off9 (k0_t2 : Fin k0_t2_loop.trips) (c0_i32_95 : BitVec 32) (c0_i32_106 : BitVec 32) : Fin 3 → Nat :=
  let c0_119 : Index := 0#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c8_i32_118 : BitVec 32 := 8#32
  let v242 : BitVec 32 := Scalar.muli v199 c8_i32_118
  let v243 : BitVec 32 := v242
  let v244 : Index := Scalar.indexCast v243
  let c0_120 : Index := 0#32
  ![0, v244.toNat, 0]
def k0_off10 (k0_t2 : Fin k0_t2_loop.trips) (c0_i32_95 : BitVec 32) (c0_i32_106 : BitVec 32) : Fin 3 → Nat :=
  let c1_121 : Index := 1#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c128_i32_107 : BitVec 32 := 128#32
  let v200 : BitVec 32 := Scalar.muli v199 c128_i32_107
  let v201 : BitVec 32 := v200
  let v248 : Index := Scalar.indexCast v201
  let c0_122 : Index := 0#32
  ![1, v248.toNat, 0]
def k0_mult18 (k0_t2 : Fin k0_t2_loop.trips) : BitVec 32 :=
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v198 : BitVec 32 := Scalar.muli c2_i32 v157
  let c0_i32_106 : BitVec 32 := 0#32
  let v199 : BitVec 32 := Scalar.addi v198 c0_i32_106
  let c8_i32_125 : BitVec 32 := 8#32
  let v258 : BitVec 32 := Scalar.muli v199 c8_i32_125
  v258
def k0_off11 (k0_t2 : Fin k0_t2_loop.trips) (c0_i32_95 : BitVec 32) (c0_i32_106 : BitVec 32) : Fin 3 → Nat :=
  let c1_126 : Index := 1#32
  let c2_i32 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let v157 : BitVec 32 := Scalar.addi v156 c0_i32_95
  let v198 : BitVec 32 := Scalar.muli c2_i32 v157
  let v199 : BitVec 32 := Scalar.addi v198 c0_i32_106
  let c8_i32_125 : BitVec 32 := 8#32
  let v258 : BitVec 32 := Scalar.muli v199 c8_i32_125
  let v259 : BitVec 32 := v258
  let v260 : Index := Scalar.indexCast v259
  let c0_127 : Index := 0#32
  ![1, v260.toNat, 0]
def k0_mult19 (k0_t2 : Fin k0_t2_loop.trips) : BitVec 32 :=
  let c2_i32_128 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v264 : BitVec 32 := Scalar.muli c2_i32_128 v157
  let c1_i32_129 : BitVec 32 := 1#32
  let v265 : BitVec 32 := Scalar.addi v264 c1_i32_129
  let c128_i32_130 : BitVec 32 := 128#32
  let v266 : BitVec 32 := Scalar.muli v265 c128_i32_130
  v266
def k0_mult20 (k0_t2 : Fin k0_t2_loop.trips) : BitVec 32 :=
  let c2_i32_128 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v264 : BitVec 32 := Scalar.muli c2_i32_128 v157
  let c1_i32_129 : BitVec 32 := 1#32
  let v265 : BitVec 32 := Scalar.addi v264 c1_i32_129
  let c8_i32_141 : BitVec 32 := 8#32
  let v308 : BitVec 32 := Scalar.muli v265 c8_i32_141
  v308
def k0_mult21 (k0_t2 : Fin k0_t2_loop.trips) : BitVec 32 :=
  let c2_i32_128 : BitVec 32 := 2#32
  let c0_i32_19 : BitVec 32 := 0#32
  let c1_i32_21 : BitVec 32 := 1#32
  let arg14 : BitVec 32 := Scf.iv c0_i32_19 c1_i32_21 k0_t2
  let c7_i32 : BitVec 32 := 7#32
  let v156 : BitVec 32 := Scalar.muli arg14 c7_i32
  let c0_i32_95 : BitVec 32 := 0#32
  let v157 : BitVec 32 := Scalar.addi v156 c0_i32_95
  let v264 : BitVec 32 := Scalar.muli c2_i32_128 v157
  let c1_i32_129 : BitVec 32 := 1#32
  let v265 : BitVec 32 := Scalar.addi v264 c1_i32_129
  let c8_i32_148 : BitVec 32 := 8#32
  let v324 : BitVec 32 := Scalar.muli v265 c8_i32_148
  v324
def k0_mult22 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let c128_i32_153 : BitVec 32 := 128#32
  let v332 : BitVec 32 := Scalar.muli v331 c128_i32_153
  v332
def k0_mult23 (k0_t2 : Fin k0_t2_loop.trips) : BitVec 32 :=
  let c2_i32_166 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v372 : BitVec 32 := Scalar.muli c2_i32_166 v331
  let c0_i32_167 : BitVec 32 := 0#32
  let v373 : BitVec 32 := Scalar.addi v372 c0_i32_167
  let c128_i32_168 : BitVec 32 := 128#32
  let v374 : BitVec 32 := Scalar.muli v373 c128_i32_168
  v374
def k0_mult24 (k0_t2 : Fin k0_t2_loop.trips) : BitVec 32 :=
  let c2_i32_166 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v372 : BitVec 32 := Scalar.muli c2_i32_166 v331
  let c0_i32_167 : BitVec 32 := 0#32
  let v373 : BitVec 32 := Scalar.addi v372 c0_i32_167
  let c8_i32_179 : BitVec 32 := 8#32
  let v416 : BitVec 32 := Scalar.muli v373 c8_i32_179
  v416
def k0_mult25 (k0_t2 : Fin k0_t2_loop.trips) : BitVec 32 :=
  let c2_i32_166 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v372 : BitVec 32 := Scalar.muli c2_i32_166 v331
  let c0_i32_167 : BitVec 32 := 0#32
  let v373 : BitVec 32 := Scalar.addi v372 c0_i32_167
  let c8_i32_186 : BitVec 32 := 8#32
  let v432 : BitVec 32 := Scalar.muli v373 c8_i32_186
  v432
def k0_mult26 (k0_t2 : Fin k0_t2_loop.trips) : BitVec 32 :=
  let c2_i32_189 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v438 : BitVec 32 := Scalar.muli c2_i32_189 v331
  let c1_i32_190 : BitVec 32 := 1#32
  let v439 : BitVec 32 := Scalar.addi v438 c1_i32_190
  let c128_i32_191 : BitVec 32 := 128#32
  let v440 : BitVec 32 := Scalar.muli v439 c128_i32_191
  v440
def k0_mult27 (k0_t2 : Fin k0_t2_loop.trips) : BitVec 32 :=
  let c2_i32_189 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v438 : BitVec 32 := Scalar.muli c2_i32_189 v331
  let c1_i32_190 : BitVec 32 := 1#32
  let v439 : BitVec 32 := Scalar.addi v438 c1_i32_190
  let c8_i32_202 : BitVec 32 := 8#32
  let v482 : BitVec 32 := Scalar.muli v439 c8_i32_202
  v482
def k0_mult28 (k0_t2 : Fin k0_t2_loop.trips) : BitVec 32 :=
  let c2_i32_189 : BitVec 32 := 2#32
  let c0_i32_19 : BitVec 32 := 0#32
  let c1_i32_21 : BitVec 32 := 1#32
  let arg14 : BitVec 32 := Scf.iv c0_i32_19 c1_i32_21 k0_t2
  let c7_i32_151 : BitVec 32 := 7#32
  let v330 : BitVec 32 := Scalar.muli arg14 c7_i32_151
  let c1_i32_152 : BitVec 32 := 1#32
  let v331 : BitVec 32 := Scalar.addi v330 c1_i32_152
  let v438 : BitVec 32 := Scalar.muli c2_i32_189 v331
  let c1_i32_190 : BitVec 32 := 1#32
  let v439 : BitVec 32 := Scalar.addi v438 c1_i32_190
  let c8_i32_209 : BitVec 32 := 8#32
  let v498 : BitVec 32 := Scalar.muli v439 c8_i32_209
  v498
def k0_mult29 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let c128_i32_214 : BitVec 32 := 128#32
  let v506 : BitVec 32 := Scalar.muli v505 c128_i32_214
  v506
def k0_mult30 (k0_t2 : Fin k0_t2_loop.trips) : BitVec 32 :=
  let c2_i32_227 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v546 : BitVec 32 := Scalar.muli c2_i32_227 v505
  let c0_i32_228 : BitVec 32 := 0#32
  let v547 : BitVec 32 := Scalar.addi v546 c0_i32_228
  let c128_i32_229 : BitVec 32 := 128#32
  let v548 : BitVec 32 := Scalar.muli v547 c128_i32_229
  v548
def k0_mult31 (k0_t2 : Fin k0_t2_loop.trips) : BitVec 32 :=
  let c2_i32_227 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v546 : BitVec 32 := Scalar.muli c2_i32_227 v505
  let c0_i32_228 : BitVec 32 := 0#32
  let v547 : BitVec 32 := Scalar.addi v546 c0_i32_228
  let c8_i32_240 : BitVec 32 := 8#32
  let v590 : BitVec 32 := Scalar.muli v547 c8_i32_240
  v590
def k0_mult32 (k0_t2 : Fin k0_t2_loop.trips) : BitVec 32 :=
  let c2_i32_227 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v546 : BitVec 32 := Scalar.muli c2_i32_227 v505
  let c0_i32_228 : BitVec 32 := 0#32
  let v547 : BitVec 32 := Scalar.addi v546 c0_i32_228
  let c8_i32_247 : BitVec 32 := 8#32
  let v606 : BitVec 32 := Scalar.muli v547 c8_i32_247
  v606
def k0_mult33 (k0_t2 : Fin k0_t2_loop.trips) : BitVec 32 :=
  let c2_i32_250 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v612 : BitVec 32 := Scalar.muli c2_i32_250 v505
  let c1_i32_251 : BitVec 32 := 1#32
  let v613 : BitVec 32 := Scalar.addi v612 c1_i32_251
  let c128_i32_252 : BitVec 32 := 128#32
  let v614 : BitVec 32 := Scalar.muli v613 c128_i32_252
  v614
def k0_mult34 (k0_t2 : Fin k0_t2_loop.trips) : BitVec 32 :=
  let c2_i32_250 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v612 : BitVec 32 := Scalar.muli c2_i32_250 v505
  let c1_i32_251 : BitVec 32 := 1#32
  let v613 : BitVec 32 := Scalar.addi v612 c1_i32_251
  let c8_i32_263 : BitVec 32 := 8#32
  let v656 : BitVec 32 := Scalar.muli v613 c8_i32_263
  v656
def k0_mult35 (k0_t2 : Fin k0_t2_loop.trips) : BitVec 32 :=
  let c2_i32_250 : BitVec 32 := 2#32
  let c0_i32_19 : BitVec 32 := 0#32
  let c1_i32_21 : BitVec 32 := 1#32
  let arg14 : BitVec 32 := Scf.iv c0_i32_19 c1_i32_21 k0_t2
  let c7_i32_212 : BitVec 32 := 7#32
  let v504 : BitVec 32 := Scalar.muli arg14 c7_i32_212
  let c2_i32_213 : BitVec 32 := 2#32
  let v505 : BitVec 32 := Scalar.addi v504 c2_i32_213
  let v612 : BitVec 32 := Scalar.muli c2_i32_250 v505
  let c1_i32_251 : BitVec 32 := 1#32
  let v613 : BitVec 32 := Scalar.addi v612 c1_i32_251
  let c8_i32_270 : BitVec 32 := 8#32
  let v672 : BitVec 32 := Scalar.muli v613 c8_i32_270
  v672
def k0_mult36 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let c128_i32_274 : BitVec 32 := 128#32
  let v680 : BitVec 32 := Scalar.muli v679 c128_i32_274
  v680
def k0_mult37 (k0_t2 : Fin k0_t2_loop.trips) : BitVec 32 :=
  let c2_i32_287 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v720 : BitVec 32 := Scalar.muli c2_i32_287 v679
  let c0_i32_288 : BitVec 32 := 0#32
  let v721 : BitVec 32 := Scalar.addi v720 c0_i32_288
  let c128_i32_289 : BitVec 32 := 128#32
  let v722 : BitVec 32 := Scalar.muli v721 c128_i32_289
  v722
def k0_mult38 (k0_t2 : Fin k0_t2_loop.trips) : BitVec 32 :=
  let c2_i32_287 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v720 : BitVec 32 := Scalar.muli c2_i32_287 v679
  let c0_i32_288 : BitVec 32 := 0#32
  let v721 : BitVec 32 := Scalar.addi v720 c0_i32_288
  let c8_i32_300 : BitVec 32 := 8#32
  let v764 : BitVec 32 := Scalar.muli v721 c8_i32_300
  v764
def k0_mult39 (k0_t2 : Fin k0_t2_loop.trips) : BitVec 32 :=
  let c2_i32_287 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v720 : BitVec 32 := Scalar.muli c2_i32_287 v679
  let c0_i32_288 : BitVec 32 := 0#32
  let v721 : BitVec 32 := Scalar.addi v720 c0_i32_288
  let c8_i32_307 : BitVec 32 := 8#32
  let v780 : BitVec 32 := Scalar.muli v721 c8_i32_307
  v780
def k0_mult40 (k0_t2 : Fin k0_t2_loop.trips) : BitVec 32 :=
  let c2_i32_310 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v786 : BitVec 32 := Scalar.muli c2_i32_310 v679
  let c1_i32_311 : BitVec 32 := 1#32
  let v787 : BitVec 32 := Scalar.addi v786 c1_i32_311
  let c128_i32_312 : BitVec 32 := 128#32
  let v788 : BitVec 32 := Scalar.muli v787 c128_i32_312
  v788
def k0_mult41 (k0_t2 : Fin k0_t2_loop.trips) : BitVec 32 :=
  let c2_i32_310 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v786 : BitVec 32 := Scalar.muli c2_i32_310 v679
  let c1_i32_311 : BitVec 32 := 1#32
  let v787 : BitVec 32 := Scalar.addi v786 c1_i32_311
  let c8_i32_323 : BitVec 32 := 8#32
  let v830 : BitVec 32 := Scalar.muli v787 c8_i32_323
  v830
def k0_mult42 (k0_t2 : Fin k0_t2_loop.trips) : BitVec 32 :=
  let c2_i32_310 : BitVec 32 := 2#32
  let c0_i32_19 : BitVec 32 := 0#32
  let c1_i32_21 : BitVec 32 := 1#32
  let arg14 : BitVec 32 := Scf.iv c0_i32_19 c1_i32_21 k0_t2
  let c7_i32_273 : BitVec 32 := 7#32
  let v678 : BitVec 32 := Scalar.muli arg14 c7_i32_273
  let c3_i32 : BitVec 32 := 3#32
  let v679 : BitVec 32 := Scalar.addi v678 c3_i32
  let v786 : BitVec 32 := Scalar.muli c2_i32_310 v679
  let c1_i32_311 : BitVec 32 := 1#32
  let v787 : BitVec 32 := Scalar.addi v786 c1_i32_311
  let c8_i32_330 : BitVec 32 := 8#32
  let v846 : BitVec 32 := Scalar.muli v787 c8_i32_330
  v846
def k0_mult43 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let c128_i32_334 : BitVec 32 := 128#32
  let v854 : BitVec 32 := Scalar.muli v853 c128_i32_334
  v854
def k0_mult44 (k0_t2 : Fin k0_t2_loop.trips) : BitVec 32 :=
  let c2_i32_347 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v894 : BitVec 32 := Scalar.muli c2_i32_347 v853
  let c0_i32_348 : BitVec 32 := 0#32
  let v895 : BitVec 32 := Scalar.addi v894 c0_i32_348
  let c128_i32_349 : BitVec 32 := 128#32
  let v896 : BitVec 32 := Scalar.muli v895 c128_i32_349
  v896
def k0_mult45 (k0_t2 : Fin k0_t2_loop.trips) : BitVec 32 :=
  let c2_i32_347 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v894 : BitVec 32 := Scalar.muli c2_i32_347 v853
  let c0_i32_348 : BitVec 32 := 0#32
  let v895 : BitVec 32 := Scalar.addi v894 c0_i32_348
  let c8_i32_360 : BitVec 32 := 8#32
  let v938 : BitVec 32 := Scalar.muli v895 c8_i32_360
  v938
def k0_mult46 (k0_t2 : Fin k0_t2_loop.trips) : BitVec 32 :=
  let c2_i32_347 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v894 : BitVec 32 := Scalar.muli c2_i32_347 v853
  let c0_i32_348 : BitVec 32 := 0#32
  let v895 : BitVec 32 := Scalar.addi v894 c0_i32_348
  let c8_i32_367 : BitVec 32 := 8#32
  let v954 : BitVec 32 := Scalar.muli v895 c8_i32_367
  v954
def k0_mult47 (k0_t2 : Fin k0_t2_loop.trips) : BitVec 32 :=
  let c2_i32_370 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v960 : BitVec 32 := Scalar.muli c2_i32_370 v853
  let c1_i32_371 : BitVec 32 := 1#32
  let v961 : BitVec 32 := Scalar.addi v960 c1_i32_371
  let c128_i32_372 : BitVec 32 := 128#32
  let v962 : BitVec 32 := Scalar.muli v961 c128_i32_372
  v962
def k0_mult48 (k0_t2 : Fin k0_t2_loop.trips) : BitVec 32 :=
  let c2_i32_370 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v960 : BitVec 32 := Scalar.muli c2_i32_370 v853
  let c1_i32_371 : BitVec 32 := 1#32
  let v961 : BitVec 32 := Scalar.addi v960 c1_i32_371
  let c8_i32_383 : BitVec 32 := 8#32
  let v1004 : BitVec 32 := Scalar.muli v961 c8_i32_383
  v1004
def k0_mult49 (k0_t2 : Fin k0_t2_loop.trips) : BitVec 32 :=
  let c2_i32_370 : BitVec 32 := 2#32
  let c0_i32_19 : BitVec 32 := 0#32
  let c1_i32_21 : BitVec 32 := 1#32
  let arg14 : BitVec 32 := Scf.iv c0_i32_19 c1_i32_21 k0_t2
  let c7_i32_333 : BitVec 32 := 7#32
  let v852 : BitVec 32 := Scalar.muli arg14 c7_i32_333
  let c4_i32 : BitVec 32 := 4#32
  let v853 : BitVec 32 := Scalar.addi v852 c4_i32
  let v960 : BitVec 32 := Scalar.muli c2_i32_370 v853
  let c1_i32_371 : BitVec 32 := 1#32
  let v961 : BitVec 32 := Scalar.addi v960 c1_i32_371
  let c8_i32_390 : BitVec 32 := 8#32
  let v1020 : BitVec 32 := Scalar.muli v961 c8_i32_390
  v1020
def k0_mult50 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let c128_i32_394 : BitVec 32 := 128#32
  let v1028 : BitVec 32 := Scalar.muli v1027 c128_i32_394
  v1028
def k0_mult51 (k0_t2 : Fin k0_t2_loop.trips) : BitVec 32 :=
  let c2_i32_407 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1068 : BitVec 32 := Scalar.muli c2_i32_407 v1027
  let c0_i32_408 : BitVec 32 := 0#32
  let v1069 : BitVec 32 := Scalar.addi v1068 c0_i32_408
  let c128_i32_409 : BitVec 32 := 128#32
  let v1070 : BitVec 32 := Scalar.muli v1069 c128_i32_409
  v1070
def k0_mult52 (k0_t2 : Fin k0_t2_loop.trips) : BitVec 32 :=
  let c2_i32_407 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1068 : BitVec 32 := Scalar.muli c2_i32_407 v1027
  let c0_i32_408 : BitVec 32 := 0#32
  let v1069 : BitVec 32 := Scalar.addi v1068 c0_i32_408
  let c8_i32_420 : BitVec 32 := 8#32
  let v1112 : BitVec 32 := Scalar.muli v1069 c8_i32_420
  v1112
def k0_mult53 (k0_t2 : Fin k0_t2_loop.trips) : BitVec 32 :=
  let c2_i32_407 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1068 : BitVec 32 := Scalar.muli c2_i32_407 v1027
  let c0_i32_408 : BitVec 32 := 0#32
  let v1069 : BitVec 32 := Scalar.addi v1068 c0_i32_408
  let c8_i32_427 : BitVec 32 := 8#32
  let v1128 : BitVec 32 := Scalar.muli v1069 c8_i32_427
  v1128
def k0_mult54 (k0_t2 : Fin k0_t2_loop.trips) : BitVec 32 :=
  let c2_i32_430 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1134 : BitVec 32 := Scalar.muli c2_i32_430 v1027
  let c1_i32_431 : BitVec 32 := 1#32
  let v1135 : BitVec 32 := Scalar.addi v1134 c1_i32_431
  let c128_i32_432 : BitVec 32 := 128#32
  let v1136 : BitVec 32 := Scalar.muli v1135 c128_i32_432
  v1136
def k0_mult55 (k0_t2 : Fin k0_t2_loop.trips) : BitVec 32 :=
  let c2_i32_430 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1134 : BitVec 32 := Scalar.muli c2_i32_430 v1027
  let c1_i32_431 : BitVec 32 := 1#32
  let v1135 : BitVec 32 := Scalar.addi v1134 c1_i32_431
  let c8_i32_443 : BitVec 32 := 8#32
  let v1178 : BitVec 32 := Scalar.muli v1135 c8_i32_443
  v1178
def k0_mult56 (k0_t2 : Fin k0_t2_loop.trips) : BitVec 32 :=
  let c2_i32_430 : BitVec 32 := 2#32
  let c0_i32_19 : BitVec 32 := 0#32
  let c1_i32_21 : BitVec 32 := 1#32
  let arg14 : BitVec 32 := Scf.iv c0_i32_19 c1_i32_21 k0_t2
  let c7_i32_393 : BitVec 32 := 7#32
  let v1026 : BitVec 32 := Scalar.muli arg14 c7_i32_393
  let c5_i32 : BitVec 32 := 5#32
  let v1027 : BitVec 32 := Scalar.addi v1026 c5_i32
  let v1134 : BitVec 32 := Scalar.muli c2_i32_430 v1027
  let c1_i32_431 : BitVec 32 := 1#32
  let v1135 : BitVec 32 := Scalar.addi v1134 c1_i32_431
  let c8_i32_450 : BitVec 32 := 8#32
  let v1194 : BitVec 32 := Scalar.muli v1135 c8_i32_450
  v1194
def k0_mult57 (k0_t2 : Fin k0_t2_loop.trips) : BitVec 32 :=
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let c128_i32_454 : BitVec 32 := 128#32
  let v1202 : BitVec 32 := Scalar.muli v1201 c128_i32_454
  v1202
def k0_mult58 (k0_t2 : Fin k0_t2_loop.trips) : BitVec 32 :=
  let c2_i32_467 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1242 : BitVec 32 := Scalar.muli c2_i32_467 v1201
  let c0_i32_468 : BitVec 32 := 0#32
  let v1243 : BitVec 32 := Scalar.addi v1242 c0_i32_468
  let c128_i32_469 : BitVec 32 := 128#32
  let v1244 : BitVec 32 := Scalar.muli v1243 c128_i32_469
  v1244
def k0_mult59 (k0_t2 : Fin k0_t2_loop.trips) : BitVec 32 :=
  let c2_i32_467 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1242 : BitVec 32 := Scalar.muli c2_i32_467 v1201
  let c0_i32_468 : BitVec 32 := 0#32
  let v1243 : BitVec 32 := Scalar.addi v1242 c0_i32_468
  let c8_i32_480 : BitVec 32 := 8#32
  let v1286 : BitVec 32 := Scalar.muli v1243 c8_i32_480
  v1286
def k0_mult60 (k0_t2 : Fin k0_t2_loop.trips) : BitVec 32 :=
  let c2_i32_467 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1242 : BitVec 32 := Scalar.muli c2_i32_467 v1201
  let c0_i32_468 : BitVec 32 := 0#32
  let v1243 : BitVec 32 := Scalar.addi v1242 c0_i32_468
  let c8_i32_487 : BitVec 32 := 8#32
  let v1302 : BitVec 32 := Scalar.muli v1243 c8_i32_487
  v1302
def k0_mult61 (k0_t2 : Fin k0_t2_loop.trips) : BitVec 32 :=
  let c2_i32_490 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1308 : BitVec 32 := Scalar.muli c2_i32_490 v1201
  let c1_i32_491 : BitVec 32 := 1#32
  let v1309 : BitVec 32 := Scalar.addi v1308 c1_i32_491
  let c128_i32_492 : BitVec 32 := 128#32
  let v1310 : BitVec 32 := Scalar.muli v1309 c128_i32_492
  v1310
def k0_mult62 (k0_t2 : Fin k0_t2_loop.trips) : BitVec 32 :=
  let c2_i32_490 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1308 : BitVec 32 := Scalar.muli c2_i32_490 v1201
  let c1_i32_491 : BitVec 32 := 1#32
  let v1309 : BitVec 32 := Scalar.addi v1308 c1_i32_491
  let c8_i32_503 : BitVec 32 := 8#32
  let v1352 : BitVec 32 := Scalar.muli v1309 c8_i32_503
  v1352
def k0_mult63 (k0_t2 : Fin k0_t2_loop.trips) : BitVec 32 :=
  let c2_i32_490 : BitVec 32 := 2#32
  let c0_i32_19 : BitVec 32 := 0#32
  let c1_i32_21 : BitVec 32 := 1#32
  let arg14 : BitVec 32 := Scf.iv c0_i32_19 c1_i32_21 k0_t2
  let c7_i32_453 : BitVec 32 := 7#32
  let v1200 : BitVec 32 := Scalar.muli arg14 c7_i32_453
  let c6_i32 : BitVec 32 := 6#32
  let v1201 : BitVec 32 := Scalar.addi v1200 c6_i32
  let v1308 : BitVec 32 := Scalar.muli c2_i32_490 v1201
  let c1_i32_491 : BitVec 32 := 1#32
  let v1309 : BitVec 32 := Scalar.addi v1308 c1_i32_491
  let c8_i32_510 : BitVec 32 := 8#32
  let v1368 : BitVec 32 := Scalar.muli v1309 c8_i32_510
  v1368
@[reducible] def k0_t3_loop : Scf.Loop 32 :=
  let c0_i32_89 : BitVec 32 := 0#32
  let c8_i32_90 : BitVec 32 := 8#32
  let v154 : BitVec 32 := Scalar.addi c0_i32_89 c8_i32_90
  let c1_i32_91 : BitVec 32 := 1#32
  ⟨c0_i32_89, v154, c1_i32_91⟩
def k0_mult64 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let c128_i32 : BitVec 32 := 128#32
  let v157 : BitVec 32 := Scalar.muli v156 c128_i32
  v157
def k0_off12 (k0_t3 : Fin k0_t3_loop.trips) (c0_i32_93 : BitVec 32) (c0_i32_94 : BitVec 32) : Fin 3 → Nat :=
  let c0_95 : Index := 0#32
  let c2_i32 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let v159 : BitVec 32 := Scalar.muli c2_i32 v156
  let v160 : BitVec 32 := Scalar.addi v159 c0_i32_94
  let v161 : Index := Scalar.indexCast v160
  let c0_96 : Index := 0#32
  ![0, v161.toNat, 0]
def k0_mult65 (k0_t3 : Fin k0_t3_loop.trips) : BitVec 32 :=
  let c2_i32 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let v159 : BitVec 32 := Scalar.muli c2_i32 v156
  let c0_i32_94 : BitVec 32 := 0#32
  let v160 : BitVec 32 := Scalar.addi v159 c0_i32_94
  let c128_i32_97 : BitVec 32 := 128#32
  let v166 : BitVec 32 := Scalar.muli v160 c128_i32_97
  v166
def k0_off13 (k0_t3 : Fin k0_t3_loop.trips) (c0_i32_93 : BitVec 32) (c0_i32_94 : BitVec 32) : Fin 3 → Nat :=
  let c0_98 : Index := 0#32
  let c2_i32 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let v159 : BitVec 32 := Scalar.muli c2_i32 v156
  let v160 : BitVec 32 := Scalar.addi v159 c0_i32_94
  let c128_i32_97 : BitVec 32 := 128#32
  let v166 : BitVec 32 := Scalar.muli v160 c128_i32_97
  let v167 : BitVec 32 := v166
  let v168 : Index := Scalar.indexCast v167
  let c0_99 : Index := 0#32
  ![0, v168.toNat, 0]
def k0_mult66 (k0_t3 : Fin k0_t3_loop.trips) : BitVec 32 :=
  let c2_i32_103 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let v186 : BitVec 32 := Scalar.muli c2_i32_103 v156
  let c1_i32_104 : BitVec 32 := 1#32
  let v187 : BitVec 32 := Scalar.addi v186 c1_i32_104
  let c128_i32_107 : BitVec 32 := 128#32
  let v193 : BitVec 32 := Scalar.muli v187 c128_i32_107
  v193
def k0_off14 (k0_t3 : Fin k0_t3_loop.trips) (c0_i32_93 : BitVec 32) : Fin 3 → Nat :=
  let c0_115 : Index := 0#32
  let c0_116 : Index := 0#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let c128_i32 : BitVec 32 := 128#32
  let v157 : BitVec 32 := Scalar.muli v156 c128_i32
  let v158 : BitVec 32 := v157
  let v230 : Index := Scalar.indexCast v158
  ![0, 0, v230.toNat]
def k0_off15 (k0_t3 : Fin k0_t3_loop.trips) (c0_i32_93 : BitVec 32) (c0_i32_118 : BitVec 32) : Fin 3 → Nat :=
  let c1_119 : Index := 1#32
  let c2_i32_117 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let v234 : BitVec 32 := Scalar.muli c2_i32_117 v156
  let v235 : BitVec 32 := Scalar.addi v234 c0_i32_118
  let v236 : Index := Scalar.indexCast v235
  let c0_120 : Index := 0#32
  ![1, v236.toNat, 0]
def k0_mult67 (k0_t3 : Fin k0_t3_loop.trips) : BitVec 32 :=
  let c2_i32_117 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let v234 : BitVec 32 := Scalar.muli c2_i32_117 v156
  let c0_i32_118 : BitVec 32 := 0#32
  let v235 : BitVec 32 := Scalar.addi v234 c0_i32_118
  let c128_i32_121 : BitVec 32 := 128#32
  let v241 : BitVec 32 := Scalar.muli v235 c128_i32_121
  v241
def k0_off16 (k0_t3 : Fin k0_t3_loop.trips) (c0_i32_93 : BitVec 32) (c0_i32_118 : BitVec 32) : Fin 3 → Nat :=
  let c1_122 : Index := 1#32
  let c2_i32_117 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let v234 : BitVec 32 := Scalar.muli c2_i32_117 v156
  let v235 : BitVec 32 := Scalar.addi v234 c0_i32_118
  let c128_i32_121 : BitVec 32 := 128#32
  let v241 : BitVec 32 := Scalar.muli v235 c128_i32_121
  let v242 : BitVec 32 := v241
  let v243 : Index := Scalar.indexCast v242
  let c0_123 : Index := 0#32
  ![1, v243.toNat, 0]
def k0_mult68 (k0_t3 : Fin k0_t3_loop.trips) : BitVec 32 :=
  let c2_i32_128 : BitVec 32 := 2#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let c0_i32_93 : BitVec 32 := 0#32
  let v156 : BitVec 32 := Scalar.addi v155 c0_i32_93
  let v261 : BitVec 32 := Scalar.muli c2_i32_128 v156
  let c1_i32_129 : BitVec 32 := 1#32
  let v262 : BitVec 32 := Scalar.addi v261 c1_i32_129
  let c128_i32_132 : BitVec 32 := 128#32
  let v268 : BitVec 32 := Scalar.muli v262 c128_i32_132
  v268
def k0_off17 (k0_t3 : Fin k0_t3_loop.trips) (c0_i32_93 : BitVec 32) : Fin 3 → Nat :=
  let c0_142 : Index := 0#32
  let c128_143 : Index := 128#32
  let c0_i32_89 : BitVec 32 := 0#32
  let c1_i32_91 : BitVec 32 := 1#32
  let arg14 : BitVec 32 := Scf.iv c0_i32_89 c1_i32_91 k0_t3
  let c7_i32 : BitVec 32 := 7#32
  let v155 : BitVec 32 := Scalar.muli arg14 c7_i32
  let v156 : BitVec 32 := Scalar.addi v155 c0_i32_93
  let c128_i32 : BitVec 32 := 128#32
  let v157 : BitVec 32 := Scalar.muli v156 c128_i32
  let v158 : BitVec 32 := v157
  let v305 : Index := Scalar.indexCast v158
  ![0, 128, v305.toNat]
def k0_mult69 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let c128_i32_146 : BitVec 32 := 128#32
  let v311 : BitVec 32 := Scalar.muli v310 c128_i32_146
  v311
def k0_mult70 (k0_t3 : Fin k0_t3_loop.trips) : BitVec 32 :=
  let c2_i32_147 : BitVec 32 := 2#32
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let v313 : BitVec 32 := Scalar.muli c2_i32_147 v310
  let c0_i32_148 : BitVec 32 := 0#32
  let v314 : BitVec 32 := Scalar.addi v313 c0_i32_148
  let c128_i32_151 : BitVec 32 := 128#32
  let v320 : BitVec 32 := Scalar.muli v314 c128_i32_151
  v320
def k0_mult71 (k0_t3 : Fin k0_t3_loop.trips) : BitVec 32 :=
  let c2_i32_158 : BitVec 32 := 2#32
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let v340 : BitVec 32 := Scalar.muli c2_i32_158 v310
  let c1_i32_159 : BitVec 32 := 1#32
  let v341 : BitVec 32 := Scalar.addi v340 c1_i32_159
  let c128_i32_162 : BitVec 32 := 128#32
  let v347 : BitVec 32 := Scalar.muli v341 c128_i32_162
  v347
def k0_mult72 (k0_t3 : Fin k0_t3_loop.trips) : BitVec 32 :=
  let c2_i32_174 : BitVec 32 := 2#32
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let v388 : BitVec 32 := Scalar.muli c2_i32_174 v310
  let c0_i32_175 : BitVec 32 := 0#32
  let v389 : BitVec 32 := Scalar.addi v388 c0_i32_175
  let c128_i32_178 : BitVec 32 := 128#32
  let v395 : BitVec 32 := Scalar.muli v389 c128_i32_178
  v395
def k0_mult73 (k0_t3 : Fin k0_t3_loop.trips) : BitVec 32 :=
  let c2_i32_185 : BitVec 32 := 2#32
  let c0_i32_89 : BitVec 32 := 0#32
  let c1_i32_91 : BitVec 32 := 1#32
  let arg14 : BitVec 32 := Scf.iv c0_i32_89 c1_i32_91 k0_t3
  let c7_i32_144 : BitVec 32 := 7#32
  let v309 : BitVec 32 := Scalar.muli arg14 c7_i32_144
  let c1_i32_145 : BitVec 32 := 1#32
  let v310 : BitVec 32 := Scalar.addi v309 c1_i32_145
  let v415 : BitVec 32 := Scalar.muli c2_i32_185 v310
  let c1_i32_186 : BitVec 32 := 1#32
  let v416 : BitVec 32 := Scalar.addi v415 c1_i32_186
  let c128_i32_189 : BitVec 32 := 128#32
  let v422 : BitVec 32 := Scalar.muli v416 c128_i32_189
  v422
def k0_mult74 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let c128_i32_203 : BitVec 32 := 128#32
  let v465 : BitVec 32 := Scalar.muli v464 c128_i32_203
  v465
def k0_mult75 (k0_t3 : Fin k0_t3_loop.trips) : BitVec 32 :=
  let c2_i32_204 : BitVec 32 := 2#32
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let v467 : BitVec 32 := Scalar.muli c2_i32_204 v464
  let c0_i32_205 : BitVec 32 := 0#32
  let v468 : BitVec 32 := Scalar.addi v467 c0_i32_205
  let c128_i32_208 : BitVec 32 := 128#32
  let v474 : BitVec 32 := Scalar.muli v468 c128_i32_208
  v474
def k0_mult76 (k0_t3 : Fin k0_t3_loop.trips) : BitVec 32 :=
  let c2_i32_215 : BitVec 32 := 2#32
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let v494 : BitVec 32 := Scalar.muli c2_i32_215 v464
  let c1_i32_216 : BitVec 32 := 1#32
  let v495 : BitVec 32 := Scalar.addi v494 c1_i32_216
  let c128_i32_219 : BitVec 32 := 128#32
  let v501 : BitVec 32 := Scalar.muli v495 c128_i32_219
  v501
def k0_mult77 (k0_t3 : Fin k0_t3_loop.trips) : BitVec 32 :=
  let c2_i32_231 : BitVec 32 := 2#32
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let v542 : BitVec 32 := Scalar.muli c2_i32_231 v464
  let c0_i32_232 : BitVec 32 := 0#32
  let v543 : BitVec 32 := Scalar.addi v542 c0_i32_232
  let c128_i32_235 : BitVec 32 := 128#32
  let v549 : BitVec 32 := Scalar.muli v543 c128_i32_235
  v549
def k0_mult78 (k0_t3 : Fin k0_t3_loop.trips) : BitVec 32 :=
  let c2_i32_242 : BitVec 32 := 2#32
  let c0_i32_89 : BitVec 32 := 0#32
  let c1_i32_91 : BitVec 32 := 1#32
  let arg14 : BitVec 32 := Scf.iv c0_i32_89 c1_i32_91 k0_t3
  let c7_i32_201 : BitVec 32 := 7#32
  let v463 : BitVec 32 := Scalar.muli arg14 c7_i32_201
  let c2_i32_202 : BitVec 32 := 2#32
  let v464 : BitVec 32 := Scalar.addi v463 c2_i32_202
  let v569 : BitVec 32 := Scalar.muli c2_i32_242 v464
  let c1_i32_243 : BitVec 32 := 1#32
  let v570 : BitVec 32 := Scalar.addi v569 c1_i32_243
  let c128_i32_246 : BitVec 32 := 128#32
  let v576 : BitVec 32 := Scalar.muli v570 c128_i32_246
  v576
def k0_mult79 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let c128_i32_259 : BitVec 32 := 128#32
  let v619 : BitVec 32 := Scalar.muli v618 c128_i32_259
  v619
def k0_mult80 (k0_t3 : Fin k0_t3_loop.trips) : BitVec 32 :=
  let c2_i32_260 : BitVec 32 := 2#32
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let v621 : BitVec 32 := Scalar.muli c2_i32_260 v618
  let c0_i32_261 : BitVec 32 := 0#32
  let v622 : BitVec 32 := Scalar.addi v621 c0_i32_261
  let c128_i32_264 : BitVec 32 := 128#32
  let v628 : BitVec 32 := Scalar.muli v622 c128_i32_264
  v628
def k0_mult81 (k0_t3 : Fin k0_t3_loop.trips) : BitVec 32 :=
  let c2_i32_271 : BitVec 32 := 2#32
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let v648 : BitVec 32 := Scalar.muli c2_i32_271 v618
  let c1_i32_272 : BitVec 32 := 1#32
  let v649 : BitVec 32 := Scalar.addi v648 c1_i32_272
  let c128_i32_275 : BitVec 32 := 128#32
  let v655 : BitVec 32 := Scalar.muli v649 c128_i32_275
  v655
def k0_mult82 (k0_t3 : Fin k0_t3_loop.trips) : BitVec 32 :=
  let c2_i32_287 : BitVec 32 := 2#32
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let v696 : BitVec 32 := Scalar.muli c2_i32_287 v618
  let c0_i32_288 : BitVec 32 := 0#32
  let v697 : BitVec 32 := Scalar.addi v696 c0_i32_288
  let c128_i32_291 : BitVec 32 := 128#32
  let v703 : BitVec 32 := Scalar.muli v697 c128_i32_291
  v703
def k0_mult83 (k0_t3 : Fin k0_t3_loop.trips) : BitVec 32 :=
  let c2_i32_298 : BitVec 32 := 2#32
  let c0_i32_89 : BitVec 32 := 0#32
  let c1_i32_91 : BitVec 32 := 1#32
  let arg14 : BitVec 32 := Scf.iv c0_i32_89 c1_i32_91 k0_t3
  let c7_i32_258 : BitVec 32 := 7#32
  let v617 : BitVec 32 := Scalar.muli arg14 c7_i32_258
  let c3_i32 : BitVec 32 := 3#32
  let v618 : BitVec 32 := Scalar.addi v617 c3_i32
  let v723 : BitVec 32 := Scalar.muli c2_i32_298 v618
  let c1_i32_299 : BitVec 32 := 1#32
  let v724 : BitVec 32 := Scalar.addi v723 c1_i32_299
  let c128_i32_302 : BitVec 32 := 128#32
  let v730 : BitVec 32 := Scalar.muli v724 c128_i32_302
  v730
def k0_mult84 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let c128_i32_316 : BitVec 32 := 128#32
  let v773 : BitVec 32 := Scalar.muli v772 c128_i32_316
  v773
def k0_mult85 (k0_t3 : Fin k0_t3_loop.trips) : BitVec 32 :=
  let c2_i32_317 : BitVec 32 := 2#32
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let v775 : BitVec 32 := Scalar.muli c2_i32_317 v772
  let c0_i32_318 : BitVec 32 := 0#32
  let v776 : BitVec 32 := Scalar.addi v775 c0_i32_318
  let c128_i32_321 : BitVec 32 := 128#32
  let v782 : BitVec 32 := Scalar.muli v776 c128_i32_321
  v782
def k0_mult86 (k0_t3 : Fin k0_t3_loop.trips) : BitVec 32 :=
  let c2_i32_328 : BitVec 32 := 2#32
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let v802 : BitVec 32 := Scalar.muli c2_i32_328 v772
  let c1_i32_329 : BitVec 32 := 1#32
  let v803 : BitVec 32 := Scalar.addi v802 c1_i32_329
  let c128_i32_332 : BitVec 32 := 128#32
  let v809 : BitVec 32 := Scalar.muli v803 c128_i32_332
  v809
def k0_mult87 (k0_t3 : Fin k0_t3_loop.trips) : BitVec 32 :=
  let c2_i32_344 : BitVec 32 := 2#32
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let v850 : BitVec 32 := Scalar.muli c2_i32_344 v772
  let c0_i32_345 : BitVec 32 := 0#32
  let v851 : BitVec 32 := Scalar.addi v850 c0_i32_345
  let c128_i32_348 : BitVec 32 := 128#32
  let v857 : BitVec 32 := Scalar.muli v851 c128_i32_348
  v857
def k0_mult88 (k0_t3 : Fin k0_t3_loop.trips) : BitVec 32 :=
  let c2_i32_355 : BitVec 32 := 2#32
  let c0_i32_89 : BitVec 32 := 0#32
  let c1_i32_91 : BitVec 32 := 1#32
  let arg14 : BitVec 32 := Scf.iv c0_i32_89 c1_i32_91 k0_t3
  let c7_i32_314 : BitVec 32 := 7#32
  let v771 : BitVec 32 := Scalar.muli arg14 c7_i32_314
  let c4_i32_315 : BitVec 32 := 4#32
  let v772 : BitVec 32 := Scalar.addi v771 c4_i32_315
  let v877 : BitVec 32 := Scalar.muli c2_i32_355 v772
  let c1_i32_356 : BitVec 32 := 1#32
  let v878 : BitVec 32 := Scalar.addi v877 c1_i32_356
  let c128_i32_359 : BitVec 32 := 128#32
  let v884 : BitVec 32 := Scalar.muli v878 c128_i32_359
  v884
def k0_mult89 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let c128_i32_372 : BitVec 32 := 128#32
  let v927 : BitVec 32 := Scalar.muli v926 c128_i32_372
  v927
def k0_mult90 (k0_t3 : Fin k0_t3_loop.trips) : BitVec 32 :=
  let c2_i32_373 : BitVec 32 := 2#32
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let v929 : BitVec 32 := Scalar.muli c2_i32_373 v926
  let c0_i32_374 : BitVec 32 := 0#32
  let v930 : BitVec 32 := Scalar.addi v929 c0_i32_374
  let c128_i32_377 : BitVec 32 := 128#32
  let v936 : BitVec 32 := Scalar.muli v930 c128_i32_377
  v936
def k0_mult91 (k0_t3 : Fin k0_t3_loop.trips) : BitVec 32 :=
  let c2_i32_384 : BitVec 32 := 2#32
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let v956 : BitVec 32 := Scalar.muli c2_i32_384 v926
  let c1_i32_385 : BitVec 32 := 1#32
  let v957 : BitVec 32 := Scalar.addi v956 c1_i32_385
  let c128_i32_388 : BitVec 32 := 128#32
  let v963 : BitVec 32 := Scalar.muli v957 c128_i32_388
  v963
def k0_mult92 (k0_t3 : Fin k0_t3_loop.trips) : BitVec 32 :=
  let c2_i32_400 : BitVec 32 := 2#32
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let v1004 : BitVec 32 := Scalar.muli c2_i32_400 v926
  let c0_i32_401 : BitVec 32 := 0#32
  let v1005 : BitVec 32 := Scalar.addi v1004 c0_i32_401
  let c128_i32_404 : BitVec 32 := 128#32
  let v1011 : BitVec 32 := Scalar.muli v1005 c128_i32_404
  v1011
def k0_mult93 (k0_t3 : Fin k0_t3_loop.trips) : BitVec 32 :=
  let c2_i32_411 : BitVec 32 := 2#32
  let c0_i32_89 : BitVec 32 := 0#32
  let c1_i32_91 : BitVec 32 := 1#32
  let arg14 : BitVec 32 := Scf.iv c0_i32_89 c1_i32_91 k0_t3
  let c7_i32_371 : BitVec 32 := 7#32
  let v925 : BitVec 32 := Scalar.muli arg14 c7_i32_371
  let c5_i32 : BitVec 32 := 5#32
  let v926 : BitVec 32 := Scalar.addi v925 c5_i32
  let v1031 : BitVec 32 := Scalar.muli c2_i32_411 v926
  let c1_i32_412 : BitVec 32 := 1#32
  let v1032 : BitVec 32 := Scalar.addi v1031 c1_i32_412
  let c128_i32_415 : BitVec 32 := 128#32
  let v1038 : BitVec 32 := Scalar.muli v1032 c128_i32_415
  v1038
def k0_mult94 (k0_t3 : Fin k0_t3_loop.trips) : BitVec 32 :=
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let c128_i32_428 : BitVec 32 := 128#32
  let v1081 : BitVec 32 := Scalar.muli v1080 c128_i32_428
  v1081
def k0_mult95 (k0_t3 : Fin k0_t3_loop.trips) : BitVec 32 :=
  let c2_i32_429 : BitVec 32 := 2#32
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let v1083 : BitVec 32 := Scalar.muli c2_i32_429 v1080
  let c0_i32_430 : BitVec 32 := 0#32
  let v1084 : BitVec 32 := Scalar.addi v1083 c0_i32_430
  let c128_i32_433 : BitVec 32 := 128#32
  let v1090 : BitVec 32 := Scalar.muli v1084 c128_i32_433
  v1090
def k0_mult96 (k0_t3 : Fin k0_t3_loop.trips) : BitVec 32 :=
  let c2_i32_440 : BitVec 32 := 2#32
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let v1110 : BitVec 32 := Scalar.muli c2_i32_440 v1080
  let c1_i32_441 : BitVec 32 := 1#32
  let v1111 : BitVec 32 := Scalar.addi v1110 c1_i32_441
  let c128_i32_444 : BitVec 32 := 128#32
  let v1117 : BitVec 32 := Scalar.muli v1111 c128_i32_444
  v1117
def k0_mult97 (k0_t3 : Fin k0_t3_loop.trips) : BitVec 32 :=
  let c2_i32_456 : BitVec 32 := 2#32
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let v1158 : BitVec 32 := Scalar.muli c2_i32_456 v1080
  let c0_i32_457 : BitVec 32 := 0#32
  let v1159 : BitVec 32 := Scalar.addi v1158 c0_i32_457
  let c128_i32_460 : BitVec 32 := 128#32
  let v1165 : BitVec 32 := Scalar.muli v1159 c128_i32_460
  v1165
def k0_mult98 (k0_t3 : Fin k0_t3_loop.trips) : BitVec 32 :=
  let c2_i32_467 : BitVec 32 := 2#32
  let c0_i32_89 : BitVec 32 := 0#32
  let c1_i32_91 : BitVec 32 := 1#32
  let arg14 : BitVec 32 := Scf.iv c0_i32_89 c1_i32_91 k0_t3
  let c7_i32_427 : BitVec 32 := 7#32
  let v1079 : BitVec 32 := Scalar.muli arg14 c7_i32_427
  let c6_i32 : BitVec 32 := 6#32
  let v1080 : BitVec 32 := Scalar.addi v1079 c6_i32
  let v1185 : BitVec 32 := Scalar.muli c2_i32_467 v1080
  let c1_i32_468 : BitVec 32 := 1#32
  let v1186 : BitVec 32 := Scalar.addi v1185 c1_i32_468
  let c128_i32_471 : BitVec 32 := 128#32
  let v1192 : BitVec 32 := Scalar.muli v1186 c128_i32_471
  v1192
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x112 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x14336 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x24 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x7168 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x112 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S12x256x7168 : Shape := ⟨3, ![12, 256, 7168]⟩
abbrev S12x256x112 : Shape := ⟨3, ![12, 256, 112]⟩
abbrev S12x24x14336 : Shape := ⟨3, ![12, 24, 14336]⟩
abbrev S12x256x24 : Shape := ⟨3, ![12, 256, 24]⟩
abbrev S12x256 : Shape := ⟨2, ![12, 256]⟩
abbrev S_ : Shape := ⟨0, ![]⟩
abbrev S12x256x112x64 : Shape := ⟨4, ![12, 256, 112, 64]⟩
abbrev S12x256x112x1 : Shape := ⟨4, ![12, 256, 112, 1]⟩
abbrev S12x24x112x64x2 : Shape := ⟨5, ![12, 24, 112, 64, 2]⟩
abbrev S12x24x112x64x1 : Shape := ⟨5, ![12, 24, 112, 64, 1]⟩
abbrev S12x24x112x64 : Shape := ⟨4, ![12, 24, 112, 64]⟩
abbrev S12x256x1x1 : Shape := ⟨4, ![12, 256, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S12x256x7168, .i8⟩
  | .hbm, ⟨1, _⟩ => ⟨S12x256x112, .bf16⟩
  | .hbm, ⟨2, _⟩ => ⟨S12x24x14336, .bf16⟩
  | .hbm, ⟨3, _⟩ => ⟨S12x256x24, .bf16⟩
  | .hbm, ⟨4, _⟩ => ⟨S12x256, .f32⟩
  | .hbm, ⟨5, _⟩ => ⟨S12x256x7168, .i32⟩
  | .hbm, ⟨6, _⟩ => ⟨S_, .i32⟩
  | .hbm, ⟨7, _⟩ => ⟨S12x256x7168, .i32⟩
  | .hbm, ⟨8, _⟩ => ⟨S12x256x7168, .i32⟩
  | .hbm, ⟨9, _⟩ => ⟨S_, .i32⟩
  | .hbm, ⟨10, _⟩ => ⟨S12x256x7168, .i32⟩
  | .hbm, ⟨11, _⟩ => ⟨S12x256x7168, .i1⟩
  | .hbm, ⟨12, _⟩ => ⟨S_, .i32⟩
  | .hbm, ⟨13, _⟩ => ⟨S12x256x7168, .i32⟩
  | .hbm, ⟨14, _⟩ => ⟨S12x256x7168, .i32⟩
  | .hbm, ⟨15, _⟩ => ⟨S12x256x7168, .i32⟩
  | .hbm, ⟨16, _⟩ => ⟨S12x256x112x64, .i32⟩
  | .hbm, ⟨17, _⟩ => ⟨S_, .i32⟩
  | .hbm, ⟨18, _⟩ => ⟨S12x256x7168, .i32⟩
  | .hbm, ⟨19, _⟩ => ⟨S12x256x7168, .i32⟩
  | .hbm, ⟨20, _⟩ => ⟨S_, .i32⟩
  | .hbm, ⟨21, _⟩ => ⟨S12x256x7168, .i32⟩
  | .hbm, ⟨22, _⟩ => ⟨S12x256x7168, .i32⟩
  | .hbm, ⟨23, _⟩ => ⟨S_, .i32⟩
  | .hbm, ⟨24, _⟩ => ⟨S12x256x7168, .i32⟩
  | .hbm, ⟨25, _⟩ => ⟨S12x256x7168, .i1⟩
  | .hbm, ⟨26, _⟩ => ⟨S_, .i32⟩
  | .hbm, ⟨27, _⟩ => ⟨S12x256x7168, .i32⟩
  | .hbm, ⟨28, _⟩ => ⟨S12x256x7168, .i32⟩
  | .hbm, ⟨29, _⟩ => ⟨S12x256x7168, .i32⟩
  | .hbm, ⟨30, _⟩ => ⟨S12x256x112x64, .i32⟩
  | .hbm, ⟨31, _⟩ => ⟨S12x256x112x1, .bf16⟩
  | .hbm, ⟨32, _⟩ => ⟨S12x256x112x64, .bf16⟩
  | .hbm, ⟨33, _⟩ => ⟨S12x256x112x64, .bf16⟩
  | .hbm, ⟨34, _⟩ => ⟨S12x256x112x64, .bf16⟩
  | .hbm, ⟨35, _⟩ => ⟨S12x256x112x64, .bf16⟩
  | .hbm, ⟨36, _⟩ => ⟨S12x256x112x64, .bf16⟩
  | .hbm, ⟨37, _⟩ => ⟨S12x256x112x64, .bf16⟩
  | .hbm, ⟨38, _⟩ => ⟨S12x24x112x64x2, .bf16⟩
  | .hbm, ⟨39, _⟩ => ⟨S12x24x112x64x1, .bf16⟩
  | .hbm, ⟨40, _⟩ => ⟨S12x24x112x64, .bf16⟩
  | .hbm, ⟨41, _⟩ => ⟨S12x256x112x64, .f32⟩
  | .hbm, ⟨42, _⟩ => ⟨S12x24x112x64x1, .bf16⟩
  | .hbm, ⟨43, _⟩ => ⟨S12x24x112x64, .bf16⟩
  | .hbm, ⟨44, _⟩ => ⟨S12x256x112x64, .f32⟩
  | .hbm, ⟨45, _⟩ => ⟨S12x256x112x64, .f32⟩
  | .hbm, ⟨46, _⟩ => ⟨S_, .f32⟩
  | .hbm, ⟨47, _⟩ => ⟨S12x256x112x64, .f32⟩
  | .hbm, ⟨48, _⟩ => ⟨S12x256x112x64, .f32⟩
  | .hbm, ⟨49, _⟩ => ⟨S12x256x112x64, .f32⟩
  | .hbm, ⟨50, _⟩ => ⟨S12x256x112x64, .f32⟩
  | .hbm, ⟨51, _⟩ => ⟨S_, .f32⟩
  | .hbm, ⟨52, _⟩ => ⟨S12x256x112x64, .f32⟩
  | .hbm, ⟨53, _⟩ => ⟨S12x256x112x64, .f32⟩
  | .hbm, ⟨54, _⟩ => ⟨S12x256x112x64, .f32⟩
  | .hbm, ⟨55, _⟩ => ⟨S12x256x112x64, .f32⟩
  | .hbm, ⟨56, _⟩ => ⟨S_, .f32⟩
  | .hbm, ⟨57, _⟩ => ⟨S12x256, .f32⟩
  | .hbm, ⟨58, _⟩ => ⟨S12x256x112x64, .f32⟩
  | .hbm, ⟨59, _⟩ => ⟨S_, .f32⟩
  | .hbm, ⟨60, _⟩ => ⟨S12x256, .f32⟩
  | .hbm, ⟨61, _⟩ => ⟨S12x256, .f32⟩
  | .hbm, ⟨62, _⟩ => ⟨S12x256, .f32⟩
  | .hbm, ⟨63, _⟩ => ⟨S12x256, .f32⟩
  | .hbm, ⟨64, _⟩ => ⟨S12x256x1x1, .f32⟩
  | .hbm, ⟨65, _⟩ => ⟨S12x256x112x64, .f32⟩
  | .hbm, ⟨66, _⟩ => ⟨S12x256x112x64, .f32⟩
  | .hbm, ⟨67, _⟩ => ⟨S12x256x112x64, .f32⟩
  | .hbm, ⟨68, _⟩ => ⟨S12x256x112x64, .f32⟩
  | .hbm, ⟨69, _⟩ => ⟨S12x256x112x64, .f32⟩
  | .hbm, ⟨70, _⟩ => ⟨S_, .f32⟩
  | .hbm, ⟨71, _⟩ => ⟨S12x256x112, .f32⟩
  | .hbm, ⟨72, _⟩ => ⟨S12x256x112x64, .f32⟩
  | .hbm, ⟨73, _⟩ => ⟨S_, .f32⟩
  | .hbm, ⟨74, _⟩ => ⟨S12x256x112, .f32⟩
  | .hbm, ⟨75, _⟩ => ⟨S12x256x112, .f32⟩
  | .hbm, ⟨76, _⟩ => ⟨S_, .f32⟩
  | .hbm, ⟨77, _⟩ => ⟨S12x256x112, .f32⟩
  | .hbm, ⟨78, _⟩ => ⟨S12x256x112, .i1⟩
  | .hbm, ⟨79, _⟩ => ⟨S_, .f32⟩
  | .hbm, ⟨80, _⟩ => ⟨S12x256x112, .f32⟩
  | .hbm, ⟨81, _⟩ => ⟨S12x256x112, .f32⟩
  | .hbm, ⟨82, _⟩ => ⟨S_, .f32⟩
  | .hbm, ⟨83, _⟩ => ⟨S_, .f32⟩
  | .hbm, ⟨84, _⟩ => ⟨S12x256x112, .f32⟩
  | .hbm, ⟨85, _⟩ => ⟨S12x256x112, .f32⟩
  | .hbm, ⟨86, _⟩ => ⟨S12x256x112, .bf16⟩
  | .hbm, ⟨87, _⟩ => ⟨S12x256x112, .f32⟩
  | .hbm, ⟨88, _⟩ => ⟨S12x256x112x1, .f32⟩
  | .hbm, ⟨89, _⟩ => ⟨S12x256x112x64, .f32⟩
  | .hbm, ⟨90, _⟩ => ⟨S12x256x112x64, .f32⟩
  | .hbm, ⟨91, _⟩ => ⟨S12x256x112x64, .f32⟩
  | .hbm, ⟨92, _⟩ => ⟨S_, .i32⟩
  | .hbm, ⟨93, _⟩ => ⟨S_, .i32⟩
  | .hbm, ⟨94, _⟩ => ⟨S_, .f32⟩
  | .hbm, ⟨95, _⟩ => ⟨S12x256x112x64, .f32⟩
  | .hbm, ⟨96, _⟩ => ⟨S12x256x112x64, .f32⟩
  | .hbm, ⟨97, _⟩ => ⟨S_, .f32⟩
  | .hbm, ⟨98, _⟩ => ⟨S12x256x112x64, .f32⟩
  | .hbm, ⟨99, _⟩ => ⟨S12x256x112x64, .f32⟩
  | .hbm, ⟨100, _⟩ => ⟨S12x256x112x64, .i32⟩
  | .hbm, ⟨101, _⟩ => ⟨S12x256x112x64, .f32⟩
  | .hbm, ⟨102, _⟩ => ⟨S12x256x112x64, .f32⟩
  | .hbm, ⟨103, _⟩ => ⟨S12x256x112x64, .f32⟩
  | .hbm, ⟨104, _⟩ => ⟨S_, .i32⟩
  | .hbm, ⟨105, _⟩ => ⟨S_, .i32⟩
  | .hbm, ⟨106, _⟩ => ⟨S_, .f32⟩
  | .hbm, ⟨107, _⟩ => ⟨S12x256x112x64, .f32⟩
  | .hbm, ⟨108, _⟩ => ⟨S12x256x112x64, .f32⟩
  | .hbm, ⟨109, _⟩ => ⟨S_, .f32⟩
  | .hbm, ⟨110, _⟩ => ⟨S12x256x112x64, .f32⟩
  | .hbm, ⟨111, _⟩ => ⟨S12x256x112x64, .f32⟩
  | .hbm, ⟨112, _⟩ => ⟨S12x256x112x64, .i32⟩
  | .hbm, ⟨113, _⟩ => ⟨S_, .i32⟩
  | .hbm, ⟨114, _⟩ => ⟨S12x256x112x64, .i32⟩
  | .hbm, ⟨115, _⟩ => ⟨S12x256x112x64, .i32⟩
  | .hbm, ⟨116, _⟩ => ⟨S_, .i32⟩
  | .hbm, ⟨117, _⟩ => ⟨S12x256x112x64, .i32⟩
  | .hbm, ⟨118, _⟩ => ⟨S12x256x112x64, .i32⟩
  | .hbm, ⟨119, _⟩ => ⟨S_, .i32⟩
  | .hbm, ⟨120, _⟩ => ⟨S12x256x112x64, .i32⟩
  | .hbm, ⟨121, _⟩ => ⟨S12x256x112x64, .i32⟩
  | .hbm, ⟨122, _⟩ => ⟨S12x256x112x64, .i32⟩
  | .hbm, ⟨123, _⟩ => ⟨S12x256x112x64, .i8⟩
  | .hbm, ⟨124, _⟩ => ⟨S12x256x7168, .i8⟩
  | _, _ => ⟨S12x256x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_call2_v0 : Ref sig .tc := ⟨.hbm, 83, rfl⟩
abbrev main_call2_v1 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_c_15 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_c_17 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_c_19 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩

abbrev nD : Nat := 1
abbrev τ : Topo := Topo.v7x

variable {F : FTy → Type} [FloatOps F]
-- ==== Proof.RefRun.lean ====
/-
What the reference program's host line computes, in named stages: the two nibbles of every code byte, the merged
weight of the even and of the odd columns, the row factor, the scale of every group and the packed codes.
-/
module

public import proofs.«01_k».proof.Proof.Gen.ReferenceIdeal
public import Idealize.ShloMosaic.Lib.StableHlo.Run
public import Idealize.ShloMosaic.Lib.StableHlo.RunRead

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The signed value of the low four bits of every byte, in groups of 64 bytes. -/
def nib (n : IVec S12x256x7168 32) : IVec S12x256x112x64 32 :=
  shapeCast _ (select (cmpi .sge (andi n (broadcastInDim S12x256x7168 ![] bcast_S_S12x256x7168 (constantI S_ 32 15#32))) (broadcastInDim S12x256x7168 ![] bcast_S_S12x256x7168 (constantI S_ 32 8#32))) (subi (andi n (broadcastInDim S12x256x7168 ![] bcast_S_S12x256x7168 (constantI S_ 32 15#32))) (broadcastInDim S12x256x7168 ![] bcast_S_S12x256x7168 (constantI S_ 32 16#32))) (andi n (broadcastInDim S12x256x7168 ![] bcast_S_S12x256x7168 (constantI S_ 32 15#32)))) shapeCasts_S12x256x7168_S12x256x112x64

/-- The low nibble of every code byte. -/
def nibLo (a0 : IVec S12x256x7168 8) : IVec S12x256x112x64 32 := nib (extui 32 a0 natLt_8_32)

/-- The high nibble of every code byte. -/
def nibHi (a0 : IVec S12x256x7168 8) : IVec S12x256x112x64 32 :=
  nib (Host.shrsi (extui 32 a0 natLt_8_32) (broadcastInDim S12x256x7168 ![] bcast_S_S12x256x7168 (constantI S_ 32 4#32)))

/-- The even columns of the low-rank factor. -/
def aLo (a2 : FVec F S12x24x14336 .bf16) : FVec F S12x24x112x64 .bf16 :=
  shapeCast _ (extractStridedSlice S12x24x112x64x1 ![0, 0, 0, 0, 0] (shapeCast _ a2 shapeCasts_S12x24x14336_S12x24x112x64x2) slices_S12x24x112x64x2_S12x24x112x64x1_0_0_0_0_0) shapeCasts_S12x24x112x64x1_S12x24x112x64

/-- The odd columns of the low-rank factor. -/
def aHi (a2 : FVec F S12x24x14336 .bf16) : FVec F S12x24x112x64 .bf16 :=
  shapeCast _ (extractStridedSlice S12x24x112x64x1 ![0, 0, 0, 0, 1] (shapeCast _ a2 shapeCasts_S12x24x14336_S12x24x112x64x2) slices_S12x24x112x64x2_S12x24x112x64x1_0_0_0_0_1) shapeCasts_S12x24x112x64x1_S12x24x112x64

/-- The dequantised weight plus the scaled low-rank product. -/
def merged (n : IVec S12x256x112x64 32) (a1 : FVec F S12x256x112 .bf16) (al : FVec F S12x24x112x64 .bf16)
    (a3 : FVec F S12x256x24 .bf16) : FVec F S12x256x112x64 .f32 :=
  addf (extf .f32 (mulf (sitofp .bf16 n) (broadcastInDim S12x256x112x64 ![0, 1, 2, 3] bcast_S12x256x112x1_S12x256x112x64_0_1_2_3 (broadcastInDim S12x256x112x1 ![0, 1, 2] bcast_S12x256x112_S12x256x112x1_0_1_2 a1))) bitsLt_bf16_f32) (mulf (broadcastInDim S12x256x112x64 ![] bcast_S_S12x256x112x64 (constant S_ .f32 0x3F2AAAAB#32)) (Host.dotGeneral dot_S12x256x24_S12x24x112x64_S12x256x112x64_2_1_1_23_0_0 none a3 al))

/-- The merged weight's even columns. -/
def mLo (a0 : IVec S12x256x7168 8) (a1 : FVec F S12x256x112 .bf16) (a2 : FVec F S12x24x14336 .bf16)
    (a3 : FVec F S12x256x24 .bf16) : FVec F S12x256x112x64 .f32 := merged (nibLo a0) a1 (aLo a2) a3

/-- The merged weight's odd columns. -/
def mHi (a0 : IVec S12x256x7168 8) (a1 : FVec F S12x256x112 .bf16) (a2 : FVec F S12x24x14336 .bf16)
    (a3 : FVec F S12x256x24 .bf16) : FVec F S12x256x112x64 .f32 := merged (nibHi a0) a1 (aHi a2) a3

/-- The magnitude over the norm of every row. -/
def factor (lo hi : FVec F S12x256x112x64 .f32) (a4 : FVec F S12x256 .f32) : FVec F S12x256 .f32 :=
  Host.divf a4 (Host.sqrt (addf (Host.reduceAdd (mulf lo lo) (constant S_ .f32 0x00000000#32) reducesTo_S12x256x112x64_S12x256_d2_3 h_S_) (Host.reduceAdd (mulf hi hi) (constant S_ .f32 0x00000000#32) reducesTo_S12x256x112x64_S12x256_d2_3 h_S_)))

/-- Every column times its row's factor. -/
def timesRow (x : FVec F S12x256x112x64 .f32) (f : FVec F S12x256 .f32) : FVec F S12x256x112x64 .f32 :=
  mulf x (broadcastInDim S12x256x112x64 ![0, 1, 2, 3] bcast_S12x256x1x1_S12x256x112x64_0_1_2_3 (broadcastInDim S12x256x1x1 ![0, 1] bcast_S12x256_S12x256x1x1_0_1 f))

/-- The largest absolute value of every group. -/
def amax (lo hi : FVec F S12x256x112x64 .f32) : FVec F S12x256x112 .f32 :=
  maximumf (Host.reduce FloatOps.maximumf (Host.absf lo) (constant S_ .f32 0xFF800000#32) reducesTo_S12x256x112x64_S12x256x112_d3 h_S_) (Host.reduce FloatOps.maximumf (Host.absf hi) (constant S_ .f32 0xFF800000#32) reducesTo_S12x256x112x64_S12x256x112_d3 h_S_)

/-- The scale of a group whose largest absolute value is `a`. -/
def scale (a : FVec F S12x256x112 .f32) : FVec F S12x256x112 .bf16 :=
  truncf .bf16 (select (cmpf .oeq a (broadcastInDim S12x256x112 ![] bcast_S_S12x256x112 (constant S_ .f32 0x00000000#32))) (broadcastInDim S12x256x112 ![] bcast_S_S12x256x112 (id (constant S_ .f32 0x3F800000#32))) (Host.divf a (broadcastInDim S12x256x112 ![] bcast_S_S12x256x112 (constant S_ .f32 0x40E00000#32)))) bitsLt_bf16_f32

/-- The rounded and clipped quotient by the scale. -/
def quant (x : FVec F S12x256x112x64 .f32) (s : FVec F S12x256x112 .bf16) : IVec S12x256x112x64 32 :=
  fptosi 32 (minimumf (broadcastInDim S12x256x112x64 ![] bcast_S_S12x256x112x64 (sitofp .f32 (constantI S_ 32 7#32))) (maximumf (broadcastInDim S12x256x112x64 ![] bcast_S_S12x256x112x64 (sitofp .f32 (constantI S_ 32 4294967289#32))) (Host.roundeven (Host.divf x (broadcastInDim S12x256x112x64 ![0, 1, 2, 3] bcast_S12x256x112x1_S12x256x112x64_0_1_2_3 (broadcastInDim S12x256x112x1 ![0, 1, 2] bcast_S12x256x112_S12x256x112x1_0_1_2 (extf .f32 s bitsLt_bf16_f32)))))))

/-- Two codes to a byte. -/
def pack (lo hi : IVec S12x256x112x64 32) : IVec S12x256x7168 8 :=
  shapeCast _ (trunci 8 (ori (Host.shli (andi hi (broadcastInDim S12x256x112x64 ![] bcast_S_S12x256x112x64 (constantI S_ 32 15#32))) (broadcastInDim S12x256x112x64 ![] bcast_S_S12x256x112x64 (constantI S_ 32 4#32))) (andi lo (broadcastInDim S12x256x112x64 ![] bcast_S_S12x256x112x64 (constantI S_ 32 15#32)))) natLt_8_32) shapeCasts_S12x256x112x64_S12x256x7168

section
variable (a0 : IVec S12x256x7168 8) (a1 : FVec F S12x256x112 .bf16) (a2 : FVec F S12x24x14336 .bf16)
  (a3 : FVec F S12x256x24 .bf16) (a4 : FVec F S12x256 .f32)

/-- The row factor of the arguments. -/
def rowFactor : FVec F S12x256 .f32 := factor (mLo a0 a1 a2 a3) (mHi a0 a1 a2 a3) a4

/-- The renormalised even columns. -/
def mfLo : FVec F S12x256x112x64 .f32 := timesRow (mLo a0 a1 a2 a3) (rowFactor a0 a1 a2 a3 a4)

/-- The renormalised odd columns. -/
def mfHi : FVec F S12x256x112x64 .f32 := timesRow (mHi a0 a1 a2 a3) (rowFactor a0 a1 a2 a3 a4)

/-- The second result: the scales. -/
def outScales : FVec F S12x256x112 .bf16 := scale (amax (mfLo a0 a1 a2 a3 a4) (mfHi a0 a1 a2 a3 a4))

/-- The first result: the packed codes. -/
def outCodes : IVec S12x256x7168 8 :=
  pack (quant (mfLo a0 a1 a2 a3 a4) (outScales a0 a1 a2 a3 a4)) (quant (mfHi a0 a1 a2 a3 a4) (outScales a0 a1 a2 a3 a4))
end

/-- @main's 120 operations, in order (a called function's operations stand in its call's place, spelt `TRef.…`). -/
abbrev ops : List (HloOp τ sig (Elt F)) :=
  [ unary main_arg0 main_v0 ((extui 32 · natLt_8_32) : (⟨S12x256x7168, .i8⟩ : BufTy).Contents (Elt F) → (⟨S12x256x7168, .i32⟩ : BufTy).Contents (Elt F)),
    nullary main_c (constantI S_ 32 15#32),
    unary main_c main_v1 (broadcastInDim S12x256x7168 ![] bcast_S_S12x256x7168 : (⟨S_, .i32⟩ : BufTy).Contents (Elt F) → (⟨S12x256x7168, .i32⟩ : BufTy).Contents (Elt F)),
    binary main_v0 main_v1 main_v2 (andi : (⟨S12x256x7168, .i32⟩ : BufTy).Contents (Elt F) → (⟨S12x256x7168, .i32⟩ : BufTy).Contents (Elt F) → (⟨S12x256x7168, .i32⟩ : BufTy).Contents (Elt F)),
    nullary main_c_0 (constantI S_ 32 8#32),
    unary main_c_0 main_v3 (broadcastInDim S12x256x7168 ![] bcast_S_S12x256x7168 : (⟨S_, .i32⟩ : BufTy).Contents (Elt F) → (⟨S12x256x7168, .i32⟩ : BufTy).Contents (Elt F)),
    binary main_v2 main_v3 main_v4 (cmpi .sge : (⟨S12x256x7168, .i32⟩ : BufTy).Contents (Elt F) → (⟨S12x256x7168, .i32⟩ : BufTy).Contents (Elt F) → (⟨S12x256x7168, .i1⟩ : BufTy).Contents (Elt F)),
    nullary main_c_1 (constantI S_ 32 16#32),
    unary main_c_1 main_v5 (broadcastInDim S12x256x7168 ![] bcast_S_S12x256x7168 : (⟨S_, .i32⟩ : BufTy).Contents (Elt F) → (⟨S12x256x7168, .i32⟩ : BufTy).Contents (Elt F)),
    binary main_v2 main_v5 main_v6 (subi : (⟨S12x256x7168, .i32⟩ : BufTy).Contents (Elt F) → (⟨S12x256x7168, .i32⟩ : BufTy).Contents (Elt F) → (⟨S12x256x7168, .i32⟩ : BufTy).Contents (Elt F)),
    TRef.ternary (TRef.of (T := ⟨S12x256x7168, .i1⟩) main_v4) (TRef.of (T := ⟨S12x256x7168, .i32⟩) main_v6) (TRef.of (T := ⟨S12x256x7168, .i32⟩) main_v2) (TRef.of (T := ⟨S12x256x7168, .i32⟩) main_v7) select,
    reshape main_v7 main_v8 (rfl : (.i32 : EltTy) = .i32) shapeCasts_S12x256x7168_S12x256x112x64,
    nullary main_c_2 (constantI S_ 32 4#32),
    unary main_c_2 main_v9 (broadcastInDim S12x256x7168 ![] bcast_S_S12x256x7168 : (⟨S_, .i32⟩ : BufTy).Contents (Elt F) → (⟨S12x256x7168, .i32⟩ : BufTy).Contents (Elt F)),
    binary main_v0 main_v9 main_v10 (Host.shrsi : (⟨S12x256x7168, .i32⟩ : BufTy).Contents (Elt F) → (⟨S12x256x7168, .i32⟩ : BufTy).Contents (Elt F) → (⟨S12x256x7168, .i32⟩ : BufTy).Contents (Elt F)),
    nullary main_c_3 (constantI S_ 32 15#32),
    unary main_c_3 main_v11 (broadcastInDim S12x256x7168 ![] bcast_S_S12x256x7168 : (⟨S_, .i32⟩ : BufTy).Contents (Elt F) → (⟨S12x256x7168, .i32⟩ : BufTy).Contents (Elt F)),
    binary main_v10 main_v11 main_v12 (andi : (⟨S12x256x7168, .i32⟩ : BufTy).Contents (Elt F) → (⟨S12x256x7168, .i32⟩ : BufTy).Contents (Elt F) → (⟨S12x256x7168, .i32⟩ : BufTy).Contents (Elt F)),
    nullary main_c_4 (constantI S_ 32 8#32),
    unary main_c_4 main_v13 (broadcastInDim S12x256x7168 ![] bcast_S_S12x256x7168 : (⟨S_, .i32⟩ : BufTy).Contents (Elt F) → (⟨S12x256x7168, .i32⟩ : BufTy).Contents (Elt F)),
    binary main_v12 main_v13 main_v14 (cmpi .sge : (⟨S12x256x7168, .i32⟩ : BufTy).Contents (Elt F) → (⟨S12x256x7168, .i32⟩ : BufTy).Contents (Elt F) → (⟨S12x256x7168, .i1⟩ : BufTy).Contents (Elt F)),
    nullary main_c_5 (constantI S_ 32 16#32),
    unary main_c_5 main_v15 (broadcastInDim S12x256x7168 ![] bcast_S_S12x256x7168 : (⟨S_, .i32⟩ : BufTy).Contents (Elt F) → (⟨S12x256x7168, .i32⟩ : BufTy).Contents (Elt F)),
    binary main_v12 main_v15 main_v16 (subi : (⟨S12x256x7168, .i32⟩ : BufTy).Contents (Elt F) → (⟨S12x256x7168, .i32⟩ : BufTy).Contents (Elt F) → (⟨S12x256x7168, .i32⟩ : BufTy).Contents (Elt F)),
    TRef.ternary (TRef.of (T := ⟨S12x256x7168, .i1⟩) main_v14) (TRef.of (T := ⟨S12x256x7168, .i32⟩) main_v16) (TRef.of (T := ⟨S12x256x7168, .i32⟩) main_v12) (TRef.of (T := ⟨S12x256x7168, .i32⟩) main_v17) select,
    reshape main_v17 main_v18 (rfl : (.i32 : EltTy) = .i32) shapeCasts_S12x256x7168_S12x256x112x64,
    unary main_arg1 main_v19 (broadcastInDim S12x256x112x1 ![0, 1, 2] bcast_S12x256x112_S12x256x112x1_0_1_2 : (⟨S12x256x112, .bf16⟩ : BufTy).Contents (Elt F) → (⟨S12x256x112x1, .bf16⟩ : BufTy).Contents (Elt F)),
    unary main_v8 main_v20 (sitofp .bf16 : (⟨S12x256x112x64, .i32⟩ : BufTy).Contents (Elt F) → (⟨S12x256x112x64, .bf16⟩ : BufTy).Contents (Elt F)),
    unary main_v19 main_v21 (broadcastInDim S12x256x112x64 ![0, 1, 2, 3] bcast_S12x256x112x1_S12x256x112x64_0_1_2_3 : (⟨S12x256x112x1, .bf16⟩ : BufTy).Contents (Elt F) → (⟨S12x256x112x64, .bf16⟩ : BufTy).Contents (Elt F)),
    binary main_v20 main_v21 main_v22 (mulf : (⟨S12x256x112x64, .bf16⟩ : BufTy).Contents (Elt F) → (⟨S12x256x112x64, .bf16⟩ : BufTy).Contents (Elt F) → (⟨S12x256x112x64, .bf16⟩ : BufTy).Contents (Elt F)),
    unary main_v18 main_v23 (sitofp .bf16 : (⟨S12x256x112x64, .i32⟩ : BufTy).Contents (Elt F) → (⟨S12x256x112x64, .bf16⟩ : BufTy).Contents (Elt F)),
    unary main_v19 main_v24 (broadcastInDim S12x256x112x64 ![0, 1, 2, 3] bcast_S12x256x112x1_S12x256x112x64_0_1_2_3 : (⟨S12x256x112x1, .bf16⟩ : BufTy).Contents (Elt F) → (⟨S12x256x112x64, .bf16⟩ : BufTy).Contents (Elt F)),
    binary main_v23 main_v24 main_v25 (mulf : (⟨S12x256x112x64, .bf16⟩ : BufTy).Contents (Elt F) → (⟨S12x256x112x64, .bf16⟩ : BufTy).Contents (Elt F) → (⟨S12x256x112x64, .bf16⟩ : BufTy).Contents (Elt F)),
    reshape main_arg2 main_v26 (rfl : (.bf16 : EltTy) = .bf16) shapeCasts_S12x24x14336_S12x24x112x64x2,
    unary main_v26 main_v27 ((extractStridedSlice S12x24x112x64x1 ![0, 0, 0, 0, 0] · slices_S12x24x112x64x2_S12x24x112x64x1_0_0_0_0_0) : (⟨S12x24x112x64x2, .bf16⟩ : BufTy).Contents (Elt F) → (⟨S12x24x112x64x1, .bf16⟩ : BufTy).Contents (Elt F)),
    reshape main_v27 main_v28 (rfl : (.bf16 : EltTy) = .bf16) shapeCasts_S12x24x112x64x1_S12x24x112x64,
    binary main_arg3 main_v28 main_v29 ((fun l r => Host.dotGeneral dot_S12x256x24_S12x24x112x64_S12x256x112x64_2_1_1_23_0_0 none l r) : (⟨S12x256x24, .bf16⟩ : BufTy).Contents (Elt F) → (⟨S12x24x112x64, .bf16⟩ : BufTy).Contents (Elt F) → (⟨S12x256x112x64, .f32⟩ : BufTy).Contents (Elt F)),
    unary main_v26 main_v30 ((extractStridedSlice S12x24x112x64x1 ![0, 0, 0, 0, 1] · slices_S12x24x112x64x2_S12x24x112x64x1_0_0_0_0_1) : (⟨S12x24x112x64x2, .bf16⟩ : BufTy).Contents (Elt F) → (⟨S12x24x112x64x1, .bf16⟩ : BufTy).Contents (Elt F)),
    reshape main_v30 main_v31 (rfl : (.bf16 : EltTy) = .bf16) shapeCasts_S12x24x112x64x1_S12x24x112x64,
    binary main_arg3 main_v31 main_v32 ((fun l r => Host.dotGeneral dot_S12x256x24_S12x24x112x64_S12x256x112x64_2_1_1_23_0_0 none l r) : (⟨S12x256x24, .bf16⟩ : BufTy).Contents (Elt F) → (⟨S12x24x112x64, .bf16⟩ : BufTy).Contents (Elt F) → (⟨S12x256x112x64, .f32⟩ : BufTy).Contents (Elt F)),
    unary main_v22 main_v33 ((extf .f32 · bitsLt_bf16_f32) : (⟨S12x256x112x64, .bf16⟩ : BufTy).Contents (Elt F) → (⟨S12x256x112x64, .f32⟩ : BufTy).Contents (Elt F)),
    nullary main_cst (constant S_ .f32 0x3F2AAAAB#32),
    unary main_cst main_v34 (broadcastInDim S12x256x112x64 ![] bcast_S_S12x256x112x64 : (⟨S_, .f32⟩ : BufTy).Contents (Elt F) → (⟨S12x256x112x64, .f32⟩ : BufTy).Contents (Elt F)),
    binary main_v34 main_v29 main_v35 (mulf : (⟨S12x256x112x64, .f32⟩ : BufTy).Contents (Elt F) → (⟨S12x256x112x64, .f32⟩ : BufTy).Contents (Elt F) → (⟨S12x256x112x64, .f32⟩ : BufTy).Contents (Elt F)),
    binary main_v33 main_v35 main_v36 (addf : (⟨S12x256x112x64, .f32⟩ : BufTy).Contents (Elt F) → (⟨S12x256x112x64, .f32⟩ : BufTy).Contents (Elt F) → (⟨S12x256x112x64, .f32⟩ : BufTy).Contents (Elt F)),
    unary main_v25 main_v37 ((extf .f32 · bitsLt_bf16_f32) : (⟨S12x256x112x64, .bf16⟩ : BufTy).Contents (Elt F) → (⟨S12x256x112x64, .f32⟩ : BufTy).Contents (Elt F)),
    nullary main_cst_6 (constant S_ .f32 0x3F2AAAAB#32),
    unary main_cst_6 main_v38 (broadcastInDim S12x256x112x64 ![] bcast_S_S12x256x112x64 : (⟨S_, .f32⟩ : BufTy).Contents (Elt F) → (⟨S12x256x112x64, .f32⟩ : BufTy).Contents (Elt F)),
    binary main_v38 main_v32 main_v39 (mulf : (⟨S12x256x112x64, .f32⟩ : BufTy).Contents (Elt F) → (⟨S12x256x112x64, .f32⟩ : BufTy).Contents (Elt F) → (⟨S12x256x112x64, .f32⟩ : BufTy).Contents (Elt F)),
    binary main_v37 main_v39 main_v40 (addf : (⟨S12x256x112x64, .f32⟩ : BufTy).Contents (Elt F) → (⟨S12x256x112x64, .f32⟩ : BufTy).Contents (Elt F) → (⟨S12x256x112x64, .f32⟩ : BufTy).Contents (Elt F)),
    binary main_v36 main_v36 main_v41 (mulf : (⟨S12x256x112x64, .f32⟩ : BufTy).Contents (Elt F) → (⟨S12x256x112x64, .f32⟩ : BufTy).Contents (Elt F) → (⟨S12x256x112x64, .f32⟩ : BufTy).Contents (Elt F)),
    nullary main_cst_7 (constant S_ .f32 0x00000000#32),
    binary main_v41 main_cst_7 main_v42 ((fun x v => Host.reduceAdd x v reducesTo_S12x256x112x64_S12x256_d2_3 h_S_) : (⟨S12x256x112x64, .f32⟩ : BufTy).Contents (Elt F) → (⟨S_, .f32⟩ : BufTy).Contents (Elt F) → (⟨S12x256, .f32⟩ : BufTy).Contents (Elt F)),
    binary main_v40 main_v40 main_v43 (mulf : (⟨S12x256x112x64, .f32⟩ : BufTy).Contents (Elt F) → (⟨S12x256x112x64, .f32⟩ : BufTy).Contents (Elt F) → (⟨S12x256x112x64, .f32⟩ : BufTy).Contents (Elt F)),
    nullary main_cst_8 (constant S_ .f32 0x00000000#32),
    binary main_v43 main_cst_8 main_v44 ((fun x v => Host.reduceAdd x v reducesTo_S12x256x112x64_S12x256_d2_3 h_S_) : (⟨S12x256x112x64, .f32⟩ : BufTy).Contents (Elt F) → (⟨S_, .f32⟩ : BufTy).Contents (Elt F) → (⟨S12x256, .f32⟩ : BufTy).Contents (Elt F)),
    binary main_v42 main_v44 main_v45 (addf : (⟨S12x256, .f32⟩ : BufTy).Contents (Elt F) → (⟨S12x256, .f32⟩ : BufTy).Contents (Elt F) → (⟨S12x256, .f32⟩ : BufTy).Contents (Elt F)),
    unary main_v45 main_v46 (Host.sqrt : (⟨S12x256, .f32⟩ : BufTy).Contents (Elt F) → (⟨S12x256, .f32⟩ : BufTy).Contents (Elt F)),
    binary main_arg4 main_v46 main_v47 (Host.divf : (⟨S12x256, .f32⟩ : BufTy).Contents (Elt F) → (⟨S12x256, .f32⟩ : BufTy).Contents (Elt F) → (⟨S12x256, .f32⟩ : BufTy).Contents (Elt F)),
    unary main_v47 main_v48 (broadcastInDim S12x256x1x1 ![0, 1] bcast_S12x256_S12x256x1x1_0_1 : (⟨S12x256, .f32⟩ : BufTy).Contents (Elt F) → (⟨S12x256x1x1, .f32⟩ : BufTy).Contents (Elt F)),
    unary main_v48 main_v49 (broadcastInDim S12x256x112x64 ![0, 1, 2, 3] bcast_S12x256x1x1_S12x256x112x64_0_1_2_3 : (⟨S12x256x1x1, .f32⟩ : BufTy).Contents (Elt F) → (⟨S12x256x112x64, .f32⟩ : BufTy).Contents (Elt F)),
    binary main_v36 main_v49 main_v50 (mulf : (⟨S12x256x112x64, .f32⟩ : BufTy).Contents (Elt F) → (⟨S12x256x112x64, .f32⟩ : BufTy).Contents (Elt F) → (⟨S12x256x112x64, .f32⟩ : BufTy).Contents (Elt F)),
    unary main_v48 main_v51 (broadcastInDim S12x256x112x64 ![0, 1, 2, 3] bcast_S12x256x1x1_S12x256x112x64_0_1_2_3 : (⟨S12x256x1x1, .f32⟩ : BufTy).Contents (Elt F) → (⟨S12x256x112x64, .f32⟩ : BufTy).Contents (Elt F)),
    binary main_v40 main_v51 main_v52 (mulf : (⟨S12x256x112x64, .f32⟩ : BufTy).Contents (Elt F) → (⟨S12x256x112x64, .f32⟩ : BufTy).Contents (Elt F) → (⟨S12x256x112x64, .f32⟩ : BufTy).Contents (Elt F)),
    unary main_v50 main_v53 (Host.absf : (⟨S12x256x112x64, .f32⟩ : BufTy).Contents (Elt F) → (⟨S12x256x112x64, .f32⟩ : BufTy).Contents (Elt F)),
    nullary main_cst_9 (constant S_ .f32 0xFF800000#32),
    binary main_v53 main_cst_9 main_v54 ((fun x v => Host.reduce FloatOps.maximumf x v reducesTo_S12x256x112x64_S12x256x112_d3 h_S_) : (⟨S12x256x112x64, .f32⟩ : BufTy).Contents (Elt F) → (⟨S_, .f32⟩ : BufTy).Contents (Elt F) → (⟨S12x256x112, .f32⟩ : BufTy).Contents (Elt F)),
    unary main_v52 main_v55 (Host.absf : (⟨S12x256x112x64, .f32⟩ : BufTy).Contents (Elt F) → (⟨S12x256x112x64, .f32⟩ : BufTy).Contents (Elt F)),
    nullary main_cst_10 (constant S_ .f32 0xFF800000#32),
    binary main_v55 main_cst_10 main_v56 ((fun x v => Host.reduce FloatOps.maximumf x v reducesTo_S12x256x112x64_S12x256x112_d3 h_S_) : (⟨S12x256x112x64, .f32⟩ : BufTy).Contents (Elt F) → (⟨S_, .f32⟩ : BufTy).Contents (Elt F) → (⟨S12x256x112, .f32⟩ : BufTy).Contents (Elt F)),
    binary main_v54 main_v56 main_v57 (maximumf : (⟨S12x256x112, .f32⟩ : BufTy).Contents (Elt F) → (⟨S12x256x112, .f32⟩ : BufTy).Contents (Elt F) → (⟨S12x256x112, .f32⟩ : BufTy).Contents (Elt F)),
    nullary main_cst_11 (constant S_ .f32 0x00000000#32),
    unary main_cst_11 main_v58 (broadcastInDim S12x256x112 ![] bcast_S_S12x256x112 : (⟨S_, .f32⟩ : BufTy).Contents (Elt F) → (⟨S12x256x112, .f32⟩ : BufTy).Contents (Elt F)),
    binary main_v57 main_v58 main_v59 (cmpf .oeq : (⟨S12x256x112, .f32⟩ : BufTy).Contents (Elt F) → (⟨S12x256x112, .f32⟩ : BufTy).Contents (Elt F) → (⟨S12x256x112, .i1⟩ : BufTy).Contents (Elt F)),
    nullary main_cst_12 (constant S_ .f32 0x40E00000#32),
    unary main_cst_12 main_v60 (broadcastInDim S12x256x112 ![] bcast_S_S12x256x112 : (⟨S_, .f32⟩ : BufTy).Contents (Elt F) → (⟨S12x256x112, .f32⟩ : BufTy).Contents (Elt F)),
    binary main_v57 main_v60 main_v61 (Host.divf : (⟨S12x256x112, .f32⟩ : BufTy).Contents (Elt F) → (⟨S12x256x112, .f32⟩ : BufTy).Contents (Elt F) → (⟨S12x256x112, .f32⟩ : BufTy).Contents (Elt F)),
    nullary main_cst_13 (constant S_ .f32 0x3F800000#32),
    TRef.unary (TRef.of (T := ⟨S_, .f32⟩) main_cst_13) (TRef.of (T := ⟨S_, .f32⟩) main_call2_v0) id,
    TRef.unary (TRef.of (T := ⟨S_, .f32⟩) main_call2_v0) (TRef.of (T := ⟨S12x256x112, .f32⟩) main_call2_v1) (broadcastInDim S12x256x112 ![] bcast_S_S12x256x112),
    TRef.ternary (TRef.of (T := ⟨S12x256x112, .i1⟩) main_v59) (TRef.of (T := ⟨S12x256x112, .f32⟩) main_call2_v1) (TRef.of (T := ⟨S12x256x112, .f32⟩) main_v61) (TRef.of (T := ⟨S12x256x112, .f32⟩) main_v62) select,
    unary main_v62 main_v63 ((truncf .bf16 · bitsLt_bf16_f32) : (⟨S12x256x112, .f32⟩ : BufTy).Contents (Elt F) → (⟨S12x256x112, .bf16⟩ : BufTy).Contents (Elt F)),
    unary main_v63 main_v64 ((extf .f32 · bitsLt_bf16_f32) : (⟨S12x256x112, .bf16⟩ : BufTy).Contents (Elt F) → (⟨S12x256x112, .f32⟩ : BufTy).Contents (Elt F)),
    unary main_v64 main_v65 (broadcastInDim S12x256x112x1 ![0, 1, 2] bcast_S12x256x112_S12x256x112x1_0_1_2 : (⟨S12x256x112, .f32⟩ : BufTy).Contents (Elt F) → (⟨S12x256x112x1, .f32⟩ : BufTy).Contents (Elt F)),
    unary main_v65 main_v66 (broadcastInDim S12x256x112x64 ![0, 1, 2, 3] bcast_S12x256x112x1_S12x256x112x64_0_1_2_3 : (⟨S12x256x112x1, .f32⟩ : BufTy).Contents (Elt F) → (⟨S12x256x112x64, .f32⟩ : BufTy).Contents (Elt F)),
    binary main_v50 main_v66 main_v67 (Host.divf : (⟨S12x256x112x64, .f32⟩ : BufTy).Contents (Elt F) → (⟨S12x256x112x64, .f32⟩ : BufTy).Contents (Elt F) → (⟨S12x256x112x64, .f32⟩ : BufTy).Contents (Elt F)),
    TRef.unary (TRef.of (T := ⟨S12x256x112x64, .f32⟩) main_v67) (TRef.of (T := ⟨S12x256x112x64, .f32⟩) main_v68) Host.roundeven,
    nullary main_c_14 (constantI S_ 32 4294967289#32),
    nullary main_c_15 (constantI S_ 32 7#32),
    TRef.unary (TRef.of (T := ⟨S_, .i32⟩) main_c_14) (TRef.of (T := ⟨S_, .f32⟩) main_call4_v0) (sitofp .f32),
    TRef.unary (TRef.of (T := ⟨S_, .f32⟩) main_call4_v0) (TRef.of (T := ⟨S12x256x112x64, .f32⟩) main_call4_v1) (broadcastInDim S12x256x112x64 ![] bcast_S_S12x256x112x64),
    TRef.binary (TRef.of (T := ⟨S12x256x112x64, .f32⟩) main_call4_v1) (TRef.of (T := ⟨S12x256x112x64, .f32⟩) main_v68) (TRef.of (T := ⟨S12x256x112x64, .f32⟩) main_call4_v2) maximumf,
    TRef.unary (TRef.of (T := ⟨S_, .i32⟩) main_c_15) (TRef.of (T := ⟨S_, .f32⟩) main_call4_v3) (sitofp .f32),
    TRef.unary (TRef.of (T := ⟨S_, .f32⟩) main_call4_v3) (TRef.of (T := ⟨S12x256x112x64, .f32⟩) main_call4_v4) (broadcastInDim S12x256x112x64 ![] bcast_S_S12x256x112x64),
    TRef.binary (TRef.of (T := ⟨S12x256x112x64, .f32⟩) main_call4_v4) (TRef.of (T := ⟨S12x256x112x64, .f32⟩) main_call4_v2) (TRef.of (T := ⟨S12x256x112x64, .f32⟩) main_v69) minimumf,
    unary main_v69 main_v70 (fptosi 32 : (⟨S12x256x112x64, .f32⟩ : BufTy).Contents (Elt F) → (⟨S12x256x112x64, .i32⟩ : BufTy).Contents (Elt F)),
    unary main_v65 main_v71 (broadcastInDim S12x256x112x64 ![0, 1, 2, 3] bcast_S12x256x112x1_S12x256x112x64_0_1_2_3 : (⟨S12x256x112x1, .f32⟩ : BufTy).Contents (Elt F) → (⟨S12x256x112x64, .f32⟩ : BufTy).Contents (Elt F)),
    binary main_v52 main_v71 main_v72 (Host.divf : (⟨S12x256x112x64, .f32⟩ : BufTy).Contents (Elt F) → (⟨S12x256x112x64, .f32⟩ : BufTy).Contents (Elt F) → (⟨S12x256x112x64, .f32⟩ : BufTy).Contents (Elt F)),
    TRef.unary (TRef.of (T := ⟨S12x256x112x64, .f32⟩) main_v72) (TRef.of (T := ⟨S12x256x112x64, .f32⟩) main_v73) Host.roundeven,
    nullary main_c_16 (constantI S_ 32 4294967289#32),
    nullary main_c_17 (constantI S_ 32 7#32),
    TRef.unary (TRef.of (T := ⟨S_, .i32⟩) main_c_16) (TRef.of (T := ⟨S_, .f32⟩) main_call6_v0) (sitofp .f32),
    TRef.unary (TRef.of (T := ⟨S_, .f32⟩) main_call6_v0) (TRef.of (T := ⟨S12x256x112x64, .f32⟩) main_call6_v1) (broadcastInDim S12x256x112x64 ![] bcast_S_S12x256x112x64),
    TRef.binary (TRef.of (T := ⟨S12x256x112x64, .f32⟩) main_call6_v1) (TRef.of (T := ⟨S12x256x112x64, .f32⟩) main_v73) (TRef.of (T := ⟨S12x256x112x64, .f32⟩) main_call6_v2) maximumf,
    TRef.unary (TRef.of (T := ⟨S_, .i32⟩) main_c_17) (TRef.of (T := ⟨S_, .f32⟩) main_call6_v3) (sitofp .f32),
    TRef.unary (TRef.of (T := ⟨S_, .f32⟩) main_call6_v3) (TRef.of (T := ⟨S12x256x112x64, .f32⟩) main_call6_v4) (broadcastInDim S12x256x112x64 ![] bcast_S_S12x256x112x64),
    TRef.binary (TRef.of (T := ⟨S12x256x112x64, .f32⟩) main_call6_v4) (TRef.of (T := ⟨S12x256x112x64, .f32⟩) main_call6_v2) (TRef.of (T := ⟨S12x256x112x64, .f32⟩) main_v74) minimumf,
    unary main_v74 main_v75 (fptosi 32 : (⟨S12x256x112x64, .f32⟩ : BufTy).Contents (Elt F) → (⟨S12x256x112x64, .i32⟩ : BufTy).Contents (Elt F)),
    nullary main_c_18 (constantI S_ 32 15#32),
    unary main_c_18 main_v76 (broadcastInDim S12x256x112x64 ![] bcast_S_S12x256x112x64 : (⟨S_, .i32⟩ : BufTy).Contents (Elt F) → (⟨S12x256x112x64, .i32⟩ : BufTy).Contents (Elt F)),
    binary main_v75 main_v76 main_v77 (andi : (⟨S12x256x112x64, .i32⟩ : BufTy).Contents (Elt F) → (⟨S12x256x112x64, .i32⟩ : BufTy).Contents (Elt F) → (⟨S12x256x112x64, .i32⟩ : BufTy).Contents (Elt F)),
    nullary main_c_19 (constantI S_ 32 4#32),
    unary main_c_19 main_v78 (broadcastInDim S12x256x112x64 ![] bcast_S_S12x256x112x64 : (⟨S_, .i32⟩ : BufTy).Contents (Elt F) → (⟨S12x256x112x64, .i32⟩ : BufTy).Contents (Elt F)),
    binary main_v77 main_v78 main_v79 (Host.shli : (⟨S12x256x112x64, .i32⟩ : BufTy).Contents (Elt F) → (⟨S12x256x112x64, .i32⟩ : BufTy).Contents (Elt F) → (⟨S12x256x112x64, .i32⟩ : BufTy).Contents (Elt F)),
    nullary main_c_20 (constantI S_ 32 15#32),
    unary main_c_20 main_v80 (broadcastInDim S12x256x112x64 ![] bcast_S_S12x256x112x64 : (⟨S_, .i32⟩ : BufTy).Contents (Elt F) → (⟨S12x256x112x64, .i32⟩ : BufTy).Contents (Elt F)),
    binary main_v70 main_v80 main_v81 (andi : (⟨S12x256x112x64, .i32⟩ : BufTy).Contents (Elt F) → (⟨S12x256x112x64, .i32⟩ : BufTy).Contents (Elt F) → (⟨S12x256x112x64, .i32⟩ : BufTy).Contents (Elt F)),
    binary main_v79 main_v81 main_v82 (ori : (⟨S12x256x112x64, .i32⟩ : BufTy).Contents (Elt F) → (⟨S12x256x112x64, .i32⟩ : BufTy).Contents (Elt F) → (⟨S12x256x112x64, .i32⟩ : BufTy).Contents (Elt F)),
    unary main_v82 main_v83 ((trunci 8 · natLt_8_32) : (⟨S12x256x112x64, .i32⟩ : BufTy).Contents (Elt F) → (⟨S12x256x112x64, .i8⟩ : BufTy).Contents (Elt F)),
    reshape main_v83 main_v84 (rfl : (.i8 : EltTy) = .i8) shapeCasts_S12x256x112x64_S12x256x7168 ]
set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., unary_bufs_sub .., unary_bufs_sub .., unary_bufs_sub .., binary_bufs_sub .., unary_bufs_sub .., unary_bufs_sub .., binary_bufs_sub .., reshape_bufs_sub .., unary_bufs_sub .., reshape_bufs_sub .., binary_bufs_sub .., unary_bufs_sub .., reshape_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., nullary_bufs_sub .., binary_bufs_sub .., binary_bufs_sub .., nullary_bufs_sub .., binary_bufs_sub .., binary_bufs_sub .., unary_bufs_sub .., binary_bufs_sub .., unary_bufs_sub .., unary_bufs_sub .., binary_bufs_sub .., unary_bufs_sub .., binary_bufs_sub .., unary_bufs_sub .., nullary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., reshape_bufs_sub ..⟩

set_option maxRecDepth 8192 in
set_option maxHeartbeats 48000000 in
/-- Every weakly fair execution of the reference ends with the packed codes and the scales of the arguments in the
    result buffers and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = outCodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v63) = outScales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      (h c main_v84).trans (by simp only [ops, TRef.binary, TRef.ternary, TRef.unary, TRef.toBuf, TRef.ofBuf, cast_eq]; after_reads_simp; rfl),
      (h c main_v63).trans (by simp only [ops, TRef.binary, TRef.ternary, TRef.unary, TRef.toBuf, TRef.ofBuf, cast_eq]; after_reads_simp; rfl),
      (h c main_arg0).trans (by simp only [ops, TRef.binary, TRef.ternary, TRef.unary, TRef.toBuf, TRef.ofBuf, cast_eq]; after_reads_simp <;> rfl),
      (h c main_arg1).trans (by simp only [ops, TRef.binary, TRef.ternary, TRef.unary, TRef.toBuf, TRef.ofBuf, cast_eq]; after_reads_simp <;> rfl),
      (h c main_arg2).trans (by simp only [ops, TRef.binary, TRef.ternary, TRef.unary, TRef.toBuf, TRef.ofBuf, cast_eq]; after_reads_simp <;> rfl),
      (h c main_arg3).trans (by simp only [ops, TRef.binary, TRef.ternary, TRef.unary, TRef.toBuf, TRef.ofBuf, cast_eq]; after_reads_simp <;> rfl),
      (h c main_arg4).trans (by simp only [ops, TRef.binary, TRef.ternary, TRef.unary, TRef.toBuf, TRef.ofBuf, cast_eq]; after_reads_simp <;> rfl)⟩)
    (run_seq scopedRefs_eq scopedSems_eq defs main (fun _ => ops) main_eq (fun _ => ops_sub) m ρ)

end Cert.ReferenceIdeal.Hand

end
-- ==== Proof.KRun.lean ====
/-
The body of the idealized kernel, run over its skeleton: on whole staging memrefs it hands back the inputs' as they were
and the two outputs'.
-/
module

public import proofs.«01_k».proof.Proof.Gen.KernelIdeal.Frame
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x256x7168 .i8) (harg1 : arg1.IsWhole) (arg2 : Memref sig .tc .vmem S1x256x112 .bf16) (harg2 : arg2.IsWhole) (arg3 : Memref sig .tc .vmem S1x24x14336 .bf16) (harg3 : arg3.IsWhole) (arg4 : Memref sig .tc .vmem S1x256x24 .bf16) (harg4 : arg4.IsWhole) (arg5 : Memref sig .tc .vmem S1x1x256 .f32) (harg5 : arg5.IsWhole) (arg6 : Memref sig .tc .vmem S1x256x7168 .i8) (harg6 : arg6.IsWhole) (arg7 : Memref sig .tc .vmem S1x256x112 .bf16) (harg7 : arg7.IsWhole) (arg8 : Memref sig .tc .vmem S14336x128 .bf16) (harg8 : arg8.IsWhole) (arg9 : Memref sig .tc .vmem S256x256 .bf16) (harg9 : arg9.IsWhole) (arg10 : Memref sig .tc .vmem S2x112x2x128 .bf16) (harg10 : arg10.IsWhole) (arg11 : Memref sig .tc .vmem S2x14336x128 .f32) (harg11 : arg11.IsWhole) (arg12 : Memref sig .tc .vmem S2x896x128 .f32) (harg12 : arg12.IsWhole) (arg13 : Memref sig .tc .vmem S2x112x128 .f32) (harg13 : arg13.IsWhole)
    (x0 : Vec F S1x256x7168 .i8) (x1 : Vec F S1x256x112 .bf16) (x2 : Vec F S1x24x14336 .bf16) (x3 : Vec F S1x256x24 .bf16) (x4 : Vec F S1x1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_dora_requant i arg1 harg1 arg2 harg2 arg3 harg3 arg4 harg4 arg5 harg5 arg6 harg6 arg7 harg7 arg8 harg8 arg9 harg9 arg10 harg10 arg11 harg11 arg12 harg12 arg13 harg13) K := by
    intro E K
    simp only [cc0_dora_requant_eq_skeleton]; unfold cc0_dora_requant_skel
    simp only [k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Hand

end
-- ==== Proof.KFrame.lean ====
/-
The run of the idealized kernel: its proof data, the body obligation at every point, and the frame.
-/
module

public import proofs.«01_k».proof.Proof.KRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem frame_of' (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-- Each window's current staging memref at point `t`, spelled as the pipeline passes it (`bodyAt0`), and its wholeness. -/
abbrev ms0_0 (t : Fin cfg0.N) : Memref sig .tc .vmem S1x256x7168 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x112 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x24x14336 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x24 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x7168 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x112 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S14336x128 .bf16 := Memref.whole cc0_scratch0
abbrev scM0_1 : Memref sig .tc .vmem S256x256 .bf16 := Memref.whole cc0_scratch1
abbrev scM0_2 : Memref sig .tc .vmem S2x112x2x128 .bf16 := Memref.whole cc0_scratch2
abbrev scM0_3 : Memref sig .tc .vmem S2x14336x128 .f32 := Memref.whole cc0_scratch3
abbrev scM0_4 : Memref sig .tc .vmem S2x896x128 .f32 := Memref.whole cc0_scratch4
abbrev scM0_5 : Memref sig .tc .vmem S2x112x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The pipeline's proof data -/

/-- The output windows this certificate FORGETS (5, 6): nothing reads what the kernel leaves in them, so nothing
    of it is named (Lib/Pipeline/Dat.lean `Dat.toRForget`). -/
def forgets0 : Fin 7 → Bool := fun w => w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of' m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.PRun.lean ====
/-
The body of the kernel, run over its skeleton: on whole staging memrefs it hands back the inputs' as they were
and the two outputs'.
-/
module

public import proofs.«01_k».proof.Proof.Gen.Kernel.Frame
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S1x256x7168 .i8) (harg1 : arg1.IsWhole) (arg2 : Memref sig .tc .vmem S1x256x112 .bf16) (harg2 : arg2.IsWhole) (arg3 : Memref sig .tc .vmem S1x24x14336 .bf16) (harg3 : arg3.IsWhole) (arg4 : Memref sig .tc .vmem S1x256x24 .bf16) (harg4 : arg4.IsWhole) (arg5 : Memref sig .tc .vmem S1x1x256 .f32) (harg5 : arg5.IsWhole) (arg6 : Memref sig .tc .vmem S1x256x7168 .i8) (harg6 : arg6.IsWhole) (arg7 : Memref sig .tc .vmem S1x256x112 .bf16) (harg7 : arg7.IsWhole) (arg8 : Memref sig .tc .vmem S14336x128 .bf16) (harg8 : arg8.IsWhole) (arg9 : Memref sig .tc .vmem S256x256 .bf16) (harg9 : arg9.IsWhole) (arg10 : Memref sig .tc .vmem S2x112x128 .i32) (harg10 : arg10.IsWhole) (arg11 : Memref sig .tc .vmem S2x14336x128 .f32) (harg11 : arg11.IsWhole) (arg12 : Memref sig .tc .vmem S2x896x128 .f32) (harg12 : arg12.IsWhole) (arg13 : Memref sig .tc .vmem S2x112x128 .f32) (harg13 : arg13.IsWhole)
    (x0 : Vec F S1x256x7168 .i8) (x1 : Vec F S1x256x112 .bf16) (x2 : Vec F S1x24x14336 .bf16) (x3 : Vec F S1x256x24 .bf16) (x4 : Vec F S1x1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_dora_requant i arg1 harg1 arg2 harg2 arg3 harg3 arg4 harg4 arg5 harg5 arg6 harg6 arg7 harg7 arg8 harg8 arg9 harg9 arg10 harg10 arg11 harg11 arg12 harg12 arg13 harg13) K := by
    intro E K
    simp only [cc0_dora_requant_eq_skeleton]; unfold cc0_dora_requant_skel
    simp only [k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Hand

end
-- ==== Proof.PFrame.lean ====
/-
The run of the kernel: its proof data, the body obligation at every point, and the frame.
-/
module

public import proofs.«01_k».proof.Proof.PRun
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
theorem frame_of' (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-- Each window's current staging memref at point `t`, spelled as the pipeline passes it (`bodyAt0`), and its wholeness. -/
abbrev ms0_0 (t : Fin cfg0.N) : Memref sig .tc .vmem S1x256x7168 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x112 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x24x14336 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x24 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x7168 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x112 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S14336x128 .bf16 := Memref.whole cc0_scratch0
abbrev scM0_1 : Memref sig .tc .vmem S256x256 .bf16 := Memref.whole cc0_scratch1
abbrev scM0_2 : Memref sig .tc .vmem S2x112x128 .i32 := Memref.whole cc0_scratch2
abbrev scM0_3 : Memref sig .tc .vmem S2x14336x128 .f32 := Memref.whole cc0_scratch3
abbrev scM0_4 : Memref sig .tc .vmem S2x896x128 .f32 := Memref.whole cc0_scratch4
abbrev scM0_5 : Memref sig .tc .vmem S2x112x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The pipeline's proof data -/

/-- The output windows this certificate FORGETS (5, 6): nothing reads what the kernel leaves in them, so nothing
    of it is named (Lib/Pipeline/Dat.lean `Dat.toRForget`). -/
def forgets0 : Fin 7 → Bool := fun w => w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of' m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Pieces.lean ====
/-
What one trip of each of the kernel's three loops stores, in named blocks: the pieces of every trip as one list over
the unrolled positions.
-/
module

public import proofs.«01_k».proof.Proof.Gen.KernelIdeal.Loops
public import Idealize.ShloMosaic.Lib.Pipeline.FrameBody

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]

/-- The even-position rows of a group of 128 columns' codes (`false`) or of the second group (`true`). -/
def cut (kk : Fin 2) (q : FVec F S256x128 .bf16) : FVec F S128x128 .bf16 :=
  match kk with
  | 0 => extractStridedSlice S128x128 ![0, 0] q slices_S256x128_o0_0_S128x128
  | 1 => extractStridedSlice S128x128 ![128, 0] q slices_S256x128_o128_0_S128x128

/-- One row of packed scales, both halves of the word, repeated over sixteen rows. -/
def scaleRows (s : Vec F S1x1x2x128 .bf16) : FVec F S16x128 .bf16 :=
  have lo : FVec F S1x128 .bf16 := shapeCast S1x128 (shapeCast S1x1x128 (rowsOfParity 0 S1x1x1x128 s bitcasts_S1x1x2x128_w16_S1x1x1x128_w32) shapeCasts_S1x1x1x128_S1x1x128) shapeCasts_S1x1x128_S1x128
  have hi : FVec F S1x128 .bf16 := shapeCast S1x128 (shapeCast S1x1x128 (rowsOfParity 1 S1x1x1x128 s bitcasts_S1x1x2x128_w16_S1x1x1x128_w32) shapeCasts_S1x1x1x128_S1x1x128) shapeCasts_S1x1x128_S1x128
  interleaveRows S16x128
    (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩] concatenates_S1x128_S1x128_S1x128_S1x128_S1x128_S1x128_S1x128_S1x128_S8x128_d0)
    (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩] concatenates_S1x128_S1x128_S1x128_S1x128_S1x128_S1x128_S1x128_S1x128_S8x128_d0)
    bitcasts_S16x128_w16_S8x128_w32

/-- The codes of one group times their scales. -/
def dqBlk (x : FVec F S128x128 .bf16) (s : Vec F S1x1x2x128 .bf16) : FVec F S128x128 .bf16 :=
  shapeCast S128x128
    (mulf (shapeCast S8x16x128 x shapeCasts_S128x128_S8x16x128)
      (broadcastTo S8x16x128 (shapeCast S1x16x128 (scaleRows s) shapeCasts_S16x128_S1x16x128) broadcasts_S1x16x128_S8x16x128))
    shapeCasts_S8x16x128_S128x128

/-- The product of one group: the dequantised codes of the first half and the low-rank factor against the weights. -/
def prodBlk (w : Vec F S256x256 .bf16) (y : FVec F S128x128 .bf16) (a : Vec F S128x128 .bf16) : FVec F S128x256 .f32 :=
  matmul dot_S128x256_S256x256_S128x256_1_0_0_1_n_n none
    (concatenate S128x256 1 [⟨S128x128, y⟩, ⟨S128x128, a⟩] concatenates_S128x128_S128x128_S128x256_d1) w
    (constant S128x256 .f32 0x00000000#32)

/-- The merged weight of one group, first half of the rows. -/
def m0Blk (w : Vec F S256x256 .bf16) (y : FVec F S128x128 .bf16) (a : Vec F S128x128 .bf16) : FVec F S128x128 .f32 :=
  extractStridedSlice S128x128 ![0, 0] (prodBlk w y a) slices_S128x256_o0_0_S128x128

/-- The merged weight of one group, second half of the rows. -/
def m1Blk (w : Vec F S256x256 .bf16) (y z : FVec F S128x128 .bf16) (a : Vec F S128x128 .bf16) : FVec F S128x128 .f32 :=
  addf (extractStridedSlice S128x128 ![0, 128] (prodBlk w y a) slices_S128x256_o0_128_S128x128) (extf .f32 z bitsLt_bf16_f32)

/-- The running sum of squares after one more group. -/
def ssqBlk (acc : FVec F S8x128 .f32) (m : FVec F S128x128 .f32) : FVec F S8x128 .f32 :=
  addf acc (multiReduction .add [0] S8x128
    (mulf (shapeCast S16x8x128 m shapeCasts_S128x128_S16x8x128) (shapeCast S16x8x128 m shapeCasts_S128x128_S16x8x128))
    0x00000000#32 reduces_S16x8x128_S8x128 (.inl rfl) rfl)

/-- The largest absolute values of one group, eight partial results a row. -/
def amaxBlk (m : FVec F S128x128 .f32) : FVec F S1x8x128 .f32 :=
  shapeCast S1x8x128 (multiReduction .maximumf [0] S8x128 (absf (shapeCast S16x8x128 m shapeCasts_S128x128_S16x8x128))
    0xFF800000#32 reduces_S16x8x128_S8x128 (.inl rfl) rfl) shapeCasts_S8x128_S1x8x128

/-- A group's merged weight as it is stored. -/
def storeBlk (m : FVec F S128x128 .f32) : FVec F S1x128x128 .f32 := shapeCast S1x128x128 m shapeCasts_S128x128_S1x128x128

section T2
variable (x1 : Vec F S1x256x7168 .i8) (a : Vec F S14336x128 .bf16) (w : Vec F S256x256 .bf16) (s : Vec F S2x112x2x128 .bf16)
  (k : Fin k0_t2_loop.trips) (u : Fin 7) (kk : Fin 2)

abbrev W2 : BitVec 32 := BitVec.ofNat 32 u.val
abbrev W2k : BitVec 32 := BitVec.ofNat 32 kk.val

/-- The second loop's blocks read at their offsets: the weights, -/
def wR : Vec F S256x256 .bf16 := View.ld w (Rect.unit ![0, 0] S256x256.size inb_S256x256_S256x256_0_0)
/-- the low-rank columns of the group, -/
def aR : Vec F S128x128 .bf16 := View.ld a (Rect.unit (k0_off7 k (W2 u) (W2k kk)) S128x128.size (k0_off7_inb k u kk))
/-- the first half's dequantised codes, -/
def y0R : FVec F S128x128 .bf16 :=
  dqBlk (cut kk (k0_pay20 (View.ld x1 (Rect.unit (k0_off3 k (W2 u)) S1x128x128.size (k0_off3_inb k u)))))
    (View.ld s (Rect.unit (k0_off5 k (W2 u) (W2k kk)) S1x1x2x128.size (k0_off5_inb k u kk)))
/-- and the second half's. -/
def y1R : FVec F S128x128 .bf16 :=
  dqBlk (cut kk (k0_pay20 (View.ld x1 (Rect.unit (k0_off4 k (W2 u)) S1x128x128.size (k0_off4_inb k u)))))
    (View.ld s (Rect.unit (k0_off6 k (W2 u) (W2k kk)) S1x1x2x128.size (k0_off6_inb k u kk)))

/-- The merged weight of one group, first half of the rows. -/
def m0R : FVec F S128x128 .f32 := m0Blk (wR w) (y0R x1 s k u kk) (aR a k u kk)
/-- The merged weight of one group, second half of the rows. -/
def m1R : FVec F S128x128 .f32 := m1Blk (wR w) (y0R x1 s k u kk) (y1R x1 s k u kk) (aR a k u kk)

/-- The unrolled positions of a trip, last first. -/
def order7 : List (Fin 7) := [6, 5, 4, 3, 2, 1, 0]

/-- What a trip of the second loop stores of the merged weight. -/
def pieces11 : List (View.Piece (Elt F) S2x14336x128 .f32) :=
  order7.flatMap fun u => [
    ⟨Rect.unit (k0_off10 k (W2 u) (W2k 1)) S1x128x128.size (k0_off10_inb k u 1), storeBlk (m1R x1 a w s k u 1)⟩,
    ⟨Rect.unit (k0_off8 k (W2 u) (W2k 1)) S1x128x128.size (k0_off8_inb k u 1), storeBlk (m0R x1 a w s k u 1)⟩,
    ⟨Rect.unit (k0_off10 k (W2 u) (W2k 0)) S1x128x128.size (k0_off10_inb k u 0), storeBlk (m1R x1 a w s k u 0)⟩,
    ⟨Rect.unit (k0_off8 k (W2 u) (W2k 0)) S1x128x128.size (k0_off8_inb k u 0), storeBlk (m0R x1 a w s k u 0)⟩]

/-- What a trip of the second loop stores of the largest absolute values. -/
def pieces12 : List (View.Piece (Elt F) S2x896x128 .f32) :=
  order7.flatMap fun u => [
    ⟨Rect.unit (k0_off11 k (W2 u) (W2k 1)) S1x8x128.size (k0_off11_inb k u 1), amaxBlk (m1R x1 a w s k u 1)⟩,
    ⟨Rect.unit (k0_off9 k (W2 u) (W2k 1)) S1x8x128.size (k0_off9_inb k u 1), amaxBlk (m0R x1 a w s k u 1)⟩,
    ⟨Rect.unit (k0_off11 k (W2 u) (W2k 0)) S1x8x128.size (k0_off11_inb k u 0), amaxBlk (m1R x1 a w s k u 0)⟩,
    ⟨Rect.unit (k0_off9 k (W2 u) (W2k 0)) S1x8x128.size (k0_off9_inb k u 0), amaxBlk (m0R x1 a w s k u 0)⟩]

/-- What a trip of the second loop carries on. -/
def carry2 (acc : FVec F S8x128 .f32 × FVec F S8x128 .f32) : FVec F S8x128 .f32 × FVec F S8x128 .f32 :=
  order7.foldr (fun u acc =>
    (ssqBlk (ssqBlk acc.1 (m0R x1 a w s k u 0)) (m0R x1 a w s k u 1),
      ssqBlk (ssqBlk acc.2 (m1R x1 a w s k u 0)) (m1R x1 a w s k u 1))) acc
end T2

section T1
variable (x3 : Vec F S1x24x14336 .bf16) (k : Fin k0_t1_loop.trips) (u : Fin 14)

abbrev W1 : BitVec 32 := BitVec.ofNat 32 u.val

/-- Three copies of a group's low-rank columns, side by side. -/
def at8 : FVec F S128x128 .bf16 :=
  k0_pay5 (View.ld x3 (Rect.unit (k0_off1 k (W1 u)) S1x24x128.size (k0_off1_inb k u)))

/-- One piece of the first loop. -/
def piece8 : View.Piece (Elt F) S14336x128 .bf16 :=
  ⟨Rect.unit (k0_off2 k (W1 u)) S128x128.size (k0_off2_inb k u), at8 x3 k u⟩

/-- The unrolled positions of a trip of the first loop, last first. -/
def order14 : List (Fin 14) := [13, 12, 11, 10, 9, 8, 7, 6, 5, 4, 3, 2, 1, 0]

/-- What a trip of the first loop stores. -/
def pieces8 : List (View.Piece (Elt F) S14336x128 .bf16) := order14.map (piece8 x3 k)
end T1

section T3
variable (m : Vec F S2x14336x128 .f32) (r : Vec F S2x112x128 .f32) (k : Fin k0_t3_loop.trips) (u : Fin 7) (kk : Fin 2)

/-- The words of two groups packed two codes to a byte, rows of codes as columns. -/
def packBlk (a b : IVec S128x128 32) : IVec S1x128x128 8 :=
  have q : IVec S128x2x128 32 := shapeCast S128x2x128 (extsi 32 (trunci 4 (concatenate S256x128 0 [⟨S128x128, a⟩, ⟨S128x128, b⟩] concatenates_S128x128_S128x128_S256x128_d0) natLt_4_32) natLt_4_32) shapeCasts_S256x128_S128x2x128
  have lo : IVec S128x128 32 := andi (shapeCast S128x128 (extractStridedSlice S128x1x128 ![0, 0, 0] q slices_S128x2x128_o0_0_0_S128x1x128) shapeCasts_S128x1x128_S128x128) (broadcast S128x128 15#32)
  have hi : IVec S128x128 32 := andi (shapeCast S128x128 (extractStridedSlice S128x1x128 ![0, 1, 0] q slices_S128x2x128_o0_1_0_S128x1x128) shapeCasts_S128x1x128_S128x128) (broadcast S128x128 15#32)
  shapeCast S1x128x128 (transpose S128x128 [1, 0] (trunci 8 (ori lo (shli hi (broadcast S128x128 4#32))) natLt_8_32) transposes_S128x128_p1_0_S128x128) shapeCasts_S128x128_S1x128x128

/-- The bytes of two groups, first half of the rows. -/
def out0 : IVec S1x128x128 8 :=
  packBlk
    (k0_pay211 (View.ld r (Rect.unit (k0_off12 k (W2 u) (W2k 0)) S1x1x128.size (k0_off12_inb k u 0)))
      (View.ld m (Rect.unit (k0_off13 k (W2 u) (W2k 0)) S1x128x128.size (k0_off13_inb k u 0))))
    (k0_pay211 (View.ld r (Rect.unit (k0_off12 k (W2 u) (W2k 1)) S1x1x128.size (k0_off12_inb k u 1)))
      (View.ld m (Rect.unit (k0_off13 k (W2 u) (W2k 1)) S1x128x128.size (k0_off13_inb k u 1))))

/-- The bytes of two groups, second half of the rows. -/
def out1 : IVec S1x128x128 8 :=
  packBlk
    (k0_pay211 (View.ld r (Rect.unit (k0_off15 k (W2 u) (W2k 0)) S1x1x128.size (k0_off15_inb k u 0)))
      (View.ld m (Rect.unit (k0_off16 k (W2 u) (W2k 0)) S1x128x128.size (k0_off16_inb k u 0))))
    (k0_pay211 (View.ld r (Rect.unit (k0_off15 k (W2 u) (W2k 1)) S1x1x128.size (k0_off15_inb k u 1)))
      (View.ld m (Rect.unit (k0_off16 k (W2 u) (W2k 1)) S1x128x128.size (k0_off16_inb k u 1))))

/-- What a trip of the third loop stores. -/
def pieces6 : List (View.Piece (Elt F) S1x256x7168 .i8) :=
  order7.flatMap fun u => [
    ⟨Rect.unit (k0_off17 k (W2 u)) S1x128x128.size (k0_off17_inb k u), out1 m r k u⟩,
    ⟨Rect.unit (k0_off14 k (W2 u)) S1x128x128.size (k0_off14_inb k u), out0 m r k u⟩]
end T3

variable (𝒱 : Variants) (c : Dev nD) (bd : Option 𝒱.V) (i : grid0.Coords)
  (arg1 : Memref sig .tc .vmem S1x256x7168 .i8) (harg1 : arg1.IsWhole) (arg2 : Memref sig .tc .vmem S1x256x112 .bf16) (harg2 : arg2.IsWhole) (arg3 : Memref sig .tc .vmem S1x24x14336 .bf16) (harg3 : arg3.IsWhole) (arg4 : Memref sig .tc .vmem S1x256x24 .bf16) (harg4 : arg4.IsWhole) (arg5 : Memref sig .tc .vmem S1x1x256 .f32) (harg5 : arg5.IsWhole) (arg6 : Memref sig .tc .vmem S1x256x7168 .i8) (harg6 : arg6.IsWhole) (arg7 : Memref sig .tc .vmem S1x256x112 .bf16) (harg7 : arg7.IsWhole) (arg8 : Memref sig .tc .vmem S14336x128 .bf16) (harg8 : arg8.IsWhole) (arg9 : Memref sig .tc .vmem S256x256 .bf16) (harg9 : arg9.IsWhole) (arg10 : Memref sig .tc .vmem S2x112x2x128 .bf16) (harg10 : arg10.IsWhole) (arg11 : Memref sig .tc .vmem S2x14336x128 .f32) (harg11 : arg11.IsWhole) (arg12 : Memref sig .tc .vmem S2x896x128 .f32) (harg12 : arg12.IsWhole) (arg13 : Memref sig .tc .vmem S2x112x128 .f32) (harg13 : arg13.IsWhole)

set_option maxHeartbeats 4000000 in
theorem trip1 (X3 : BufTy.Contents (Elt F) arg3.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X3 k = pieces8 (arg3.view.read (Elt F) X3) k := by
  unfold tripL_k0_t1 trip_k0_t1; rfl

set_option maxHeartbeats 4000000 in
theorem trip2 (v37 v38 : FVec F S112x256 .f32) (X1 : BufTy.Contents (Elt F) arg1.view.ty) (X8 : BufTy.Contents (Elt F) arg8.view.ty)
    (X9 : BufTy.Contents (Elt F) arg9.view.ty) (X10 : BufTy.Contents (Elt F) arg10.view.ty) (k : Fin k0_t2_loop.trips)
    (acc : FVec F S8x128 .f32 × FVec F S8x128 .f32) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v37 v38 X1 X8 X9 X10 k acc
      = (pieces11 (arg1.view.read (Elt F) X1) (arg8.view.read (Elt F) X8) (arg9.view.read (Elt F) X9) (arg10.view.read (Elt F) X10) k,
        pieces12 (arg1.view.read (Elt F) X1) (arg8.view.read (Elt F) X8) (arg9.view.read (Elt F) X9) (arg10.view.read (Elt F) X10) k) := by
  unfold tripL_k0_t2 trip_k0_t2; rfl

set_option maxHeartbeats 4000000 in
theorem trip2R (v37 v38 : FVec F S112x256 .f32) (X1 : BufTy.Contents (Elt F) arg1.view.ty) (X8 : BufTy.Contents (Elt F) arg8.view.ty)
    (X9 : BufTy.Contents (Elt F) arg9.view.ty) (X10 : BufTy.Contents (Elt F) arg10.view.ty) (k : Fin k0_t2_loop.trips)
    (acc : FVec F S8x128 .f32 × FVec F S8x128 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v37 v38 X1 X8 X9 X10 k acc
      = carry2 (arg1.view.read (Elt F) X1) (arg8.view.read (Elt F) X8) (arg9.view.read (Elt F) X9) (arg10.view.read (Elt F) X10) k acc := by
  unfold tripR_k0_t2 trip_k0_t2; rfl

set_option maxHeartbeats 4000000 in
theorem trip3 (X11 : BufTy.Contents (Elt F) arg11.view.ty) (X13 : BufTy.Contents (Elt F) arg13.view.ty) (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 X11 X13 k = pieces6 (arg11.view.read (Elt F) X11) (arg13.view.read (Elt F) X13) k := by
  unfold tripL_k0_t3 trip_k0_t3; rfl

end Cert.KernelIdeal.Hand

end
-- ==== Proof.Offsets.lean ====
/-
Where each load and store of the idealized kernel's loops lies: the array index of every index of its block.
-/
module

public import proofs.«01_k».proof.Proof.Pieces
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

/-- The number `i` as a coordinate below `n`. -/
abbrev N (n : ℕ) [NeZero n] (i : ℕ) : Fin n := Fin.ofNat n i

theorem N_val (n : ℕ) [NeZero n] (i : Fin n) : N n i.val = i := Fin.ext (Nat.mod_eq_of_lt i.isLt)

theorem idx_unit_eq {s : Shape} (off size : Fin s.rank → ℕ) (inb : ∀ a, off a + size a ≤ s.size a)
    (j : (Rect.unit off size inb).shape.Idx) (j' : s.Idx) {off' : Fin s.rank → ℕ}
    (ho : off = off') (h : ∀ a, (j' a).val = off' a + (j a).val) :
    (Rect.unit off size inb).idx j = j' := by
  funext a
  apply Fin.ext
  rw [h a, ← ho]
  show off a + 1 * (j a).val = _
  rw [Nat.one_mul]

section
variable (k : Fin k0_t1_loop.trips) (u : Fin 14)

theorem lt1 : k.val < 8 := Nat.lt_of_lt_of_le k.isLt k0_t1_abs.2.1

theorem idx1 (r : Fin 24) (c : Fin 128) :
    (Rect.unit (s := S1x24x14336) (k0_off1 k (W1 u)) S1x24x128.size (k0_off1_inb k u)).idx (ix3 0 r c) = ix3 0 r (N 14336 (1792 * k.val + 128 * u.val + c.val)) := by
  have := lt1 k
  refine idx_unit_eq _ _ _ _ _ (k0_off1_eq ..) fun a => ?_
  match a with
  | ⟨0, _⟩ => rfl
  | ⟨1, _⟩ => show r.val = 0 + r.val; omega
  | ⟨2, _⟩ => show (1792 * k.val + 128 * u.val + c.val) % 14336 = 1792 * k.val + 128 * u.val + c.val; omega

theorem idx2 (c l : Fin 128) :
    (Rect.unit (s := S14336x128) (k0_off2 k (W1 u)) S128x128.size (k0_off2_inb k u)).idx (ix2 c l) = ix2 (N 14336 (1792 * k.val + 128 * u.val + c.val)) l := by
  have := lt1 k
  refine idx_unit_eq _ _ _ _ _ (k0_off2_eq ..) fun a => ?_
  match a with
  | ⟨0, _⟩ => show (1792 * k.val + 128 * u.val + c.val) % 14336 = 1792 * k.val + 128 * u.val + c.val; omega
  | ⟨1, _⟩ => show l.val = 0 + l.val; omega
end

section
variable (k : Fin k0_t2_loop.trips) (u : Fin 7) (kk : Fin 2)

theorem lt2 : k.val < 8 := Nat.lt_of_lt_of_le k.isLt k0_t2_abs.2.1

theorem idx3 (l i : Fin 128) :
    (Rect.unit (s := S1x256x7168) (k0_off3 k (W2 u)) S1x128x128.size (k0_off3_inb k u)).idx (ix3 0 l i) = ix3 0 (N 256 l.val) (N 7168 (896 * k.val + 128 * u.val + i.val)) := by
  have := lt2 k
  refine idx_unit_eq _ _ _ _ _ (k0_off3_eq ..) fun a => ?_
  match a with
  | ⟨0, _⟩ => rfl
  | ⟨1, _⟩ => show l.val % 256 = 0 + l.val; omega
  | ⟨2, _⟩ => show (896 * k.val + 128 * u.val + i.val) % 7168 = 896 * k.val + 128 * u.val + i.val; omega

theorem idx4 (l i : Fin 128) :
    (Rect.unit (s := S1x256x7168) (k0_off4 k (W2 u)) S1x128x128.size (k0_off4_inb k u)).idx (ix3 0 l i) = ix3 0 (N 256 (128 + l.val)) (N 7168 (896 * k.val + 128 * u.val + i.val)) := by
  have := lt2 k
  refine idx_unit_eq _ _ _ _ _ (k0_off4_eq ..) fun a => ?_
  match a with
  | ⟨0, _⟩ => rfl
  | ⟨1, _⟩ => show (128 + l.val) % 256 = 128 + l.val; omega
  | ⟨2, _⟩ => show (896 * k.val + 128 * u.val + i.val) % 7168 = 896 * k.val + 128 * u.val + i.val; omega

theorem idx5 (p : Fin 2) (l : Fin 128) :
    (Rect.unit (s := S2x112x2x128) (k0_off5 k (W2 u) (W2k kk)) S1x1x2x128.size (k0_off5_inb k u kk)).idx (ix4 0 0 p l) = ix4 0 (N 112 (14 * k.val + 2 * u.val + kk.val)) p l := by
  have := lt2 k
  refine idx_unit_eq _ _ _ _ _ (k0_off5_eq ..) fun a => ?_
  match a with
  | ⟨0, _⟩ => rfl
  | ⟨1, _⟩ => show (14 * k.val + 2 * u.val + kk.val) % 112 = 14 * k.val + 2 * u.val + kk.val + 0; omega
  | ⟨2, _⟩ => show p.val = 0 + p.val; omega
  | ⟨3, _⟩ => show l.val = 0 + l.val; omega

theorem idx6 (p : Fin 2) (l : Fin 128) :
    (Rect.unit (s := S2x112x2x128) (k0_off6 k (W2 u) (W2k kk)) S1x1x2x128.size (k0_off6_inb k u kk)).idx (ix4 0 0 p l) = ix4 1 (N 112 (14 * k.val + 2 * u.val + kk.val)) p l := by
  have := lt2 k
  refine idx_unit_eq _ _ _ _ _ (k0_off6_eq ..) fun a => ?_
  match a with
  | ⟨0, _⟩ => rfl
  | ⟨1, _⟩ => show (14 * k.val + 2 * u.val + kk.val) % 112 = 14 * k.val + 2 * u.val + kk.val + 0; omega
  | ⟨2, _⟩ => show p.val = 0 + p.val; omega
  | ⟨3, _⟩ => show l.val = 0 + l.val; omega

theorem idx7 (c l : Fin 128) :
    (Rect.unit (s := S14336x128) (k0_off7 k (W2 u) (W2k kk)) S128x128.size (k0_off7_inb k u kk)).idx (ix2 c l) = ix2 (N 14336 (1792 * k.val + 256 * u.val + 128 * kk.val + c.val)) l := by
  have := lt2 k
  refine idx_unit_eq _ _ _ _ _ (k0_off7_eq ..) fun a => ?_
  match a with
  | ⟨0, _⟩ => show (1792 * k.val + 256 * u.val + 128 * kk.val + c.val) % 14336 = 1792 * k.val + 256 * u.val + 128 * kk.val + c.val; omega
  | ⟨1, _⟩ => show l.val = 0 + l.val; omega

theorem idx8 (c l : Fin 128) :
    (Rect.unit (s := S2x14336x128) (k0_off8 k (W2 u) (W2k kk)) S1x128x128.size (k0_off8_inb k u kk)).idx (ix3 0 c l) = ix3 0 (N 14336 (1792 * k.val + 256 * u.val + 128 * kk.val + c.val)) l := by
  have := lt2 k
  refine idx_unit_eq _ _ _ _ _ (k0_off8_eq ..) fun a => ?_
  match a with
  | ⟨0, _⟩ => rfl
  | ⟨1, _⟩ => show (1792 * k.val + 256 * u.val + 128 * kk.val + c.val) % 14336 = 1792 * k.val + 256 * u.val + 128 * kk.val + c.val; omega
  | ⟨2, _⟩ => show l.val = 0 + l.val; omega

theorem idx10 (c l : Fin 128) :
    (Rect.unit (s := S2x14336x128) (k0_off10 k (W2 u) (W2k kk)) S1x128x128.size (k0_off10_inb k u kk)).idx (ix3 0 c l) = ix3 1 (N 14336 (1792 * k.val + 256 * u.val + 128 * kk.val + c.val)) l := by
  have := lt2 k
  refine idx_unit_eq _ _ _ _ _ (k0_off10_eq ..) fun a => ?_
  match a with
  | ⟨0, _⟩ => rfl
  | ⟨1, _⟩ => show (1792 * k.val + 256 * u.val + 128 * kk.val + c.val) % 14336 = 1792 * k.val + 256 * u.val + 128 * kk.val + c.val; omega
  | ⟨2, _⟩ => show l.val = 0 + l.val; omega

theorem idx9 (c : Fin 8) (l : Fin 128) :
    (Rect.unit (s := S2x896x128) (k0_off9 k (W2 u) (W2k kk)) S1x8x128.size (k0_off9_inb k u kk)).idx (ix3 0 c l) = ix3 0 (N 896 (112 * k.val + 16 * u.val + 8 * kk.val + c.val)) l := by
  have := lt2 k
  refine idx_unit_eq _ _ _ _ _ (k0_off9_eq ..) fun a => ?_
  match a with
  | ⟨0, _⟩ => rfl
  | ⟨1, _⟩ => show (112 * k.val + 16 * u.val + 8 * kk.val + c.val) % 896 = 112 * k.val + 16 * u.val + 8 * kk.val + c.val; omega
  | ⟨2, _⟩ => show l.val = 0 + l.val; omega

theorem idx11 (c : Fin 8) (l : Fin 128) :
    (Rect.unit (s := S2x896x128) (k0_off11 k (W2 u) (W2k kk)) S1x8x128.size (k0_off11_inb k u kk)).idx (ix3 0 c l) = ix3 1 (N 896 (112 * k.val + 16 * u.val + 8 * kk.val + c.val)) l := by
  have := lt2 k
  refine idx_unit_eq _ _ _ _ _ (k0_off11_eq ..) fun a => ?_
  match a with
  | ⟨0, _⟩ => rfl
  | ⟨1, _⟩ => show (112 * k.val + 16 * u.val + 8 * kk.val + c.val) % 896 = 112 * k.val + 16 * u.val + 8 * kk.val + c.val; omega
  | ⟨2, _⟩ => show l.val = 0 + l.val; omega
end

section
variable (k : Fin k0_t3_loop.trips) (u : Fin 7) (kk : Fin 2)

theorem lt3 : k.val < 8 := Nat.lt_of_lt_of_le k.isLt k0_t3_abs.2.1

theorem idx12 (l : Fin 128) :
    (Rect.unit (s := S2x112x128) (k0_off12 k (W2 u) (W2k kk)) S1x1x128.size (k0_off12_inb k u kk)).idx (ix3 0 0 l) = ix3 0 (N 112 (14 * k.val + 2 * u.val + kk.val)) l := by
  have := lt3 k
  refine idx_unit_eq _ _ _ _ _ (k0_off12_eq ..) fun a => ?_
  match a with
  | ⟨0, _⟩ => rfl
  | ⟨1, _⟩ => show (14 * k.val + 2 * u.val + kk.val) % 112 = 14 * k.val + 2 * u.val + kk.val + 0; omega
  | ⟨2, _⟩ => show l.val = 0 + l.val; omega

theorem idx15 (l : Fin 128) :
    (Rect.unit (s := S2x112x128) (k0_off15 k (W2 u) (W2k kk)) S1x1x128.size (k0_off15_inb k u kk)).idx (ix3 0 0 l) = ix3 1 (N 112 (14 * k.val + 2 * u.val + kk.val)) l := by
  have := lt3 k
  refine idx_unit_eq _ _ _ _ _ (k0_off15_eq ..) fun a => ?_
  match a with
  | ⟨0, _⟩ => rfl
  | ⟨1, _⟩ => show (14 * k.val + 2 * u.val + kk.val) % 112 = 14 * k.val + 2 * u.val + kk.val + 0; omega
  | ⟨2, _⟩ => show l.val = 0 + l.val; omega

theorem idx13 (c l : Fin 128) :
    (Rect.unit (s := S2x14336x128) (k0_off13 k (W2 u) (W2k kk)) S1x128x128.size (k0_off13_inb k u kk)).idx (ix3 0 c l) = ix3 0 (N 14336 (1792 * k.val + 256 * u.val + 128 * kk.val + c.val)) l := by
  have := lt3 k
  refine idx_unit_eq _ _ _ _ _ (k0_off13_eq ..) fun a => ?_
  match a with
  | ⟨0, _⟩ => rfl
  | ⟨1, _⟩ => show (1792 * k.val + 256 * u.val + 128 * kk.val + c.val) % 14336 = 1792 * k.val + 256 * u.val + 128 * kk.val + c.val; omega
  | ⟨2, _⟩ => show l.val = 0 + l.val; omega

theorem idx16 (c l : Fin 128) :
    (Rect.unit (s := S2x14336x128) (k0_off16 k (W2 u) (W2k kk)) S1x128x128.size (k0_off16_inb k u kk)).idx (ix3 0 c l) = ix3 1 (N 14336 (1792 * k.val + 256 * u.val + 128 * kk.val + c.val)) l := by
  have := lt3 k
  refine idx_unit_eq _ _ _ _ _ (k0_off16_eq ..) fun a => ?_
  match a with
  | ⟨0, _⟩ => rfl
  | ⟨1, _⟩ => show (1792 * k.val + 256 * u.val + 128 * kk.val + c.val) % 14336 = 1792 * k.val + 256 * u.val + 128 * kk.val + c.val; omega
  | ⟨2, _⟩ => show l.val = 0 + l.val; omega

theorem idx14 (l i : Fin 128) :
    (Rect.unit (s := S1x256x7168) (k0_off14 k (W2 u)) S1x128x128.size (k0_off14_inb k u)).idx (ix3 0 l i) = ix3 0 (N 256 l.val) (N 7168 (896 * k.val + 128 * u.val + i.val)) := by
  have := lt3 k
  refine idx_unit_eq _ _ _ _ _ (k0_off14_eq ..) fun a => ?_
  match a with
  | ⟨0, _⟩ => rfl
  | ⟨1, _⟩ => show l.val % 256 = 0 + l.val; omega
  | ⟨2, _⟩ => show (896 * k.val + 128 * u.val + i.val) % 7168 = 896 * k.val + 128 * u.val + i.val; omega

theorem idx17 (l i : Fin 128) :
    (Rect.unit (s := S1x256x7168) (k0_off17 k (W2 u)) S1x128x128.size (k0_off17_inb k u)).idx (ix3 0 l i) = ix3 0 (N 256 (128 + l.val)) (N 7168 (896 * k.val + 128 * u.val + i.val)) := by
  have := lt3 k
  refine idx_unit_eq _ _ _ _ _ (k0_off17_eq ..) fun a => ?_
  match a with
  | ⟨0, _⟩ => rfl
  | ⟨1, _⟩ => show (128 + l.val) % 256 = 128 + l.val; omega
  | ⟨2, _⟩ => show (896 * k.val + 128 * u.val + i.val) % 7168 = 896 * k.val + 128 * u.val + i.val; omega
end

end Cert.KernelIdeal.Hand

end
-- ==== Proof.RowMath.lean ====
/-
The arithmetic of one row over the extended reals: the row factor, the scale of a group and the code of a column, in the
order in which a program that first divides the factor by the scale computes them and in the order of the definition,
and that the two agree.
-/
module

public import Idealize.ShloMosaic.PureOps.Ideal.Laws
public import Idealize.ShloMosaic.Lib.IdealHost

@[expose] public section

noncomputable section

namespace Cert.Dora

open Idealize.ShloMosaic

/-- The absolute value. -/
def absE (x : EReal) : EReal := max x (-x)

/-- An infinite value. -/
def Inf (x : EReal) : Prop := x = ⊤ ∨ x = ⊥

theorem absE_nonneg (x : EReal) : 0 ≤ absE x := by
  unfold absE
  rcases le_total 0 x with h | h
  · exact le_max_of_le_left h
  · exact le_max_of_le_right (EReal.neg_nonneg.mpr h)

theorem absE_of_nonneg {x : EReal} (h : 0 ≤ x) : absE x = x :=
  max_eq_left ((EReal.neg_nonneg.mp (by rwa [neg_neg])).trans h)

theorem absE_neg (x : EReal) : absE (-x) = absE x := by
  unfold absE; rw [neg_neg, max_comm]

theorem absE_of_nonpos {x : EReal} (h : x ≤ 0) : absE x = -x := by
  rw [← absE_neg, absE_of_nonneg (EReal.neg_nonneg.mpr h)]

theorem absE_mul (x y : EReal) : absE (x * y) = absE x * absE y := by
  rcases le_total 0 x with hx | hx <;> rcases le_total 0 y with hy | hy
  · rw [absE_of_nonneg hx, absE_of_nonneg hy, absE_of_nonneg (mul_nonneg hx hy)]
  · rw [absE_of_nonneg hx, absE_of_nonpos hy, ← absE_neg (x * y), ← mul_neg,
      absE_of_nonneg (mul_nonneg hx (EReal.neg_nonneg.mpr hy))]
  · rw [absE_of_nonpos hx, absE_of_nonneg hy, ← absE_neg (x * y), ← neg_mul,
      absE_of_nonneg (mul_nonneg (EReal.neg_nonneg.mpr hx) hy)]
  · rw [absE_of_nonpos hx, absE_of_nonpos hy, neg_mul_neg, absE_of_nonneg]
    have := mul_nonneg (EReal.neg_nonneg.mpr hx) (EReal.neg_nonneg.mpr hy)
    rwa [neg_mul_neg] at this

theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem mul_self_of_inf {x : EReal} (h : Inf x) : x * x = ⊤ := by
  rcases h with rfl | rfl
  · exact EReal.top_mul_top
  · exact EReal.bot_mul_bot

/-- The number seven of the divisor, as the word spells it. -/
def seven : EReal := Ideal.ofBits .f32 0x40E00000#32

theorem seven_eq : seven = ((7 : ℝ) : EReal) := by
  unfold seven; simp [Ideal.ofBits, Ideal.ieee, ← EReal.coe_mul]; norm_num

/-- The scale of a group whose largest absolute value is `a`. -/
def scaleOf (a : EReal) : EReal := if a = 0 then 1 else Ideal.div a seven

theorem scaleOf_zero : scaleOf 0 = 1 := if_pos rfl

theorem scaleOf_ne_zero (a : EReal) : scaleOf a ≠ 0 := by
  unfold scaleOf
  split
  · exact one_ne_zero
  · next h =>
    rw [seven_eq, Ideal.div_coe (by norm_num)]
    exact mul_ne_zero h (by simp)

theorem div_of_ne_zero {x y : EReal} (h : y ≠ 0) : Ideal.div x y = x * y⁻¹ := if_neg h

/-- The sum of the squares of the first `n` columns. -/
def ssq (n : ℕ) (m : ℕ → EReal) : EReal := ∑ c ∈ Finset.range n, m c * m c

/-- The row factor: the magnitude over the norm. -/
def fac (n : ℕ) (m : ℕ → EReal) (mag : EReal) : EReal := Ideal.div mag (Ideal.sqrt (ssq n m))

/-- The largest absolute value of the group `g` of 128 columns. -/
def amaxG (m : ℕ → EReal) (g : ℕ) : EReal := (Finset.range 128).sup fun t => absE (m (128 * g + t))

/-- The scale of group `g`, the factor taken out of the maximum. -/
def scaleK (n : ℕ) (m : ℕ → EReal) (mag : EReal) (g : ℕ) : EReal := scaleOf (amaxG m g * absE (fac n m mag))

/-- The scale of group `g` by the definition. -/
def scaleR (n : ℕ) (m : ℕ → EReal) (mag : EReal) (g : ℕ) : EReal := scaleOf (amaxG (fun c => m c * fac n m mag) g)

/-- The quotient that is rounded, the factor divided by the scale first. -/
def quotK (n : ℕ) (m : ℕ → EReal) (mag : EReal) (c : ℕ) : EReal :=
  m c * Ideal.div (fac n m mag) (scaleK n m mag (c / 128))

/-- The quotient that is rounded, by the definition. -/
def quotR (n : ℕ) (m : ℕ → EReal) (mag : EReal) (c : ℕ) : EReal :=
  Ideal.div (m c * fac n m mag) (scaleR n m mag (c / 128))

theorem amaxG_mul (m : ℕ → EReal) (f : EReal) (g : ℕ) : amaxG (fun c => m c * f) g = amaxG m g * absE f := by
  unfold amaxG
  apply le_antisymm
  · refine Finset.sup_le fun t ht => ?_
    rw [absE_mul]
    exact mul_le_mul_of_nonneg_right (Finset.le_sup (f := fun t => absE (m (128 * g + t))) ht) (absE_nonneg f)
  · obtain ⟨t, ht, h⟩ := Finset.exists_mem_eq_sup (Finset.range 128) ⟨0, by simp⟩ fun t => absE (m (128 * g + t))
    rw [h, ← absE_mul]
    exact Finset.le_sup (f := fun t => absE (m (128 * g + t) * f)) ht

theorem scaleK_eq_scaleR (n : ℕ) (m : ℕ → EReal) (mag : EReal) (g : ℕ) : scaleK n m mag g = scaleR n m mag g := by
  unfold scaleK scaleR; rw [amaxG_mul]

theorem quotK_eq_quotR (n : ℕ) (m : ℕ → EReal) (mag : EReal) (c : ℕ) : quotK n m mag c = quotR n m mag c := by
  unfold quotK quotR
  have h : scaleR n m mag (c / 128) ≠ 0 := scaleOf_ne_zero _
  rw [scaleK_eq_scaleR, div_of_ne_zero h, div_of_ne_zero h, mul_assoc]

theorem ssq_of_inf {n : ℕ} {m : ℕ → EReal} (h : ∃ c < n, Inf (m c)) : ssq n m = ⊤ := by
  obtain ⟨c, hc, hm⟩ := h
  refine top_unique ?_
  rw [← mul_self_of_inf hm]
  exact Finset.single_le_sum (f := fun c => m c * m c) (fun i _ => mul_self_nonneg' (m i)) (Finset.mem_range.mpr hc)

theorem fac_of_inf {n : ℕ} {m : ℕ → EReal} (h : ∃ c < n, Inf (m c)) (mag : EReal) : fac n m mag = 0 := by
  unfold fac
  rw [ssq_of_inf h, Ideal.sqrt_top, div_of_ne_zero (by simp), EReal.inv_top, mul_zero]

theorem scaleR_of_inf {n : ℕ} {m : ℕ → EReal} (h : ∃ c < n, Inf (m c)) (mag : EReal) (g : ℕ) : scaleR n m mag g = 1 := by
  rw [← scaleK_eq_scaleR, scaleK, fac_of_inf h, absE_of_nonneg le_rfl, mul_zero, scaleOf_zero]

theorem quotR_of_inf {n : ℕ} {m : ℕ → EReal} (h : ∃ c < n, Inf (m c)) (mag : EReal) (c : ℕ) : quotR n m mag c = 0 := by
  rw [quotR, scaleR_of_inf h, fac_of_inf h, mul_zero, div_of_ne_zero one_ne_zero, zero_mul]

/-- Two rows that agree column by column, or both hold an infinite value. -/
def Alike (n : ℕ) (m m' : ℕ → EReal) : Prop :=
  (∀ c < n, m c = m' c) ∨ ((∃ c < n, Inf (m c)) ∧ ∃ c < n, Inf (m' c))

theorem ssq_congr {n : ℕ} {m m' : ℕ → EReal} (h : ∀ c < n, m c = m' c) : ssq n m = ssq n m' :=
  Finset.sum_congr rfl fun c hc => by rw [h c (Finset.mem_range.mp hc)]

theorem fac_congr {n : ℕ} {m m' : ℕ → EReal} (h : ∀ c < n, m c = m' c) (mag : EReal) : fac n m mag = fac n m' mag := by
  unfold fac; rw [ssq_congr h]

/-- Rows alike have the same scales, -/
theorem scale_alike {n : ℕ} {m m' : ℕ → EReal} (h : Alike n m m') (mag : EReal) {g : ℕ} (hg : 128 * g + 128 ≤ n) :
    scaleK n m mag g = scaleR n m' mag g := by
  rcases h with h | ⟨h, h'⟩
  · rw [← scaleK_eq_scaleR, scaleK, scaleK, fac_congr h]
    congr 2
    exact Finset.sup_congr rfl fun t ht => by rw [h _ (by have := Finset.mem_range.mp ht; omega)]
  · rw [scaleK_eq_scaleR, scaleR_of_inf h, scaleR_of_inf h']

/-- and the same quotients. -/
theorem quot_alike {n : ℕ} {m m' : ℕ → EReal} (h : Alike n m m') (mag : EReal) {c : ℕ} (hc : c < n)
    (hg : 128 * (c / 128) + 128 ≤ n) : quotK n m mag c = quotR n m' mag c := by
  have hs := scale_alike h mag hg
  rcases h with h | ⟨h, h'⟩
  · rw [quotK, hs, h c hc, fac_congr h, ← scaleK_eq_scaleR, ← quotK, quotK_eq_quotR]
  · rw [quotK_eq_quotR, quotR_of_inf h, quotR_of_inf h']

/-! ### The merged weight of one column -/

/-- The multiplier of the low-rank product, as the word spells it. -/
def lora : EReal := Ideal.ofBits .f32 0x3F2AAAAB#32

/-- One column of the kernel's merged weight: the low-rank factor against the scaled weight and against what is left of
    it after it is taken away from itself once, and twice. -/
def mergedK (dq : EReal) (a b : Fin 24 → EReal) : EReal :=
  dq + (∑ r, a r * (b r * lora) + (∑ r, a r * (b r * lora - b r * lora)
    + ∑ r, a r * (b r * lora - b r * lora - (b r * lora - b r * lora))))

/-- One column of the merged weight by the definition. -/
def mergedR (dq : EReal) (a b : Fin 24 → EReal) : EReal := dq + lora * ∑ r, b r * a r

end Cert.Dora

end
-- ==== Proof.Codes.lean ====
/-
The codes: the signed nibbles of a byte, rounding half to even and clipping to seven, and two codes packed to a byte.
-/
module

public import proofs.«01_k».proof.Proof.RowMath
public import Idealize.ShloMosaic.PureOps.Ideal.Laws

@[expose] public section

noncomputable section

namespace Cert.Dora

open Idealize.ShloMosaic

/-! ### Nibbles -/

/-- The signed low (`p = 0`) or high nibble of a byte. -/
def codeI (b : BitVec 8) (p : ℕ) : ℤ := if p = 0 then (b.setWidth 4).toInt else ((b >>> 4).setWidth 4).toInt

/-- The same as an extended real. -/
def codeE (b : BitVec 8) (p : ℕ) : EReal := ((codeI b p : ℝ) : EReal)

theorem low_word : ∀ b : BitVec 8,
    (BitVec.setWidth 4 (IntOp.shrsi .vector (IntOp.shli .vector (BitVec.setWidth 32 b) 28#32) 28#32)).toInt = codeI b 0 := by
  decide +kernel

theorem high_word : ∀ b : BitVec 8,
    (BitVec.setWidth 4 (IntOp.shrsi .vector (IntOp.shli .vector (BitVec.setWidth 32 b) 24#32) 28#32)).toInt = codeI b 1 := by
  decide +kernel

/-! ### Rounding -/

/-- Round half to even. -/
abbrev rnd : ℝ → ℤ := Ideal.roundHalfEven

theorem le_rnd {x : ℝ} {n : ℤ} (h : (n : ℝ) ≤ x) : n ≤ rnd x := by
  have hf : n ≤ ⌊x⌋ := Int.le_floor.mpr h
  simp only [rnd, Ideal.roundHalfEven]; split_ifs <;> omega

theorem rnd_le {x : ℝ} {n : ℤ} (h : x ≤ n) : rnd x ≤ n := by
  have hf : ⌊x⌋ ≤ n := Int.floor_le_iff.mpr (by linarith)
  rcases hf.eq_or_lt with e | e
  · have hx : x = n := le_antisymm h (by rw [← e]; exact Int.floor_le x)
    simp only [rnd, Ideal.roundHalfEven, hx, Int.floor_intCast]
    simp
  · simp only [rnd, Ideal.roundHalfEven]; split_ifs <;> omega

theorem rnd_add (x : ℝ) (n : ℤ) (hn : Even n) : rnd (x + n) = rnd x + n := by
  simp only [rnd, Ideal.roundHalfEven, Int.floor_add_intCast]
  have e : x + (n : ℝ) - ((⌊x⌋ + n : ℤ) : ℝ) = x - (⌊x⌋ : ℝ) := by push_cast; ring
  have hev : Even (⌊x⌋ + n) ↔ Even ⌊x⌋ := by rw [Int.even_add]; simp [hn]
  rw [e]; simp only [hev]
  split_ifs <;> ring

theorem fptosi_int (k : ℤ) (h1 : -2147483648 ≤ k) (h2 : k ≤ 2147483647) : Ideal.fptosi 32 (((k : ℝ)) : EReal) = BitVec.ofInt 32 k := by
  rw [Ideal.fptosi, Ideal.toIntClamped_coe]
  simp only [Int.floor_intCast, Int.ceil_intCast, ite_self]
  congr 1
  norm_num
  omega

/-- Minus seven, as the word spells it. -/
def negSeven : EReal := Ideal.ofBits .f32 0xC0E00000#32
/-- The shift that makes the addition round. -/
def magic : EReal := Ideal.ofBits .f32 0x4B400000#32

theorem negSeven_eq : negSeven = ((-7 : ℝ) : EReal) := by
  unfold negSeven; simp [Ideal.ofBits, Ideal.ieee, ← EReal.coe_mul]; norm_num

theorem magic_eq : magic = ((12582912 : ℝ) : EReal) := by
  unfold magic; simp [Ideal.ofBits, Ideal.ieee, ← EReal.coe_mul]

/-- The kernel's word of a quotient: clipped, shifted, rounded, and the constant added. -/
def wordK (z : EReal) : BitVec 32 :=
  Ideal.fptosi 32 (Ideal.liftRound Ideal.roundHalfEven (min seven (max negSeven z) + magic)) + 1249902592#32

/-- The quantiser's code of a quotient: rounded, then clipped. -/
def wordR (z : EReal) : BitVec 32 :=
  Ideal.fptosi 32 (min ((7 : ℝ) : EReal) (max ((-7 : ℝ) : EReal) (Ideal.liftRound Ideal.roundHalfEven z)))

theorem wordK_coe (y : ℝ) (k : ℤ) (h1 : -7 ≤ k) (h2 : k ≤ 7) (hk : rnd y = k) :
    Ideal.fptosi 32 (Ideal.liftRound Ideal.roundHalfEven ((y : EReal) + magic)) + 1249902592#32
      = BitVec.ofInt 32 (k + 12582912) + 1249902592#32 := by
  rw [magic_eq, ← EReal.coe_add, Ideal.liftRound_coe]
  have e : Ideal.roundHalfEven (y + 12582912) = k + 12582912 := by
    have := rnd_add y 12582912 ⟨6291456, by norm_num⟩
    rw [hk] at this
    exact_mod_cast this
  rw [e, fptosi_int _ (by omega) (by omega)]

theorem coe_max' (x y : ℝ) : ((max x y : ℝ) : EReal) = max (x : EReal) (y : EReal) := EReal.coe_strictMono.monotone.map_max

theorem coe_min' (x y : ℝ) : ((min x y : ℝ) : EReal) = min (x : EReal) (y : EReal) := EReal.coe_strictMono.monotone.map_min

/-- Both words are those of one code. -/
theorem words (z : EReal) : ∃ k : ℤ, -7 ≤ k ∧ k ≤ 7 ∧ wordR z = BitVec.ofInt 32 k
    ∧ wordK z = BitVec.ofInt 32 (k + 12582912) + 1249902592#32 := by
  unfold wordK wordR
  rw [seven_eq, negSeven_eq]
  induction z using EReal.rec with
  | bot =>
    refine ⟨-7, by norm_num, by norm_num, ?_, ?_⟩
    · rw [Ideal.liftRound_bot, max_eq_left bot_le, min_eq_right (by exact_mod_cast (by norm_num : (-7 : ℝ) ≤ 7))]
      exact_mod_cast fptosi_int (-7) (by norm_num) (by norm_num)
    · rw [max_eq_left bot_le, min_eq_right (by exact_mod_cast (by norm_num : (-7 : ℝ) ≤ 7))]
      exact wordK_coe (-7) (-7) (by norm_num) (by norm_num) (le_antisymm (rnd_le (by norm_num)) (le_rnd (by norm_num)))
  | top =>
    refine ⟨7, by norm_num, by norm_num, ?_, ?_⟩
    · rw [Ideal.liftRound_top, max_eq_right le_top, min_eq_left le_top]
      exact_mod_cast fptosi_int 7 (by norm_num) (by norm_num)
    · rw [max_eq_right le_top, min_eq_left le_top]
      exact wordK_coe 7 7 (by norm_num) (by norm_num) (le_antisymm (rnd_le (by norm_num)) (le_rnd (by norm_num)))
  | coe x =>
    refine ⟨min 7 (max (-7) (rnd x)), by omega, by omega, ?_, ?_⟩
    · rw [Ideal.liftRound_coe, ← fptosi_int _ (by omega) (by omega)]
      congr 1
      rw [Int.cast_min, Int.cast_max, coe_min', coe_max']
      norm_num
    · rw [← coe_max', ← coe_min']
      refine wordK_coe _ _ (by omega) (by omega) ?_
      rcases le_total x (-7) with h | h
      · have hx : rnd x ≤ -7 := rnd_le (by exact_mod_cast h)
        rw [max_eq_left h, min_eq_right (by norm_num), max_eq_left hx, min_eq_right (by norm_num)]
        exact le_antisymm (rnd_le (by norm_num)) (le_rnd (by norm_num))
      · have hx : -7 ≤ rnd x := le_rnd (by exact_mod_cast h)
        rw [max_eq_right h, max_eq_right hx]
        rcases le_total x 7 with h' | h'
        · have hx' : rnd x ≤ 7 := rnd_le (by exact_mod_cast h')
          rw [min_eq_right h', min_eq_right hx']
        · have hx' : 7 ≤ rnd x := le_rnd (by exact_mod_cast h')
          rw [min_eq_left h', min_eq_left hx']
          exact le_antisymm (rnd_le (by norm_num)) (le_rnd (by norm_num))

/-! ### Packing -/

/-- Two nibbles to a byte. -/
def byteN (lo hi : BitVec 4) : BitVec 8 := hi ++ lo

theorem byteK_nib : ∀ lo hi : BitVec 4, BitVec.setWidth 8 (IntOp.ori (IntOp.andi (BitVec.signExtend 32 lo) 15#32)
    (IntOp.shli .vector (IntOp.andi (BitVec.signExtend 32 hi) 15#32) 4#32)) = byteN lo hi := by
  decide +kernel

theorem nib_wordK (z : EReal) : BitVec.setWidth 4 (wordK z) = BitVec.setWidth 4 (wordR z) := by
  obtain ⟨k, h1, h2, hr, hk⟩ := words z
  rw [hr, hk]
  interval_cases k <;> decide

/-- The reference's byte of two codes. -/
def byteR (zlo zhi : EReal) : BitVec 8 := byteN (BitVec.setWidth 4 (wordR zlo)) (BitVec.setWidth 4 (wordR zhi))

end Cert.Dora

end
-- ==== Proof.Blocks.lean ====
/-
What each named block of the idealized kernel holds at an index, over the extended reals.
-/
module

public import proofs.«01_k».proof.Proof.Pieces
public import proofs.«01_k».proof.Proof.Codes
public import Idealize.ShloMosaic.Lib.Pointwise
public import Idealize.ShloMosaic.PureOps.Ideal.Laws

@[expose] public section

set_option maxRecDepth 16384
set_option maxHeartbeats 400000

noncomputable section

namespace Cert.KernelIdeal.Hand

open Cert.KernelIdeal Cert.KernelIdeal.Gen Cert.Dora Idealize.ShloMosaic Idealize.ShloMosaic.TcCoe

/-- One dequantised code: the nibble of byte `64 kk + c / 2` times the scale. -/
theorem dqBlk_apply (kk : Fin 2) (x : Vec Ideal S1x128x128 .i8) (s : Vec Ideal S1x1x2x128 .bf16) (c l : Fin 128)
    (hs : s (ix4 0 0 1 l) = s (ix4 0 0 0 l)) (i : Fin 128) (hi : i.val = 64 * kk.val + c.val / 2) :
    dqBlk (cut kk (k0_pay20 x)) s (ix2 c l) = codeE (x (ix3 0 l i)) (c.val % 2) * s (ix4 0 0 0 l) := by
  have hz : ∀ b : BitVec 8, (FloatOps.sitofp (F := Ideal) .bf16 (BitVec.setWidth 4
      (IntOp.shrsi .vector (IntOp.shli .vector (BitVec.setWidth 32 b) 28#32) 28#32)) : EReal) = codeE b 0 :=
    fun b => congrArg (fun z : ℤ => ((z : ℝ) : EReal)) (low_word b)
  have ho : ∀ b : BitVec 8, (FloatOps.sitofp (F := Ideal) .bf16 (BitVec.setWidth 4
      (IntOp.shrsi .vector (IntOp.shli .vector (BitVec.setWidth 32 b) 24#32) 28#32)) : EReal) = codeE b 1 :=
    fun b => congrArg (fun z : ℤ => ((z : ℝ) : EReal)) (high_word b)
  have hm := Nat.mod_two_eq_zero_or_one c.val
  fin_cases kk
  · obtain rfl : i = ⟨c.val / 2, by clear hi; omega⟩ := Fin.ext (by simpa using hi)
    obtain ⟨q, hq, hq2⟩ : ∃ q, q = c.val % 2 ∧ (q = 0 ∨ q = 1) := ⟨_, rfl, hm⟩
    rw [← hq]
    dsimp only [cut]
    pointwise [dqBlk, scaleRows, k0_pay20]
    simp only [hs, ite_self, dite_eq_ite]
    rcases hq2 with rfl | rfl
    · have h1 : c.val % 2 < 1 := by omega
      rw [dif_pos h1, hz]
    · have h1 : ¬ c.val % 2 < 1 := by omega
      rw [dif_neg h1, ho]
  · obtain rfl : i = ⟨64 + c.val / 2, by clear hi; omega⟩ := Fin.ext (by simpa using hi)
    obtain ⟨q, hq, hq2⟩ : ∃ q, q = c.val % 2 ∧ (q = 0 ∨ q = 1) := ⟨_, rfl, hm⟩
    rw [← hq]
    dsimp only [cut]
    pointwise [dqBlk, scaleRows, k0_pay20]
    have e1 : (128 + c.val) / 2 = 64 + c.val / 2 := by omega
    have e2 : (128 + c.val) % 2 = c.val % 2 := by omega
    simp only [hs, ite_self, dite_eq_ite, e1, e2]
    rcases hq2 with rfl | rfl
    · have h1 : c.val % 2 < 1 := by omega
      rw [dif_pos h1, hz]
    · have h1 : ¬ c.val % 2 < 1 := by omega
      rw [dif_neg h1, ho]

theorem m0Blk_apply (w : Vec Ideal S256x256 .bf16) (y a : FVec Ideal S128x128 .bf16) (c l : Fin 128) :
    m0Blk w y a (ix2 c l) = ∑ x : Fin 128, y (ix2 c x) * w (ix2 (x.castLE (by decide)) (l.castLE (by decide)))
      + ∑ x : Fin 128, a (ix2 c x) * w (ix2 (x.natAdd 128) (l.castLE (by decide))) := by
  pointwise [m0Blk, prodBlk]
  rfl

theorem m1Blk_apply (w : Vec Ideal S256x256 .bf16) (y z a : FVec Ideal S128x128 .bf16) (c l : Fin 128) :
    m1Blk w y z a (ix2 c l) = ∑ x : Fin 128, y (ix2 c x) * w (ix2 (x.castLE (by decide)) (l.natAdd 128))
      + ∑ x : Fin 128, a (ix2 c x) * w (ix2 (x.natAdd 128) (l.natAdd 128)) + z (ix2 c l) := by
  pointwise [m1Blk, prodBlk]
  rfl

theorem ssqBlk_apply (acc : FVec Ideal S8x128 .f32) (m : FVec Ideal S128x128 .f32) (c : Fin 8) (l : Fin 128) :
    ssqBlk acc m (ix2 c l) = acc (ix2 c l)
      + ∑ x : Fin 16, m (ix2 ⟨x.val * 8 + c.val, by omega⟩ l) * m (ix2 ⟨x.val * 8 + c.val, by omega⟩ l) := by
  pointwise [ssqBlk]

theorem amaxBlk_apply (m : FVec Ideal S128x128 .f32) (c : Fin 8) (l : Fin 128) :
    amaxBlk m (ix3 0 c l) = Finset.univ.sup fun x : Fin 16 => absE (m (ix2 ⟨x.val * 8 + c.val, by omega⟩ l)) := by
  have hb : Ideal.ofBits FTy.f32 4286578688#32 = ⊥ := by simp [Ideal.ofBits, Ideal.ieee]
  pointwise [amaxBlk]
  rw [hb]
  rfl

theorem storeBlk_apply (m : FVec Ideal S128x128 .f32) (c l : Fin 128) : storeBlk m (ix3 0 c l) = m (ix2 c l) := by
  pointwise [storeBlk]

theorem word_apply (r : Vec Ideal S1x1x128 .f32) (m : Vec Ideal S1x128x128 .f32) (c l : Fin 128) :
    k0_pay211 r m (ix2 c l) = wordK (m (ix3 0 c l) * r (ix3 0 0 l)) := by
  pointwise [k0_pay211]
  rfl

/-- The word of column `i` among two groups of 128. -/
def pick (a b : IVec S128x128 32) (i : ℕ) (n : Fin 128) : BitVec 32 :=
  if h : i < 128 then a (ix2 ⟨i, h⟩ n) else b (ix2 (Fin.ofNat 128 (i - 128)) n)

theorem packBlk_apply (a b : IVec S128x128 32) (n j : Fin 128) :
    packBlk a b (ix3 0 n j) = byteN (BitVec.setWidth 4 (pick a b (j.val * 2) n)) (BitVec.setWidth 4 (pick a b (j.val * 2 + 1) n)) := by
  rw [← byteK_nib]
  have e1 : (if h : j.val * 2 < 128 then a (ix2 ⟨j.val * 2, h⟩ n) else b (ix2 ⟨j.val * 2 - 128, by omega⟩ n)) = pick a b (j.val * 2) n := by
    unfold pick; split
    · rfl
    · congr 2; exact Fin.ext (Nat.mod_eq_of_lt (by omega)).symm
  have e2 : (if h : j.val * 2 + 1 < 128 then a (ix2 ⟨j.val * 2 + 1, h⟩ n) else b (ix2 ⟨j.val * 2 + 1 - 128, by omega⟩ n)) = pick a b (j.val * 2 + 1) n := by
    unfold pick; split
    · rfl
    · congr 2; exact Fin.ext (Nat.mod_eq_of_lt (by omega)).symm
  pointwise [packBlk]
  rw [← e1, ← e2]

/-! ### The blocks outside the loops -/

/-- The low-rank weights: the identity, then the three parts of the scaled factor, then zeros. -/
theorem pay265_apply (x : Vec Ideal S1x256x24 .bf16) (c l : Fin 256) :
    k0_pay265 x (ix2 c l) = if c.val < 128 then (if c.val = l.val then 1 else 0) else
      if h : c.val - 128 < 24 then x (ix3 0 l ⟨c.val - 128, h⟩) * lora else
      if h : c.val - 152 < 24 then x (ix3 0 l ⟨c.val - 152, h⟩) * lora - x (ix3 0 l ⟨c.val - 152, h⟩) * lora else
      if h : c.val - 176 < 24 then x (ix3 0 l ⟨c.val - 176, h⟩) * lora - x (ix3 0 l ⟨c.val - 176, h⟩) * lora
        - (x (ix3 0 l ⟨c.val - 176, h⟩) * lora - x (ix3 0 l ⟨c.val - 176, h⟩) * lora) else 0 := by
  pointwise [k0_pay265]
  by_cases h0 : c.val < 128
  · simp only [h0, dif_pos, if_pos]
    by_cases hcl : c.val = l.val
    · simp [hcl, Scalar.select, IntOp.cmpi]
    · have : ¬ (BitVec.ofNat 32 c.val = BitVec.ofNat 32 l.val) := by
        intro h; have := congrArg BitVec.toNat h
        simp only [BitVec.toNat_ofNat] at this
        omega
      have hb : (BitVec.ofNat 32 c.val == BitVec.ofNat 32 l.val) = false := by simpa using this
      simp [hcl, hb, Scalar.select, IntOp.cmpi]
  · simp only [h0, dif_neg, if_neg, not_false_eq_true]
    have hc := c.isLt
    by_cases h1 : c.val - 128 < 24
    · have h2 : c.val - 128 < 72 := by omega
      simp only [h1, h2, dif_pos]; rfl
    · by_cases h3 : c.val - 152 < 24
      · have h2 : c.val - 128 < 72 := by omega
        have h4 : c.val - 128 - 24 < 24 := by omega
        simp only [h1, h2, h3, h4, dif_pos, dif_neg, not_false_eq_true]
        have e : c.val - 128 - 24 = c.val - 152 := by omega
        simp only [e]; rfl
      · by_cases h5 : c.val - 176 < 24
        · have h2 : c.val - 128 < 72 := by omega
          have h4 : ¬ c.val - 128 - 24 < 24 := by omega
          have h6 : c.val - 128 - 24 - 24 < 24 := by omega
          simp only [h1, h2, h3, h4, h5, h6, dif_pos, dif_neg, not_false_eq_true]
          have e : c.val - 128 - 24 - 24 = c.val - 176 := by omega
          simp only [e]; rfl
        · have h2 : ¬ c.val - 128 < 72 := by omega
          simp only [h1, h2, h3, h5, dif_neg, not_false_eq_true]

theorem pay271_apply (x : Vec Ideal S1x256x112 .bf16) (g : Fin 112) (p : Fin 2) (l : Fin 128) :
    k0_pay271 (k0_pay267 x) (k0_pay268 x) (ix4 0 g p l) = x (ix3 0 (l.castLE (by decide)) g) := by
  pointwise [k0_pay271, k0_pay269, k0_pay270, k0_pay267, k0_pay268, k0_pay266]
  rw [ite_self]; rfl

theorem pay272_apply (x : Vec Ideal S1x256x112 .bf16) (g : Fin 112) (p : Fin 2) (l : Fin 128) :
    k0_pay272 (k0_pay267 x) (k0_pay268 x) (ix4 0 g p l) = x (ix3 0 (l.natAdd 128) g) := by
  pointwise [k0_pay272, k0_pay269, k0_pay270, k0_pay267, k0_pay268, k0_pay266]
  rw [ite_self]; rfl

theorem pay276_apply (a : FVec Ideal S8x128 .f32) (m : Vec Ideal S1x1x128 .f32) (l : Fin 128) :
    k0_pay276 a m (ix2 0 l) = Ideal.div (m (ix3 0 0 l)) (Ideal.sqrt (∑ x : Fin 8, a (ix2 x l))) := by
  pointwise [k0_pay276]

theorem pay282_apply (a : FVec Ideal S8x128 .f32) (m : Vec Ideal S1x1x128 .f32) (l : Fin 128) :
    k0_pay282 a m (ix2 0 l) = Ideal.div (m (ix3 0 0 l)) (Ideal.sqrt (∑ x : Fin 8, a (ix2 x l))) := by
  pointwise [k0_pay282]

/-- The largest of eight. -/
def max8 (t0 t1 t2 t3 t4 t5 t6 t7 : EReal) : EReal := max (max (max (max (max (max (max t0 t1) t2) t3) t4) t5) t6) t7

theorem pay278_apply (f : FVec Ideal S1x128 .f32) (t0 t1 t2 t3 t4 t5 t6 t7 : Vec Ideal S1x112x128 .f32) (g : Fin 112) (l : Fin 128) :
    k0_pay278 f (k0_pay277 t0 t1) t2 t3 t4 t5 t6 t7 (ix2 g l)
      = scaleOf (max8 (t0 (ix3 0 g l)) (t1 (ix3 0 g l)) (t2 (ix3 0 g l)) (t3 (ix3 0 g l)) (t4 (ix3 0 g l)) (t5 (ix3 0 g l))
          (t6 (ix3 0 g l)) (t7 (ix3 0 g l)) * absE (f (ix2 0 l))) := by
  pointwise [k0_pay278, k0_pay277]
  rfl

theorem pay1_apply (f : FVec Ideal S1x128 .f32) (t0 t1 t2 t3 t4 t5 t6 t7 : Vec Ideal S1x112x128 .f32) (g : Fin 112) (l : Fin 128) :
    k0_pay1 f (k0_pay283 t0 t1 t2 t3 t4 t5 t6 t7) (ix2 g l)
      = scaleOf (max8 (t0 (ix3 0 g l)) (t1 (ix3 0 g l)) (t2 (ix3 0 g l)) (t3 (ix3 0 g l)) (t4 (ix3 0 g l)) (t5 (ix3 0 g l))
          (t6 (ix3 0 g l)) (t7 (ix3 0 g l)) * absE (f (ix2 0 l))) := by
  pointwise [k0_pay1, k0_pay283]
  rfl

theorem pay279_apply (f : FVec Ideal S1x128 .f32) (v : FVec Ideal S112x128 .f32) (t2 t3 t4 t5 t6 t7 : Vec Ideal S1x112x128 .f32)
    (g : Fin 112) (l : Fin 128) :
    k0_pay279 f v t2 t3 t4 t5 t6 t7 (ix3 0 g l) = Ideal.div (f (ix2 0 l)) (k0_pay278 f v t2 t3 t4 t5 t6 t7 (ix2 g l)) := by
  pointwise [k0_pay279]

theorem pay2_apply (f : FVec Ideal S1x128 .f32) (v : FVec Ideal S112x128 .f32) (g : Fin 112) (l : Fin 128) :
    k0_pay2 f v (ix3 0 g l) = Ideal.div (f (ix2 0 l)) (k0_pay1 f v (ix2 g l)) := by
  pointwise [k0_pay2]

theorem pay3_apply (v : FVec Ideal S112x128 .f32) (f : FVec Ideal S1x128 .f32) (t : FVec Ideal S112x128 .f32) (g : Fin 112) (n : Fin 256) :
    k0_pay3 (k0_pay281 v k0_pay280) f t (ix3 0 n g)
      = if h : n.val < 128 then v (ix2 g ⟨n.val, h⟩) else k0_pay1 f t (ix2 g ⟨n.val - 128, by omega⟩) := by
  pointwise [k0_pay3, k0_pay281, k0_pay280]

theorem pay273_apply (j : Fin 8) (l : Fin 128) : k0_pay273 (F := Ideal) (ix2 j l) = 0 := by
  pointwise [k0_pay273]

/-- Three copies of the low-rank columns, then zeros. -/
theorem pay5_apply (x : Vec Ideal S1x24x128 .bf16) (c l : Fin 128) :
    k0_pay5 x (ix2 c l) = if l.val < 72 then x (ix3 0 (Fin.ofNat 24 l.val) c) else 0 := by
  pointwise [k0_pay5]
  by_cases h : l.val < 72
  · simp only [h, dif_pos, if_pos]
    split
    · congr 2; exact Fin.ext (Nat.mod_eq_of_lt (by omega)).symm
    · split
      · congr 2; apply Fin.ext; show l.val - 24 = l.val % 24; omega
      · congr 2; apply Fin.ext; show l.val - 24 - 24 = l.val % 24; omega
  · simp [h]

end Cert.KernelIdeal.Hand

end
-- ==== Proof.Sums.lean ====
/-
Sums and largest values over a row cut into groups, words and lanes.
-/
module

public import proofs.«01_k».proof.Proof.Blocks

@[expose] public section

noncomputable section

namespace Cert.Dora

open Idealize.ShloMosaic Cert.KernelIdeal.Hand

theorem sum_range_mul {α : Type*} [AddCommMonoid α] (f : ℕ → α) (m : ℕ) :
    ∀ n, ∑ i ∈ Finset.range (n * m), f i = ∑ i ∈ Finset.range n, ∑ j ∈ Finset.range m, f (m * i + j)
  | 0 => by simp
  | n + 1 => by
    rw [Nat.succ_mul, Finset.sum_range_add, sum_range_mul f m n, Finset.sum_range_succ]
    simp only [Nat.mul_comm]

/-- A sum over 128 of which the last 56 terms are zero, in three parts. -/
theorem sum72 (G : ℕ → EReal) (h : ∀ i, 72 ≤ i → G i = 0) :
    ∑ x : Fin 128, G x.val = ∑ r : Fin 24, G r.val + (∑ r : Fin 24, G (24 + r.val) + ∑ r : Fin 24, G (48 + r.val)) := by
  rw [Fin.sum_univ_eq_sum_range (fun i => G i) 128, Fin.sum_univ_eq_sum_range (fun i => G i) 24,
    Fin.sum_univ_eq_sum_range (fun i => G (24 + i)) 24, Fin.sum_univ_eq_sum_range (fun i => G (48 + i)) 24,
    show (128 : ℕ) = 24 + (24 + (24 + 56)) from rfl, Finset.sum_range_add, Finset.sum_range_add, Finset.sum_range_add]
  have : ∑ x ∈ Finset.range 56, G (24 + (24 + (24 + x))) = 0 := Finset.sum_eq_zero fun x _ => h _ (by omega)
  rw [this, add_zero]
  refine congrArg₂ (· + ·) rfl (congrArg₂ (· + ·) rfl (Finset.sum_congr rfl fun x _ => ?_))
  rw [← Nat.add_assoc]

/-- The eight partial sums of squares of a row of 112 groups together. -/
theorem ssq_parts (F : ℕ → EReal) :
    ∑ s : Fin 8, ∑ g ∈ Finset.range 112, ∑ x : Fin 16, F (128 * g + 8 * x.val + s.val) = ∑ c ∈ Finset.range 14336, F c := by
  rw [show (14336 : ℕ) = 112 * 128 from rfl, sum_range_mul, Finset.sum_comm]
  refine Finset.sum_congr rfl fun g _ => ?_
  rw [Finset.sum_comm, show (128 : ℕ) = 16 * 8 from rfl, sum_range_mul (fun j => F (16 * 8 * g + j)) 8 16,
    ← Fin.sum_univ_eq_sum_range (fun x => ∑ j ∈ Finset.range 8, F (16 * 8 * g + (8 * x + j))) 16]
  refine Finset.sum_congr rfl fun x _ => ?_
  rw [← Fin.sum_univ_eq_sum_range (fun j => F (16 * 8 * g + (8 * x.val + j))) 8]
  exact Finset.sum_congr rfl fun s _ => by rw [Nat.add_assoc]

/-- The largest absolute value of one lane of a group. -/
def lane (m : ℕ → EReal) (ρ : ℕ) : EReal :=
  Finset.univ.sup fun x : Fin 16 => absE (m (128 * (ρ / 8) + 8 * x.val + ρ % 8))

theorem le_max8 (t : Fin 8 → EReal) (s : Fin 8) : t s ≤ max8 (t 0) (t 1) (t 2) (t 3) (t 4) (t 5) (t 6) (t 7) := by
  unfold max8
  fin_cases s <;> simp only [le_max_iff] <;> simp

theorem max8_le (t : Fin 8 → EReal) {b : EReal} (h : ∀ s, t s ≤ b) :
    max8 (t 0) (t 1) (t 2) (t 3) (t 4) (t 5) (t 6) (t 7) ≤ b := by
  unfold max8
  simp only [max_le_iff]
  exact ⟨⟨⟨⟨⟨⟨⟨h 0, h 1⟩, h 2⟩, h 3⟩, h 4⟩, h 5⟩, h 6⟩, h 7⟩

/-- The largest of the eight lanes of a group is the group's largest absolute value. -/
theorem max8_lanes (m : ℕ → EReal) (g : ℕ) :
    max8 (lane m (8 * g)) (lane m (8 * g + 1)) (lane m (8 * g + 2)) (lane m (8 * g + 3)) (lane m (8 * g + 4))
      (lane m (8 * g + 5)) (lane m (8 * g + 6)) (lane m (8 * g + 7)) = amaxG m g := by
  refine le_antisymm ?_ ?_
  · refine max8_le (fun s : Fin 8 => lane m (8 * g + s.val)) fun s => Finset.sup_le fun x _ => ?_
    have e : 128 * ((8 * g + s.val) / 8) + 8 * x.val + (8 * g + s.val) % 8 = 128 * g + (8 * x.val + s.val) := by omega
    rw [e]
    exact Finset.le_sup (f := fun t => absE (m (128 * g + t))) (Finset.mem_range.mpr (by omega))
  · refine Finset.sup_le fun t ht => ?_
    have ht := Finset.mem_range.mp ht
    refine le_trans ?_ (le_max8 (fun s : Fin 8 => lane m (8 * g + s.val)) ⟨t % 8, by omega⟩)
    have e : 128 * g + t = 128 * ((8 * g + t % 8) / 8) + 8 * (t / 8) + (8 * g + t % 8) % 8 := by omega
    rw [e]
    exact Finset.le_sup (f := fun x : Fin 16 => absE (m (128 * ((8 * g + t % 8) / 8) + 8 * x.val + (8 * g + t % 8) % 8)))
      (Finset.mem_univ ⟨t / 8, by omega⟩)

end Cert.Dora

end
-- ==== Proof.Spec.lean ====
/-
What the idealized kernel's scratch buffers hold while a block of 256 rows is worked on, as functions of the block's
operands, and that one trip of each loop stores exactly that.
-/
module

public import proofs.«01_k».proof.Proof.Offsets
public import proofs.«01_k».proof.Proof.Sums

@[expose] public section

set_option maxRecDepth 16384
set_option maxHeartbeats 400000

noncomputable section

namespace Cert.KernelIdeal.Hand

open Cert.KernelIdeal Cert.KernelIdeal.Gen Cert.Dora Idealize.ShloMosaic Idealize.ShloMosaic.TcCoe

section
variable (x0 : Vec Ideal S1x256x7168 .i8) (x1 : Vec Ideal S1x256x112 .bf16) (x2 : Vec Ideal S1x24x14336 .bf16)
  (x3 : Vec Ideal S1x256x24 .bf16) (x4 : Vec Ideal S1x1x256 .f32)

/-- The dequantised code of row `n`, column `c`. -/
def DQ (n c : ℕ) : EReal :=
  codeE (x0 (ix3 0 (N 256 n) (N 7168 (c / 2)))) (c % 2) * x1 (ix3 0 (N 256 n) (N 112 (c / 128)))

/-- The merged weight of row `n`, column `c`. -/
def MW (n c : ℕ) : EReal :=
  mergedK (DQ x0 x1 n c) (fun r => x2 (ix3 0 r (N 14336 c))) (fun r => x3 (ix3 0 (N 256 n) r))

/-- The magnitude of row `n`. -/
def MAG (n : ℕ) : EReal := x4 (ix3 0 0 (N 256 n))

/-- Row `c`, lane `l` of the low-rank columns, three copies side by side and zeros. -/
def A8n (c l : ℕ) : EReal := if l < 72 then x2 (ix3 0 (N 24 l) (N 14336 c)) else 0

/-- The three parts of the scaled factor of row `n`. -/
def B9n (i n : ℕ) : EReal :=
  if i < 24 then x3 (ix3 0 (N 256 n) (N 24 i)) * lora else
  if i < 48 then x3 (ix3 0 (N 256 n) (N 24 i)) * lora - x3 (ix3 0 (N 256 n) (N 24 i)) * lora else
  if i < 72 then x3 (ix3 0 (N 256 n) (N 24 i)) * lora - x3 (ix3 0 (N 256 n) (N 24 i)) * lora
    - (x3 (ix3 0 (N 256 n) (N 24 i)) * lora - x3 (ix3 0 (N 256 n) (N 24 i)) * lora) else 0

def W9n (i n : ℕ) : EReal := if i < 128 then (if i = n then 1 else 0) else B9n x3 (i - 128) n

def A8 : Vec Ideal S14336x128 .bf16 := fun y => A8n x2 (y 0).val (y 1).val
def W9 : Vec Ideal S256x256 .bf16 := fun y => W9n x3 (y 0).val (y 1).val
def S10 : Vec Ideal S2x112x2x128 .bf16 := fun y => x1 (ix3 0 (N 256 (128 * (y 0).val + (y 3).val)) (N 112 (y 1).val))
def M11 : Vec Ideal S2x14336x128 .f32 := fun y => MW x0 x1 x2 x3 (128 * (y 0).val + (y 2).val) (y 1).val
def A12 : Vec Ideal S2x896x128 .f32 := fun y => lane (MW x0 x1 x2 x3 (128 * (y 0).val + (y 2).val)) (y 1).val
/-- The row factor. -/
def FAC (n : ℕ) : EReal := fac 14336 (MW x0 x1 x2 x3 n) (MAG x4 n)
/-- The scale of a group. -/
def SCL (n g : ℕ) : EReal := scaleK 14336 (MW x0 x1 x2 x3 n) (MAG x4 n) g
def R13 : Vec Ideal S2x112x128 .f32 := fun y =>
  Ideal.div (FAC x0 x1 x2 x3 x4 (128 * (y 0).val + (y 2).val)) (SCL x0 x1 x2 x3 x4 (128 * (y 0).val + (y 2).val) (y 1).val)

/-- The word of row `n`, column `c`. -/
def WRD (n c : ℕ) : BitVec 32 := wordK (quotK 14336 (MW x0 x1 x2 x3 n) (MAG x4 n) c)

/-- The bytes of a block. -/
def O6 : Vec Ideal S1x256x7168 .i8 := fun y =>
  byteN (BitVec.setWidth 4 (WRD x0 x1 x2 x3 x4 (y 1).val ((y 2).val * 2))) (BitVec.setWidth 4 (WRD x0 x1 x2 x3 x4 (y 1).val ((y 2).val * 2 + 1)))

/-- The scales of a block. -/
def O7 : Vec Ideal S1x256x112 .bf16 := fun y => SCL x0 x1 x2 x3 x4 (y 1).val (y 2).val

theorem pay265_eq : k0_pay265 x3 = W9 x3 := by
  funext y
  obtain ⟨c, l, rfl⟩ : ∃ (c l : Fin 256), y = ix2 c l := ⟨y 0, y 1, by funext a; match a with | ⟨0, _⟩ => rfl | ⟨1, _⟩ => rfl⟩
  rw [pay265_apply]
  show _ = W9n x3 c.val l.val
  have hl : N 256 l.val = l := N_val 256 l
  have hc := c.isLt
  unfold W9n B9n
  rw [hl]
  by_cases h0 : c.val < 128
  · rw [if_pos h0, if_pos h0]
  rw [if_neg h0, if_neg h0]
  by_cases h1 : c.val - 128 < 24
  · rw [dif_pos h1, if_pos h1, show N 24 (c.val - 128) = ⟨c.val - 128, h1⟩ from Fin.ext (Nat.mod_eq_of_lt h1)]
  rw [dif_neg h1, if_neg h1]
  by_cases h2 : c.val - 152 < 24
  · have h2' : c.val - 128 < 48 := by omega
    rw [dif_pos h2, if_pos h2', show N 24 (c.val - 128) = ⟨c.val - 152, h2⟩ from Fin.ext (show (c.val - 128) % 24 = c.val - 152 by omega)]
  have h2' : ¬ c.val - 128 < 48 := by omega
  rw [dif_neg h2, if_neg h2']
  by_cases h3 : c.val - 176 < 24
  · have h3' : c.val - 128 < 72 := by omega
    rw [dif_pos h3, if_pos h3', show N 24 (c.val - 128) = ⟨c.val - 176, h3⟩ from Fin.ext (show (c.val - 128) % 24 = c.val - 176 by omega)]
  have h3' : ¬ c.val - 128 < 72 := by omega
  rw [dif_neg h3, if_neg h3']

/-- The low-rank part of the product. -/
theorem lowrank (c n : ℕ) : ∑ x : Fin 128, A8n x2 c x.val * B9n x3 x.val n
    = ∑ r : Fin 24, x2 (ix3 0 r (N 14336 c)) * (x3 (ix3 0 (N 256 n) r) * lora)
      + (∑ r : Fin 24, x2 (ix3 0 r (N 14336 c)) * (x3 (ix3 0 (N 256 n) r) * lora - x3 (ix3 0 (N 256 n) r) * lora)
        + ∑ r : Fin 24, x2 (ix3 0 r (N 14336 c)) * (x3 (ix3 0 (N 256 n) r) * lora - x3 (ix3 0 (N 256 n) r) * lora
          - (x3 (ix3 0 (N 256 n) r) * lora - x3 (ix3 0 (N 256 n) r) * lora))) := by
  rw [sum72 (fun i => A8n x2 c i * B9n x3 i n) fun i hi => by unfold A8n; rw [if_neg (by omega), zero_mul]]
  refine congrArg₂ (· + ·) ?_ (congrArg₂ (· + ·) ?_ ?_) <;> refine Finset.sum_congr rfl fun r _ => ?_
  · have := r.isLt
    unfold A8n B9n
    rw [if_pos (by omega), if_pos (by omega), N_val]
  · have := r.isLt
    unfold A8n B9n
    rw [if_pos (by omega), if_neg (by omega), if_pos (by omega), show N 24 (24 + r.val) = r from Fin.ext (show (24 + r.val) % 24 = r.val by omega)]
  · have := r.isLt
    unfold A8n B9n
    rw [if_pos (by omega), if_neg (by omega), if_neg (by omega), if_pos (by omega), show N 24 (48 + r.val) = r from Fin.ext (show (48 + r.val) % 24 = r.val by omega)]

section
variable (k : Fin k0_t2_loop.trips) (u : Fin 7) (kk : Fin 2) (c l : Fin 128)

/-- The column of a trip's group. -/
def col : ℕ := 1792 * k.val + 256 * u.val + 128 * kk.val + c.val

theorem y0R_apply : y0R x0 (S10 x1) k u kk (ix2 c l) = DQ x0 x1 l.val (col k u kk c) := by
  have hk := lt2 k
  unfold y0R
  rw [dqBlk_apply kk _ _ c l ((congrArg (S10 x1) (idx5 k u kk 1 l)).trans (congrArg (S10 x1) (idx5 k u kk 0 l)).symm)
    ⟨64 * kk.val + c.val / 2, by omega⟩ rfl]
  unfold DQ col
  refine congrArg₂ (· * ·) (congrArg₂ codeE ((congrArg x0 (idx3 k u l _)).trans (congrArg x0 ?_)) (by omega))
    ((congrArg (S10 x1) (idx5 k u kk 0 l)).trans (congrArg x1 ?_))
  · congr 2; show 896 * k.val + 128 * u.val + (64 * kk.val + c.val / 2) = _; omega
  · show ix3 0 (N 256 (128 * 0 + l.val)) (N 112 ((14 * k.val + 2 * u.val + kk.val) % 112)) = _
    congr 2 <;> omega

theorem y1R_apply : y1R x0 (S10 x1) k u kk (ix2 c l) = DQ x0 x1 (128 + l.val) (col k u kk c) := by
  have hk := lt2 k
  unfold y1R
  rw [dqBlk_apply kk _ _ c l ((congrArg (S10 x1) (idx6 k u kk 1 l)).trans (congrArg (S10 x1) (idx6 k u kk 0 l)).symm)
    ⟨64 * kk.val + c.val / 2, by omega⟩ rfl]
  unfold DQ col
  refine congrArg₂ (· * ·) (congrArg₂ codeE ((congrArg x0 (idx4 k u l _)).trans (congrArg x0 ?_)) (by omega))
    ((congrArg (S10 x1) (idx6 k u kk 0 l)).trans (congrArg x1 ?_))
  · congr 2; show 896 * k.val + 128 * u.val + (64 * kk.val + c.val / 2) = _; omega
  · show ix3 0 (N 256 (128 * 1 + l.val)) (N 112 ((14 * k.val + 2 * u.val + kk.val) % 112)) = _
    congr 2; omega

theorem aR_apply : aR (A8 x2) k u kk (ix2 c l) = A8n x2 (col k u kk c) l.val := by
  have hk := lt2 k
  refine (congrArg (A8 x2) (idx7 k u kk c l)).trans ?_
  show A8n x2 ((1792 * k.val + 256 * u.val + 128 * kk.val + c.val) % 14336) l.val = _
  rw [Nat.mod_eq_of_lt (by omega)]; rfl

theorem wR_eq (w : Vec Ideal S256x256 .bf16) : wR w = w := by
  funext y
  refine congrArg w ?_
  refine idx_unit_eq _ _ _ _ _ rfl fun a => ?_
  match a with
  | ⟨0, _⟩ => exact (Nat.zero_add _).symm
  | ⟨1, _⟩ => exact (Nat.zero_add _).symm

/-- The merged weight of one group, first half of the rows. -/
theorem m0R_apply : m0R x0 (A8 x2) (W9 x3) (S10 x1) k u kk (ix2 c l) = MW x0 x1 x2 x3 l.val (col k u kk c) := by
  unfold m0R
  rw [m0Blk_apply, wR_eq]
  unfold MW mergedK
  rw [← lowrank]
  refine congrArg₂ (· + ·) ?_ (Finset.sum_congr rfl fun x _ => ?_)
  · rw [Finset.sum_eq_single l]
    · rw [y0R_apply]
      show _ * W9n x3 l.val l.val = _
      unfold W9n; rw [if_pos l.isLt, if_pos rfl, mul_one]
    · intro x _ hx
      show _ * W9n x3 x.val l.val = _
      unfold W9n; rw [if_pos x.isLt, if_neg (fun h => hx (Fin.ext h)), mul_zero]
    · intro h; exact absurd (Finset.mem_univ _) h
  · rw [aR_apply]
    show _ * W9n x3 (128 + x.val) l.val = _
    unfold W9n; rw [if_neg (by omega), Nat.add_sub_cancel_left]

/-- The merged weight of one group, second half of the rows. -/
theorem m1R_apply : m1R x0 (A8 x2) (W9 x3) (S10 x1) k u kk (ix2 c l) = MW x0 x1 x2 x3 (128 + l.val) (col k u kk c) := by
  unfold m1R
  rw [m1Blk_apply, wR_eq, y1R_apply, add_comm]
  unfold MW mergedK
  rw [← lowrank]
  refine congrArg₂ (· + ·) rfl ?_
  rw [Finset.sum_eq_zero, zero_add]
  · refine Finset.sum_congr rfl fun x _ => ?_
    rw [aR_apply]
    show _ * W9n x3 (128 + x.val) (128 + l.val) = _
    unfold W9n; rw [if_neg (by omega), Nat.add_sub_cancel_left]
  · intro x _
    show _ * W9n x3 x.val (128 + l.val) = _
    unfold W9n; rw [if_pos x.isLt, if_neg (by omega), mul_zero]

end
end

end Cert.KernelIdeal.Hand

end
-- ==== Proof.Trips.lean ====
/-
What the idealized kernel's three loops leave: every piece a trip stores is a part of one array, and the trips together
cover it.
-/
module

public import proofs.«01_k».proof.Proof.Spec

@[expose] public section

set_option maxRecDepth 16384
set_option maxHeartbeats 100000

noncomputable section

namespace Cert.KernelIdeal.Hand

open Cert.KernelIdeal Cert.KernelIdeal.Gen Cert.Dora Idealize.ShloMosaic Idealize.ShloMosaic.TcCoe

/-- A piece that is a part of the array `G`. -/
def Part {s : Shape} {e : EltTy} (G : s.Idx → Elt Ideal e) (p : View.Piece (Elt Ideal) s e) : Prop :=
  ∀ x : p.1.shape.Idx, p.2 x = G (p.1.emb x)

/-- Pieces that are parts of one array `G` and together hold the places `P`. -/
def Fills {s : Shape} {e : EltTy} (G : s.Idx → Elt Ideal e) (P : s.Idx → Prop) (L : List (View.Piece (Elt Ideal) s e)) : Prop :=
  (∀ p ∈ L, Part G p) ∧ ∀ y, P y → ∃ p ∈ L, y ∈ p.1.set

theorem Fills.nil {s : Shape} {e : EltTy} (G : s.Idx → Elt Ideal e) (P : s.Idx → Prop) (h : ∀ y, ¬ P y) :
    Fills G P ([] : List (View.Piece (Elt Ideal) s e)) :=
  ⟨fun _ hp => absurd hp List.not_mem_nil, fun y hy => absurd hy (h y)⟩

theorem Fills.append {s : Shape} {e : EltTy} {G : s.Idx → Elt Ideal e} {P Q R : s.Idx → Prop}
    {L M : List (View.Piece (Elt Ideal) s e)} (hL : Fills G P L) (hM : Fills G Q M) (h : ∀ y, R y → P y ∨ Q y) :
    Fills G R (L ++ M) := by
  refine ⟨fun p hp => ?_, fun y hy => ?_⟩
  · rcases List.mem_append.mp hp with hp | hp
    · exact hL.1 p hp
    · exact hM.1 p hp
  · rcases h y hy with h | h
    · obtain ⟨p, hp, hy⟩ := hL.2 y h
      exact ⟨p, List.mem_append_left _ hp, hy⟩
    · obtain ⟨p, hp, hy⟩ := hM.2 y h
      exact ⟨p, List.mem_append_right _ hp, hy⟩

theorem Fills.read {s : Shape} {e : EltTy} {G : s.Idx → Elt Ideal e} {P : s.Idx → Prop}
    {L : List (View.Piece (Elt Ideal) s e)} (h : Fills G P L) (hP : ∀ y, P y) {sig' : RefSig} {κ : Kind} {sp : Space} (v : View sig' κ sp s e)
    (f : v.ty.Contents (Elt Ideal)) : v.read (Elt Ideal) (v.writes (Elt Ideal) f L) = G :=
  funext fun y => View.read_writes_apply_of_pieces v f G L h.1 y (h.2 y (hP y))

theorem ix2_surj {n m : ℕ} (y : (⟨2, ![n, m]⟩ : Shape).Idx) : ∃ (c : Fin n) (l : Fin m), y = ix2 c l :=
  ⟨y 0, y 1, by funext a; match a with | ⟨0, _⟩ => rfl | ⟨1, _⟩ => rfl⟩

theorem ix3_surj {n m q : ℕ} (y : (⟨3, ![n, m, q]⟩ : Shape).Idx) : ∃ (h : Fin n) (c : Fin m) (l : Fin q), y = ix3 h c l :=
  ⟨y 0, y 1, y 2, by funext a; match a with | ⟨0, _⟩ => rfl | ⟨1, _⟩ => rfl | ⟨2, _⟩ => rfl⟩

theorem mem_of_idx {s : Shape} (r : Rect s) (x : r.shape.Idx) (y : s.Idx) (h : r.idx x = y) : y ∈ r.set := h ▸ r.idx_mem x

theorem two (k : Fin 2) : k = 0 ∨ k = 1 := by revert k; decide
theorem order14_mem (u : Fin 14) : u ∈ order14 := by revert u; decide
theorem order7_mem (u : Fin 7) : u ∈ order7 := by revert u; decide

/-- One trip of the first loop. -/
theorem fills8 (x2 : Vec Ideal S1x24x14336 .bf16) (k : Fin k0_t1_loop.trips) :
    Fills (A8 x2) (fun y => 1792 * k.val ≤ (y 0).val ∧ (y 0).val < 1792 * (k.val + 1)) (pieces8 x2 k) := by
  have hk := lt1 k
  refine ⟨fun p hp => ?_, fun y hy => ?_⟩
  · obtain ⟨u, -, rfl⟩ := List.mem_map.mp hp
    intro x
    obtain ⟨c, l, rfl⟩ := ix2_surj (n := 128) (m := 128) x
    refine Eq.trans ?_ (congrArg (A8 x2) (idx2 k u c l)).symm
    refine (pay5_apply _ c l).trans ?_
    show _ = A8n x2 ((1792 * k.val + 128 * u.val + c.val) % 14336) l.val
    unfold A8n
    by_cases h : l.val < 72
    · rw [if_pos h, if_pos h, Nat.mod_eq_of_lt (by omega)]
      exact congrArg x2 (idx1 k u _ c)
    · rw [if_neg h, if_neg h]
  · obtain ⟨c, l, rfl⟩ := ix2_surj (n := 14336) (m := 128) y
    replace hy : 1792 * k.val ≤ c.val ∧ c.val < 1792 * (k.val + 1) := hy
    have hu : (c.val - 1792 * k.val) / 128 < 14 := by omega
    have h2 := idx2 k ⟨_, hu⟩ ⟨(c.val - 1792 * k.val) % 128, by omega⟩ l
    have e : N 14336 (1792 * k.val + 128 * ((c.val - 1792 * k.val) / 128) + (c.val - 1792 * k.val) % 128) = c := by
      apply Fin.ext
      show (_ : ℕ) % 14336 = c.val
      omega
    simp only [e] at h2
    exact ⟨piece8 x2 k ⟨_, hu⟩, List.mem_map.mpr ⟨⟨_, hu⟩, order14_mem _, rfl⟩, mem_of_idx _ _ _ h2⟩

section
variable (x0 : Vec Ideal S1x256x7168 .i8) (x1 : Vec Ideal S1x256x112 .bf16) (x2 : Vec Ideal S1x24x14336 .bf16)
  (x3 : Vec Ideal S1x256x24 .bf16) (x4 : Vec Ideal S1x1x256 .f32)

theorem part11_0 (k : Fin k0_t2_loop.trips) (u : Fin 7) (kk : Fin 2) :
    Part (M11 x0 x1 x2 x3) ⟨Rect.unit (s := S2x14336x128) (k0_off8 k (W2 u) (W2k kk)) S1x128x128.size (k0_off8_inb k u kk), storeBlk (m0R x0 (A8 x2) (W9 x3) (S10 x1) k u kk)⟩ := by
  have hk := lt2 k
  intro y
  obtain ⟨h, c, l, rfl⟩ := ix3_surj (n := 1) (m := 128) (q := 128) y
  obtain rfl : h = 0 := Subsingleton.elim _ _
  refine Eq.trans ?_ (congrArg (M11 x0 x1 x2 x3) (idx8 k u kk c l)).symm
  dsimp only
  rw [storeBlk_apply, m0R_apply]
  show _ = MW x0 x1 x2 x3 (128 * 0 + l.val) ((1792 * k.val + 256 * u.val + 128 * kk.val + c.val) % 14336)
  rw [Nat.mod_eq_of_lt (by omega), Nat.mul_zero, Nat.zero_add]; rfl

theorem part11_1 (k : Fin k0_t2_loop.trips) (u : Fin 7) (kk : Fin 2) :
    Part (M11 x0 x1 x2 x3) ⟨Rect.unit (s := S2x14336x128) (k0_off10 k (W2 u) (W2k kk)) S1x128x128.size (k0_off10_inb k u kk), storeBlk (m1R x0 (A8 x2) (W9 x3) (S10 x1) k u kk)⟩ := by
  have hk := lt2 k
  intro y
  obtain ⟨h, c, l, rfl⟩ := ix3_surj (n := 1) (m := 128) (q := 128) y
  obtain rfl : h = 0 := Subsingleton.elim _ _
  refine Eq.trans ?_ (congrArg (M11 x0 x1 x2 x3) (idx10 k u kk c l)).symm
  dsimp only
  rw [storeBlk_apply, m1R_apply]
  show _ = MW x0 x1 x2 x3 (128 * 1 + l.val) ((1792 * k.val + 256 * u.val + 128 * kk.val + c.val) % 14336)
  rw [Nat.mod_eq_of_lt (by omega), Nat.mul_one]; rfl

theorem part12_0 (k : Fin k0_t2_loop.trips) (u : Fin 7) (kk : Fin 2) :
    Part (A12 x0 x1 x2 x3) ⟨Rect.unit (s := S2x896x128) (k0_off9 k (W2 u) (W2k kk)) S1x8x128.size (k0_off9_inb k u kk), amaxBlk (m0R x0 (A8 x2) (W9 x3) (S10 x1) k u kk)⟩ := by
  have hk := lt2 k
  intro y
  obtain ⟨h, c, l, rfl⟩ := ix3_surj (n := 1) (m := 8) (q := 128) y
  obtain rfl : h = 0 := Subsingleton.elim _ _
  refine Eq.trans ?_ (congrArg (A12 x0 x1 x2 x3) (idx9 k u kk c l)).symm
  dsimp only
  rw [amaxBlk_apply]
  show _ = lane (MW x0 x1 x2 x3 (128 * 0 + l.val)) ((112 * k.val + 16 * u.val + 8 * kk.val + c.val) % 896)
  rw [Nat.mod_eq_of_lt (by omega), Nat.mul_zero, Nat.zero_add]
  unfold lane
  refine Finset.sup_congr rfl fun x _ => ?_
  rw [m0R_apply]
  refine congrArg (fun n => absE (MW x0 x1 x2 x3 l.val n)) ?_
  show 1792 * k.val + 256 * u.val + 128 * kk.val + (x.val * 8 + c.val) = _
  omega

theorem part12_1 (k : Fin k0_t2_loop.trips) (u : Fin 7) (kk : Fin 2) :
    Part (A12 x0 x1 x2 x3) ⟨Rect.unit (s := S2x896x128) (k0_off11 k (W2 u) (W2k kk)) S1x8x128.size (k0_off11_inb k u kk), amaxBlk (m1R x0 (A8 x2) (W9 x3) (S10 x1) k u kk)⟩ := by
  have hk := lt2 k
  intro y
  obtain ⟨h, c, l, rfl⟩ := ix3_surj (n := 1) (m := 8) (q := 128) y
  obtain rfl : h = 0 := Subsingleton.elim _ _
  refine Eq.trans ?_ (congrArg (A12 x0 x1 x2 x3) (idx11 k u kk c l)).symm
  dsimp only
  rw [amaxBlk_apply]
  show _ = lane (MW x0 x1 x2 x3 (128 * 1 + l.val)) ((112 * k.val + 16 * u.val + 8 * kk.val + c.val) % 896)
  rw [Nat.mod_eq_of_lt (by omega), Nat.mul_one]
  unfold lane
  refine Finset.sup_congr rfl fun x _ => ?_
  rw [m1R_apply]
  refine congrArg (fun n => absE (MW x0 x1 x2 x3 (128 + l.val) n)) ?_
  show 1792 * k.val + 256 * u.val + 128 * kk.val + (x.val * 8 + c.val) = _
  omega

/-- One trip of the second loop: the merged weights, -/
theorem fills11 (k : Fin k0_t2_loop.trips) :
    Fills (M11 x0 x1 x2 x3) (fun y => 1792 * k.val ≤ (y 1).val ∧ (y 1).val < 1792 * (k.val + 1))
      (pieces11 x0 (A8 x2) (W9 x3) (S10 x1) k) := by
  have hk := lt2 k
  refine ⟨fun p hp => ?_, fun y hy => ?_⟩
  · obtain ⟨u, -, hp⟩ := List.mem_flatMap.mp hp
    simp only [List.mem_cons, List.not_mem_nil, or_false] at hp
    rcases hp with h | h | h | h <;> rw [h]
    · exact part11_1 x0 x1 x2 x3 k u 1
    · exact part11_0 x0 x1 x2 x3 k u 1
    · exact part11_1 x0 x1 x2 x3 k u 0
    · exact part11_0 x0 x1 x2 x3 k u 0
  · obtain ⟨h, c, l, rfl⟩ := ix3_surj (n := 2) (m := 14336) (q := 128) y
    replace hy : 1792 * k.val ≤ c.val ∧ c.val < 1792 * (k.val + 1) := hy
    have hu : (c.val - 1792 * k.val) / 256 < 7 := by omega
    have hkk : (c.val - 1792 * k.val) % 256 / 128 < 2 := by omega
    have hc : (c.val - 1792 * k.val) % 128 < 128 := by omega
    have e : N 14336 (1792 * k.val + 256 * ((c.val - 1792 * k.val) / 256) + 128 * ((c.val - 1792 * k.val) % 256 / 128) + (c.val - 1792 * k.val) % 128) = c := by
      apply Fin.ext
      show (_ : ℕ) % 14336 = c.val
      omega
    have h8 := idx8 k ⟨_, hu⟩ ⟨_, hkk⟩ ⟨_, hc⟩ l
    have h10 := idx10 k ⟨_, hu⟩ ⟨_, hkk⟩ ⟨_, hc⟩ l
    simp only [e] at h8 h10
    generalize hu' : (⟨_, hu⟩ : Fin 7) = u at h8 h10
    generalize hk' : (⟨_, hkk⟩ : Fin 2) = kk at h8 h10
    unfold pieces11
    have : kk = 0 ∨ kk = 1 := two kk
    have hh : h = 0 ∨ h = 1 := two h
    rcases this with rfl | rfl <;> rcases hh with rfl | rfl
    · exact ⟨_, List.mem_flatMap.mpr ⟨u, order7_mem u, .tail _ (.tail _ (.tail _ (.head _)))⟩, mem_of_idx _ _ _ h8⟩
    · exact ⟨_, List.mem_flatMap.mpr ⟨u, order7_mem u, .tail _ (.tail _ (.head _))⟩, mem_of_idx _ _ _ h10⟩
    · exact ⟨_, List.mem_flatMap.mpr ⟨u, order7_mem u, .tail _ (.head _)⟩, mem_of_idx _ _ _ h8⟩
    · exact ⟨_, List.mem_flatMap.mpr ⟨u, order7_mem u, .head _⟩, mem_of_idx _ _ _ h10⟩

/-- the largest absolute values, -/
theorem fills12 (k : Fin k0_t2_loop.trips) :
    Fills (A12 x0 x1 x2 x3) (fun y => 112 * k.val ≤ (y 1).val ∧ (y 1).val < 112 * (k.val + 1))
      (pieces12 x0 (A8 x2) (W9 x3) (S10 x1) k) := by
  have hk := lt2 k
  refine ⟨fun p hp => ?_, fun y hy => ?_⟩
  · obtain ⟨u, -, hp⟩ := List.mem_flatMap.mp hp
    simp only [List.mem_cons, List.not_mem_nil, or_false] at hp
    rcases hp with h | h | h | h <;> rw [h]
    · exact part12_1 x0 x1 x2 x3 k u 1
    · exact part12_0 x0 x1 x2 x3 k u 1
    · exact part12_1 x0 x1 x2 x3 k u 0
    · exact part12_0 x0 x1 x2 x3 k u 0
  · obtain ⟨h, c, l, rfl⟩ := ix3_surj (n := 2) (m := 896) (q := 128) y
    replace hy : 112 * k.val ≤ c.val ∧ c.val < 112 * (k.val + 1) := hy
    have hu : (c.val - 112 * k.val) / 16 < 7 := by omega
    have hkk : (c.val - 112 * k.val) % 16 / 8 < 2 := by omega
    have hc : (c.val - 112 * k.val) % 8 < 8 := by omega
    have e : N 896 (112 * k.val + 16 * ((c.val - 112 * k.val) / 16) + 8 * ((c.val - 112 * k.val) % 16 / 8) + (c.val - 112 * k.val) % 8) = c := by
      apply Fin.ext
      show (_ : ℕ) % 896 = c.val
      omega
    have h9 := idx9 k ⟨_, hu⟩ ⟨_, hkk⟩ ⟨_, hc⟩ l
    have h11 := idx11 k ⟨_, hu⟩ ⟨_, hkk⟩ ⟨_, hc⟩ l
    simp only [e] at h9 h11
    generalize hu' : (⟨_, hu⟩ : Fin 7) = u at h9 h11
    generalize hk' : (⟨_, hkk⟩ : Fin 2) = kk at h9 h11
    unfold pieces12
    have : kk = 0 ∨ kk = 1 := two kk
    have hh : h = 0 ∨ h = 1 := two h
    rcases this with rfl | rfl <;> rcases hh with rfl | rfl
    · exact ⟨_, List.mem_flatMap.mpr ⟨u, order7_mem u, .tail _ (.tail _ (.tail _ (.head _)))⟩, mem_of_idx _ _ _ h9⟩
    · exact ⟨_, List.mem_flatMap.mpr ⟨u, order7_mem u, .tail _ (.tail _ (.head _))⟩, mem_of_idx _ _ _ h11⟩
    · exact ⟨_, List.mem_flatMap.mpr ⟨u, order7_mem u, .tail _ (.head _)⟩, mem_of_idx _ _ _ h9⟩
    · exact ⟨_, List.mem_flatMap.mpr ⟨u, order7_mem u, .head _⟩, mem_of_idx _ _ _ h11⟩

/-- The sums of squares of half `h` of the rows over the first `n` groups. -/
def ACC (h n : ℕ) : FVec Ideal S8x128 .f32 := fun y =>
  ∑ g ∈ Finset.range n, ∑ x : Fin 16, MW x0 x1 x2 x3 (128 * h + (y 1).val) (128 * g + 8 * x.val + (y 0).val)
    * MW x0 x1 x2 x3 (128 * h + (y 1).val) (128 * g + 8 * x.val + (y 0).val)

theorem ACC_step (h n : ℕ) (m : FVec Ideal S128x128 .f32)
    (hm : ∀ c l : Fin 128, m (ix2 c l) = MW x0 x1 x2 x3 (128 * h + l.val) (128 * n + c.val)) :
    ssqBlk (ACC x0 x1 x2 x3 h n) m = ACC x0 x1 x2 x3 h (n + 1) := by
  funext y
  obtain ⟨c, l, rfl⟩ := ix2_surj (n := 8) (m := 128) y
  rw [ssqBlk_apply]
  unfold ACC
  rw [Finset.sum_range_succ]
  refine congrArg₂ (· + ·) rfl (Finset.sum_congr rfl fun x _ => ?_)
  rw [hm]
  show MW x0 x1 x2 x3 (128 * h + l.val) (128 * n + (x.val * 8 + c.val)) * MW x0 x1 x2 x3 (128 * h + l.val) (128 * n + (x.val * 8 + c.val))
    = MW x0 x1 x2 x3 (128 * h + l.val) (128 * n + 8 * x.val + c.val) * MW x0 x1 x2 x3 (128 * h + l.val) (128 * n + 8 * x.val + c.val)
  rw [show 128 * n + (x.val * 8 + c.val) = 128 * n + 8 * x.val + c.val by omega]

theorem ACC_step0 (k : Fin k0_t2_loop.trips) (u : Fin 7) (kk : Fin 2) (n : ℕ) (hn : n = 14 * k.val + 2 * u.val + kk.val) :
    ssqBlk (ACC x0 x1 x2 x3 0 n) (m0R x0 (A8 x2) (W9 x3) (S10 x1) k u kk) = ACC x0 x1 x2 x3 0 (n + 1) :=
  ACC_step x0 x1 x2 x3 0 n _ fun c l => by
    rw [m0R_apply, Nat.mul_zero, Nat.zero_add]
    refine congrArg _ ?_
    unfold col; omega

theorem ACC_step1 (k : Fin k0_t2_loop.trips) (u : Fin 7) (kk : Fin 2) (n : ℕ) (hn : n = 14 * k.val + 2 * u.val + kk.val) :
    ssqBlk (ACC x0 x1 x2 x3 1 n) (m1R x0 (A8 x2) (W9 x3) (S10 x1) k u kk) = ACC x0 x1 x2 x3 1 (n + 1) :=
  ACC_step x0 x1 x2 x3 1 n _ fun c l => by
    rw [m1R_apply, Nat.mul_one]
    refine congrArg _ ?_
    unfold col; omega

/-- and the sums of squares carried on. -/
theorem carry2_eq (k : Fin k0_t2_loop.trips) :
    carry2 x0 (A8 x2) (W9 x3) (S10 x1) k (ACC x0 x1 x2 x3 0 (14 * k.val), ACC x0 x1 x2 x3 1 (14 * k.val))
      = (ACC x0 x1 x2 x3 0 (14 * (k.val + 1)), ACC x0 x1 x2 x3 1 (14 * (k.val + 1))) := by
  have h0 : ∀ (u : Fin 7) (n : ℕ), n = 14 * k.val + 2 * u.val →
      ssqBlk (ssqBlk (ACC x0 x1 x2 x3 0 n) (m0R x0 (A8 x2) (W9 x3) (S10 x1) k u 0)) (m0R x0 (A8 x2) (W9 x3) (S10 x1) k u 1)
        = ACC x0 x1 x2 x3 0 (n + 2) := fun u n hn => by
    rw [ACC_step0 x0 x1 x2 x3 k u 0 n hn, ACC_step0 x0 x1 x2 x3 k u 1 (n + 1) (by rw [hn]; rfl)]
  have h1 : ∀ (u : Fin 7) (n : ℕ), n = 14 * k.val + 2 * u.val →
      ssqBlk (ssqBlk (ACC x0 x1 x2 x3 1 n) (m1R x0 (A8 x2) (W9 x3) (S10 x1) k u 0)) (m1R x0 (A8 x2) (W9 x3) (S10 x1) k u 1)
        = ACC x0 x1 x2 x3 1 (n + 2) := fun u n hn => by
    rw [ACC_step1 x0 x1 x2 x3 k u 0 n hn, ACC_step1 x0 x1 x2 x3 k u 1 (n + 1) (by rw [hn]; rfl)]
  unfold carry2 order7
  simp only [List.foldr]
  rw [h0 0 (14 * k.val) rfl, h0 1 (14 * k.val + 2) rfl, h0 2 (14 * k.val + 2 + 2) rfl, h0 3 (14 * k.val + 2 + 2 + 2) rfl,
    h0 4 (14 * k.val + 2 + 2 + 2 + 2) rfl, h0 5 (14 * k.val + 2 + 2 + 2 + 2 + 2) rfl,
    h0 6 (14 * k.val + 2 + 2 + 2 + 2 + 2 + 2) rfl]
  rw [h1 0 (14 * k.val) rfl, h1 1 (14 * k.val + 2) rfl, h1 2 (14 * k.val + 2 + 2) rfl, h1 3 (14 * k.val + 2 + 2 + 2) rfl,
    h1 4 (14 * k.val + 2 + 2 + 2 + 2) rfl, h1 5 (14 * k.val + 2 + 2 + 2 + 2 + 2) rfl,
    h1 6 (14 * k.val + 2 + 2 + 2 + 2 + 2 + 2) rfl]
  rw [show 14 * k.val + 2 + 2 + 2 + 2 + 2 + 2 + 2 = 14 * (k.val + 1) by omega]

theorem ACC_zero (h : ℕ) : ACC x0 x1 x2 x3 h 0 = k0_pay273 := by
  funext y
  obtain ⟨c, l, rfl⟩ := ix2_surj (n := 8) (m := 128) y
  rw [pay273_apply]; rfl

/-- The eight partial sums of a row together are its sum of squares. -/
theorem ACC_sum (h : ℕ) (l : Fin 128) :
    ∑ s : Fin 8, ACC x0 x1 x2 x3 h 112 (ix2 s l) = ssq 14336 (MW x0 x1 x2 x3 (128 * h + l.val)) :=
  ssq_parts fun c => MW x0 x1 x2 x3 (128 * h + l.val) c * MW x0 x1 x2 x3 (128 * h + l.val) c

section
variable (k : Fin k0_t3_loop.trips) (u : Fin 7)

theorem word0 (kk : Fin 2) (c l : Fin 128) :
    k0_pay211 (View.ld (R13 x0 x1 x2 x3 x4) (Rect.unit (k0_off12 k (W2 u) (W2k kk)) S1x1x128.size (k0_off12_inb k u kk)))
      (View.ld (M11 x0 x1 x2 x3) (Rect.unit (k0_off13 k (W2 u) (W2k kk)) S1x128x128.size (k0_off13_inb k u kk))) (ix2 c l)
      = WRD x0 x1 x2 x3 x4 l.val (1792 * k.val + 256 * u.val + 128 * kk.val + c.val) := by
  have hk := lt3 k
  rw [word_apply]
  unfold WRD quotK
  refine congrArg wordK (congrArg₂ (· * ·) ((congrArg (M11 x0 x1 x2 x3) (idx13 k u kk c l)).trans ?_)
    ((congrArg (R13 x0 x1 x2 x3 x4) (idx12 k u kk l)).trans ?_))
  · show MW x0 x1 x2 x3 (128 * 0 + l.val) ((1792 * k.val + 256 * u.val + 128 * kk.val + c.val) % 14336) = _
    rw [Nat.mod_eq_of_lt (by omega), Nat.mul_zero, Nat.zero_add]
  · show Ideal.div (FAC x0 x1 x2 x3 x4 (128 * 0 + l.val)) (SCL x0 x1 x2 x3 x4 (128 * 0 + l.val) ((14 * k.val + 2 * u.val + kk.val) % 112)) = _
    rw [show (14 * k.val + 2 * u.val + kk.val) % 112 = (1792 * k.val + 256 * u.val + 128 * kk.val + c.val) / 128 by omega, Nat.mul_zero, Nat.zero_add]
    rfl

theorem word1 (kk : Fin 2) (c l : Fin 128) :
    k0_pay211 (View.ld (R13 x0 x1 x2 x3 x4) (Rect.unit (k0_off15 k (W2 u) (W2k kk)) S1x1x128.size (k0_off15_inb k u kk)))
      (View.ld (M11 x0 x1 x2 x3) (Rect.unit (k0_off16 k (W2 u) (W2k kk)) S1x128x128.size (k0_off16_inb k u kk))) (ix2 c l)
      = WRD x0 x1 x2 x3 x4 (128 + l.val) (1792 * k.val + 256 * u.val + 128 * kk.val + c.val) := by
  have hk := lt3 k
  rw [word_apply]
  unfold WRD quotK
  refine congrArg wordK (congrArg₂ (· * ·) ((congrArg (M11 x0 x1 x2 x3) (idx16 k u kk c l)).trans ?_)
    ((congrArg (R13 x0 x1 x2 x3 x4) (idx15 k u kk l)).trans ?_))
  · show MW x0 x1 x2 x3 (128 * 1 + l.val) ((1792 * k.val + 256 * u.val + 128 * kk.val + c.val) % 14336) = _
    rw [Nat.mod_eq_of_lt (by omega), Nat.mul_one]
  · show Ideal.div (FAC x0 x1 x2 x3 x4 (128 * 1 + l.val)) (SCL x0 x1 x2 x3 x4 (128 * 1 + l.val) ((14 * k.val + 2 * u.val + kk.val) % 112)) = _
    rw [show (14 * k.val + 2 * u.val + kk.val) % 112 = (1792 * k.val + 256 * u.val + 128 * kk.val + c.val) / 128 by omega, Nat.mul_one]
    rfl

/-- Two groups' words side by side. -/
theorem pick_eq (f : ℕ → BitVec 32) (a b : IVec S128x128 32) (n : Fin 128) (base : ℕ)
    (ha : ∀ c, a (ix2 c n) = f (base + 128 * 0 + c.val)) (hb : ∀ c, b (ix2 c n) = f (base + 128 * 1 + c.val)) (i : ℕ) (hi : i < 256) :
    pick a b i n = f (base + i) := by
  unfold pick
  split
  · rw [ha]; rfl
  · rw [hb]
    refine congrArg f ?_
    show base + 128 * 1 + (i - 128) % 128 = _
    omega

theorem out0_apply :
    Part (O6 x0 x1 x2 x3 x4) ⟨Rect.unit (s := S1x256x7168) (k0_off14 k (W2 u)) S1x128x128.size (k0_off14_inb k u), out0 (M11 x0 x1 x2 x3) (R13 x0 x1 x2 x3 x4) k u⟩ := by
  have hk := lt3 k
  intro y
  obtain ⟨h, n, j, rfl⟩ := ix3_surj (n := 1) (m := 128) (q := 128) y
  obtain rfl : h = 0 := Subsingleton.elim _ _
  refine Eq.trans ?_ (congrArg (O6 x0 x1 x2 x3 x4) (idx14 k u n j)).symm
  unfold out0
  dsimp only
  rw [packBlk_apply]
  have h := pick_eq (WRD x0 x1 x2 x3 x4 n.val) _ _ n (1792 * k.val + 256 * u.val) (fun c => word0 x0 x1 x2 x3 x4 k u 0 c n)
    (fun c => word0 x0 x1 x2 x3 x4 k u 1 c n)
  rw [h _ (by omega), h _ (by omega)]
  show _ = byteN (BitVec.setWidth 4 (WRD x0 x1 x2 x3 x4 (n.val % 256) ((896 * k.val + 128 * u.val + j.val) % 7168 * 2)))
    (BitVec.setWidth 4 (WRD x0 x1 x2 x3 x4 (n.val % 256) ((896 * k.val + 128 * u.val + j.val) % 7168 * 2 + 1)))
  rw [show n.val % 256 = n.val by omega, show (896 * k.val + 128 * u.val + j.val) % 7168 * 2 = 1792 * k.val + 256 * u.val + j.val * 2 by omega]
  rfl

theorem out1_apply :
    Part (O6 x0 x1 x2 x3 x4) ⟨Rect.unit (s := S1x256x7168) (k0_off17 k (W2 u)) S1x128x128.size (k0_off17_inb k u), out1 (M11 x0 x1 x2 x3) (R13 x0 x1 x2 x3 x4) k u⟩ := by
  have hk := lt3 k
  intro y
  obtain ⟨h, n, j, rfl⟩ := ix3_surj (n := 1) (m := 128) (q := 128) y
  obtain rfl : h = 0 := Subsingleton.elim _ _
  refine Eq.trans ?_ (congrArg (O6 x0 x1 x2 x3 x4) (idx17 k u n j)).symm
  unfold out1
  dsimp only
  rw [packBlk_apply]
  have h := pick_eq (WRD x0 x1 x2 x3 x4 (128 + n.val)) _ _ n (1792 * k.val + 256 * u.val) (fun c => word1 x0 x1 x2 x3 x4 k u 0 c n)
    (fun c => word1 x0 x1 x2 x3 x4 k u 1 c n)
  rw [h _ (by omega), h _ (by omega)]
  show _ = byteN (BitVec.setWidth 4 (WRD x0 x1 x2 x3 x4 ((128 + n.val) % 256) ((896 * k.val + 128 * u.val + j.val) % 7168 * 2)))
    (BitVec.setWidth 4 (WRD x0 x1 x2 x3 x4 ((128 + n.val) % 256) ((896 * k.val + 128 * u.val + j.val) % 7168 * 2 + 1)))
  rw [show (128 + n.val) % 256 = 128 + n.val by omega, show (896 * k.val + 128 * u.val + j.val) % 7168 * 2 = 1792 * k.val + 256 * u.val + j.val * 2 by omega]
  rfl
end

/-- One trip of the third loop. -/
theorem fills6 (k : Fin k0_t3_loop.trips) :
    Fills (O6 x0 x1 x2 x3 x4) (fun y => 896 * k.val ≤ (y 2).val ∧ (y 2).val < 896 * (k.val + 1))
      (pieces6 (M11 x0 x1 x2 x3) (R13 x0 x1 x2 x3 x4) k) := by
  have hk := lt3 k
  refine ⟨fun p hp => ?_, fun y hy => ?_⟩
  · obtain ⟨u, -, hp⟩ := List.mem_flatMap.mp hp
    simp only [List.mem_cons, List.not_mem_nil, or_false] at hp
    rcases hp with h | h <;> rw [h]
    · exact out1_apply x0 x1 x2 x3 x4 k u
    · exact out0_apply x0 x1 x2 x3 x4 k u
  · obtain ⟨h, n, c, rfl⟩ := ix3_surj (n := 1) (m := 256) (q := 7168) y
    obtain rfl : h = 0 := Subsingleton.elim _ _
    replace hy : 896 * k.val ≤ c.val ∧ c.val < 896 * (k.val + 1) := hy
    have hu : (c.val - 896 * k.val) / 128 < 7 := by omega
    have hc : (c.val - 896 * k.val) % 128 < 128 := by omega
    have hn : n.val % 128 < 128 := by omega
    have e : N 7168 (896 * k.val + 128 * ((c.val - 896 * k.val) / 128) + (c.val - 896 * k.val) % 128) = c := by
      apply Fin.ext
      show (_ : ℕ) % 7168 = c.val
      omega
    have h14 := idx14 k ⟨_, hu⟩ ⟨_, hn⟩ ⟨_, hc⟩
    have h17 := idx17 k ⟨_, hu⟩ ⟨_, hn⟩ ⟨_, hc⟩
    simp only [e] at h14 h17
    unfold pieces6
    by_cases h1 : n.val < 128
    · refine ⟨_, List.mem_flatMap.mpr ⟨⟨_, hu⟩, order7_mem _, .tail _ (.head _)⟩, mem_of_idx _ _ _ (h14.trans ?_)⟩
      congr 1
      apply Fin.ext; show n.val % 128 % 256 = n.val; omega
    · refine ⟨_, List.mem_flatMap.mpr ⟨⟨_, hu⟩, order7_mem _, .head _⟩, mem_of_idx _ _ _ (h17.trans ?_)⟩
      congr 1
      apply Fin.ext; show (128 + n.val % 128) % 256 = n.val; omega

end

end Cert.KernelIdeal.Hand

end
-- ==== Proof.LoopRead.lean ====
/-
What the idealized kernel's loops leave in the buffers they write, read back whole.
-/
module

public import proofs.«01_k».proof.Proof.Trips

@[expose] public section

set_option maxRecDepth 16384
set_option maxHeartbeats 400000

noncomputable section

namespace Cert.KernelIdeal.Hand

open Cert.KernelIdeal Cert.KernelIdeal.Gen Cert.Dora Idealize.ShloMosaic Idealize.ShloMosaic.TcCoe

theorem trips1 : k0_t1_loop.trips = 8 := by decide +kernel
theorem trips2 : k0_t2_loop.trips = 8 := by decide +kernel
theorem trips3 : k0_t3_loop.trips = 8 := by decide +kernel

variable (c : Dev nD) (i : grid0.Coords)
  (arg1 : Memref sig .tc .vmem S1x256x7168 .i8) (harg1 : arg1.IsWhole) (arg2 : Memref sig .tc .vmem S1x256x112 .bf16) (harg2 : arg2.IsWhole) (arg3 : Memref sig .tc .vmem S1x24x14336 .bf16) (harg3 : arg3.IsWhole) (arg4 : Memref sig .tc .vmem S1x256x24 .bf16) (harg4 : arg4.IsWhole) (arg5 : Memref sig .tc .vmem S1x1x256 .f32) (harg5 : arg5.IsWhole) (arg6 : Memref sig .tc .vmem S1x256x7168 .i8) (harg6 : arg6.IsWhole) (arg7 : Memref sig .tc .vmem S1x256x112 .bf16) (harg7 : arg7.IsWhole) (arg8 : Memref sig .tc .vmem S14336x128 .bf16) (harg8 : arg8.IsWhole) (arg9 : Memref sig .tc .vmem S256x256 .bf16) (harg9 : arg9.IsWhole) (arg10 : Memref sig .tc .vmem S2x112x2x128 .bf16) (harg10 : arg10.IsWhole) (arg11 : Memref sig .tc .vmem S2x14336x128 .f32) (harg11 : arg11.IsWhole) (arg12 : Memref sig .tc .vmem S2x896x128 .f32) (harg12 : arg12.IsWhole) (arg13 : Memref sig .tc .vmem S2x112x128 .f32) (harg13 : arg13.IsWhole)
  (x0 : Vec Ideal S1x256x7168 .i8) (x1 : Vec Ideal S1x256x112 .bf16) (x2 : Vec Ideal S1x24x14336 .bf16)
  (x3 : Vec Ideal S1x256x24 .bf16) (x4 : Vec Ideal S1x1x256 .f32)

/-- The first loop's pieces before trip `n`. -/
theorem pb1_fills (X3 : BufTy.Contents (Elt Ideal) arg3.view.ty) (h3 : arg3.view.read (Elt Ideal) X3 = x2) :
    ∀ n ≤ 8, Fills (A8 x2) (fun y => (y 0).val < 1792 * n)
      (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X3 n)
  | 0, _ => Fills.nil _ _ fun y h => absurd h (by omega)
  | n + 1, hn => by
    have hk : n < k0_t1_loop.trips := by rw [trips1]; omega
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 X3 ⟨n, hk⟩
    rw [trip1, h3] at e
    refine e ▸ (fills8 x2 ⟨n, hk⟩).append (pb1_fills X3 h3 n (by omega)) fun y hy => ?_
    by_cases h : (y 0).val < 1792 * n
    · exact .inr h
    · exact .inl ⟨Nat.le_of_not_lt h, hy⟩

theorem read8 (X3 : BufTy.Contents (Elt Ideal) arg3.view.ty) (h3 : arg3.view.read (Elt Ideal) X3 = x2) (f : BufTy.Contents (Elt Ideal) arg8.view.ty) :
    arg8.view.read (Elt Ideal) (arg8.view.writes (Elt Ideal) f
      (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 X3 k0_t1_loop.trips)) = A8 x2 := by
  rw [trips1]
  exact (pb1_fills c i arg1 harg1 arg2 harg2 arg3 harg3 arg4 harg4 arg5 harg5 arg6 harg6 arg7 harg7 arg8 harg8 arg9 harg9 arg10 harg10 arg11 harg11 arg12 harg12 arg13 harg13 x2 X3 h3 8 le_rfl).read (fun y => (y 0).isLt) _ _

section
variable (v37 v38 : FVec Ideal S112x256 .f32)
  (X1 : BufTy.Contents (Elt Ideal) arg1.view.ty) (h1 : arg1.view.read (Elt Ideal) X1 = x0)
  (X8 : BufTy.Contents (Elt Ideal) arg8.view.ty) (h8 : arg8.view.read (Elt Ideal) X8 = A8 x2)
  (X9 : BufTy.Contents (Elt Ideal) arg9.view.ty) (h9 : arg9.view.read (Elt Ideal) X9 = W9 x3)
  (X10 : BufTy.Contents (Elt Ideal) arg10.view.ty) (h10 : arg10.view.read (Elt Ideal) X10 = S10 x1)
include h1 h8 h9 h10

/-- The second loop before trip `n`. -/
theorem st2_spec : ∀ n ≤ 8,
    (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) n).1
        = (ACC x0 x1 x2 x3 0 (14 * n), ACC x0 x1 x2 x3 1 (14 * n))
      ∧ Fills (M11 x0 x1 x2 x3) (fun y => (y 1).val < 1792 * n)
        (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) n).2.1
      ∧ Fills (A12 x0 x1 x2 x3) (fun y => (y 1).val < 112 * n)
        (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) n).2.2
  | 0, _ => by
    refine ⟨?_, Fills.nil _ _ fun y h => absurd h (by omega), Fills.nil _ _ fun y h => absurd h (by omega)⟩
    rw [st_k0_t2_zero, Nat.mul_zero, ACC_zero, ACC_zero]
  | n + 1, hn => by
    have hk : n < k0_t2_loop.trips := by rw [trips2]; omega
    obtain ⟨ih1, ih2, ih3⟩ := st2_spec n (by omega)
    have e := st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) ⟨n, hk⟩
    rw [trip2, trip2R, h1, h8, h9, h10] at e
    replace e : st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) (n + 1) = _ := e
    rw [e]
    refine ⟨?_, ?_, ?_⟩
    · show carry2 x0 (A8 x2) (W9 x3) (S10 x1) ⟨n, hk⟩ (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) n).1 = _
      rw [ih1]
      exact carry2_eq x0 x1 x2 x3 ⟨n, hk⟩
    · refine (fills11 x0 x1 x2 x3 ⟨n, hk⟩).append ih2 fun y hy => ?_
      by_cases h : (y 1).val < 1792 * n
      · exact .inr h
      · exact .inl ⟨Nat.le_of_not_lt h, hy⟩
    · refine (fills12 x0 x1 x2 x3 ⟨n, hk⟩).append ih3 fun y hy => ?_
      by_cases h : (y 1).val < 112 * n
      · exact .inr h
      · exact .inl ⟨Nat.le_of_not_lt h, hy⟩

theorem carry_end :
    (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) k0_t2_loop.trips).1
      = (ACC x0 x1 x2 x3 0 112, ACC x0 x1 x2 x3 1 112) := by
  rw [trips2]
  exact (st2_spec c i arg1 harg1 arg2 harg2 arg3 harg3 arg4 harg4 arg5 harg5 arg6 harg6 arg7 harg7 arg8 harg8 arg9 harg9 arg10 harg10 arg11 harg11 arg12 harg12 arg13 harg13 x0 x1 x2 x3 v37 v38 X1 h1 X8 h8 X9 h9 X10 h10 8 le_rfl).1

theorem read11 (f : BufTy.Contents (Elt Ideal) arg11.view.ty) :
    arg11.view.read (Elt Ideal) (arg11.view.writes (Elt Ideal) f
      (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) k0_t2_loop.trips).2.1) = M11 x0 x1 x2 x3 := by
  rw [trips2]
  exact (st2_spec c i arg1 harg1 arg2 harg2 arg3 harg3 arg4 harg4 arg5 harg5 arg6 harg6 arg7 harg7 arg8 harg8 arg9 harg9 arg10 harg10 arg11 harg11 arg12 harg12 arg13 harg13 x0 x1 x2 x3 v37 v38 X1 h1 X8 h8 X9 h9 X10 h10 8 le_rfl).2.1.read (fun y => (y 1).isLt) _ _

theorem read12 (f : BufTy.Contents (Elt Ideal) arg12.view.ty) :
    arg12.view.read (Elt Ideal) (arg12.view.writes (Elt Ideal) f
      (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 v37 v38 X1 X8 X9 X10 (k0_pay273, k0_pay273) k0_t2_loop.trips).2.2) = A12 x0 x1 x2 x3 := by
  rw [trips2]
  exact (st2_spec c i arg1 harg1 arg2 harg2 arg3 harg3 arg4 harg4 arg5 harg5 arg6 harg6 arg7 harg7 arg8 harg8 arg9 harg9 arg10 harg10 arg11 harg11 arg12 harg12 arg13 harg13 x0 x1 x2 x3 v37 v38 X1 h1 X8 h8 X9 h9 X10 h10 8 le_rfl).2.2.read (fun y => (y 1).isLt) _ _
end

section
variable (X11 : BufTy.Contents (Elt Ideal) arg11.view.ty) (h11 : arg11.view.read (Elt Ideal) X11 = M11 x0 x1 x2 x3)
  (X13 : BufTy.Contents (Elt Ideal) arg13.view.ty) (h13 : arg13.view.read (Elt Ideal) X13 = R13 x0 x1 x2 x3 x4)
include h11 h13

/-- The third loop's pieces before trip `n`. -/
theorem pb3_fills : ∀ n ≤ 8, Fills (O6 x0 x1 x2 x3 x4) (fun y => (y 2).val < 896 * n)
      (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 X11 X13 n)
  | 0, _ => Fills.nil _ _ fun y h => absurd h (by omega)
  | n + 1, hn => by
    have hk : n < k0_t3_loop.trips := by rw [trips3]; omega
    have e := pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 X11 X13 ⟨n, hk⟩
    rw [trip3, h11, h13] at e
    refine e ▸ (fills6 x0 x1 x2 x3 x4 ⟨n, hk⟩).append (pb3_fills n (by omega)) fun y hy => ?_
    by_cases h : (y 2).val < 896 * n
    · exact .inr h
    · exact .inl ⟨Nat.le_of_not_lt h, hy⟩

theorem read6 (f : BufTy.Contents (Elt Ideal) arg6.view.ty) :
    arg6.view.read (Elt Ideal) (arg6.view.writes (Elt Ideal) f
      (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 X11 X13 k0_t3_loop.trips)) = O6 x0 x1 x2 x3 x4 := by
  rw [trips3]
  exact (pb3_fills c i arg1 harg1 arg2 harg2 arg3 harg3 arg4 harg4 arg5 harg5 arg6 harg6 arg7 harg7 arg8 harg8 arg9 harg9 arg10 harg10 arg11 harg11 arg12 harg12 arg13 harg13 x0 x1 x2 x3 x4 X11 h11 X13 h13 8 le_rfl).read (fun y => (y 2).isLt) _ _
end

end Cert.KernelIdeal.Hand

end
-- ==== Proof.Mid.lean ====
/-
What the idealized kernel computes between its loops: the row factors, the scales and their quotients, and the buffers they
are stored to.
-/
module

public import proofs.«01_k».proof.Proof.Trips
public import Idealize.ShloMosaic.Lib.Pipeline.FrameBody

@[expose] public section

set_option maxRecDepth 16384
set_option maxHeartbeats 400000

noncomputable section

namespace Cert.KernelIdeal.Hand

open Cert.KernelIdeal Cert.KernelIdeal.Gen Cert.Dora Idealize.ShloMosaic Idealize.ShloMosaic.TcCoe

variable (x0 : Vec Ideal S1x256x7168 .i8) (x1 : Vec Ideal S1x256x112 .bf16) (x2 : Vec Ideal S1x24x14336 .bf16)
  (x3 : Vec Ideal S1x256x24 .bf16) (x4 : Vec Ideal S1x1x256 .f32)

/-- One lane of the largest absolute values, read with stride eight. -/
theorem ldS (h s : ℕ) (inb) (g : Fin 112) (l : Fin 128) :
    A12 x0 x1 x2 x3 ((⟨![h, s, 0], S1x112x128.size, ![1, 8, 1], inb⟩ : LoadRect S2x896x128).idx (ix3 0 g l))
      = lane (MW x0 x1 x2 x3 (128 * h + l.val)) (8 * g.val + s) := by
  show lane (MW x0 x1 x2 x3 (128 * (h + 1 * 0) + (0 + 1 * l.val))) (s + 8 * g.val) = _
  rw [Nat.mul_zero, Nat.add_zero, Nat.zero_add, Nat.one_mul, Nat.add_comm s]

theorem fac0 (l : Fin 128) :
    k0_pay276 (ACC x0 x1 x2 x3 0 112) (View.ld x4 (Rect.unit (s := S1x1x256) ![0, 0, 0] S1x1x128.size inb_S1x1x256_S1x1x128_0_0_0)) (ix2 0 l)
      = FAC x0 x1 x2 x3 x4 l.val := by
  rw [pay276_apply, ACC_sum, Nat.mul_zero, Nat.zero_add]
  unfold FAC fac MAG
  refine congrArg (Ideal.div · _) (congrArg x4 (idx_unit_eq _ _ _ _ _ rfl fun a => ?_))
  match a with
  | ⟨0, _⟩ => rfl
  | ⟨1, _⟩ => rfl
  | ⟨2, _⟩ => show l.val % 256 = 0 + l.val; omega

theorem fac1 (l : Fin 128) :
    k0_pay282 (ACC x0 x1 x2 x3 1 112) (View.ld x4 (Rect.unit (s := S1x1x256) ![0, 0, 128] S1x1x128.size inb_S1x1x256_S1x1x128_0_0_128)) (ix2 0 l)
      = FAC x0 x1 x2 x3 x4 (128 + l.val) := by
  rw [pay282_apply, ACC_sum, Nat.mul_one]
  unfold FAC fac MAG
  refine congrArg (Ideal.div · _) (congrArg x4 (idx_unit_eq _ _ _ _ _ rfl fun a => ?_))
  match a with
  | ⟨0, _⟩ => rfl
  | ⟨1, _⟩ => rfl
  | ⟨2, _⟩ => show (128 + l.val) % 256 = 128 + l.val; omega

variable (f0 f1 : FVec Ideal S1x128 .f32) (hf0 : ∀ l : Fin 128, f0 (ix2 0 l) = FAC x0 x1 x2 x3 x4 l.val)
  (hf1 : ∀ l : Fin 128, f1 (ix2 0 l) = FAC x0 x1 x2 x3 x4 (128 + l.val))
  (t0 t1 t2 t3 t4 t5 t6 t7 : Vec Ideal S1x112x128 .f32)
  (r0 r1 r2 r3 r4 r5 r6 r7 : Vec Ideal S1x112x128 .f32)
  (ht : ∀ (g : Fin 112) (l : Fin 128), t0 (ix3 0 g l) = lane (MW x0 x1 x2 x3 (128 * 0 + l.val)) (8 * g.val)
    ∧ t1 (ix3 0 g l) = lane (MW x0 x1 x2 x3 (128 * 0 + l.val)) (8 * g.val + 1) ∧ t2 (ix3 0 g l) = lane (MW x0 x1 x2 x3 (128 * 0 + l.val)) (8 * g.val + 2)
    ∧ t3 (ix3 0 g l) = lane (MW x0 x1 x2 x3 (128 * 0 + l.val)) (8 * g.val + 3) ∧ t4 (ix3 0 g l) = lane (MW x0 x1 x2 x3 (128 * 0 + l.val)) (8 * g.val + 4)
    ∧ t5 (ix3 0 g l) = lane (MW x0 x1 x2 x3 (128 * 0 + l.val)) (8 * g.val + 5) ∧ t6 (ix3 0 g l) = lane (MW x0 x1 x2 x3 (128 * 0 + l.val)) (8 * g.val + 6)
    ∧ t7 (ix3 0 g l) = lane (MW x0 x1 x2 x3 (128 * 0 + l.val)) (8 * g.val + 7))
  (hr : ∀ (g : Fin 112) (l : Fin 128), r0 (ix3 0 g l) = lane (MW x0 x1 x2 x3 (128 * 1 + l.val)) (8 * g.val)
    ∧ r1 (ix3 0 g l) = lane (MW x0 x1 x2 x3 (128 * 1 + l.val)) (8 * g.val + 1) ∧ r2 (ix3 0 g l) = lane (MW x0 x1 x2 x3 (128 * 1 + l.val)) (8 * g.val + 2)
    ∧ r3 (ix3 0 g l) = lane (MW x0 x1 x2 x3 (128 * 1 + l.val)) (8 * g.val + 3) ∧ r4 (ix3 0 g l) = lane (MW x0 x1 x2 x3 (128 * 1 + l.val)) (8 * g.val + 4)
    ∧ r5 (ix3 0 g l) = lane (MW x0 x1 x2 x3 (128 * 1 + l.val)) (8 * g.val + 5) ∧ r6 (ix3 0 g l) = lane (MW x0 x1 x2 x3 (128 * 1 + l.val)) (8 * g.val + 6)
    ∧ r7 (ix3 0 g l) = lane (MW x0 x1 x2 x3 (128 * 1 + l.val)) (8 * g.val + 7))

include hf0 ht in
theorem scale0 (g : Fin 112) (l : Fin 128) :
    k0_pay278 f0 (k0_pay277 t0 t1) t2 t3 t4 t5 t6 t7 (ix2 g l) = SCL x0 x1 x2 x3 x4 l.val g.val := by
  obtain ⟨h0, h1, h2, h3, h4, h5, h6, h7⟩ := ht g l
  rw [pay278_apply, h0, h1, h2, h3, h4, h5, h6, h7, max8_lanes, hf0, Nat.mul_zero, Nat.zero_add]
  rfl

include hf1 hr in
theorem scale1 (g : Fin 112) (l : Fin 128) :
    k0_pay1 f1 (k0_pay283 r0 r1 r2 r3 r4 r5 r6 r7) (ix2 g l) = SCL x0 x1 x2 x3 x4 (128 + l.val) g.val := by
  obtain ⟨h0, h1, h2, h3, h4, h5, h6, h7⟩ := hr g l
  rw [pay1_apply, h0, h1, h2, h3, h4, h5, h6, h7, max8_lanes, hf1, Nat.mul_one]
  rfl

theorem idx_lead3 {n m q : ℕ} (h : ℕ) (hh : h < n) (inb) (c : Fin m) (l : Fin q) :
    (Rect.unit (s := ⟨3, ![n, m, q]⟩) ![h, 0, 0] ![1, m, q] inb).idx (ix3 (0 : Fin 1) c l) = ix3 (⟨h, hh⟩ : Fin n) c l := by
  refine idx_unit_eq _ _ _ _ _ rfl fun a => ?_
  match a with
  | ⟨0, _⟩ => rfl
  | ⟨1, _⟩ => show c.val = 0 + c.val; omega
  | ⟨2, _⟩ => show l.val = 0 + l.val; omega

include hf0 ht hf1 hr in
/-- The quotients of factor and scale, both halves of the rows. -/
theorem fills13 : Fills (R13 x0 x1 x2 x3 x4) (fun _ => True) [
    ⟨Rect.unit (s := S2x112x128) ![1, 0, 0] S1x112x128.size inb_S2x112x128_S1x112x128_1_0_0, k0_pay2 f1 (k0_pay283 r0 r1 r2 r3 r4 r5 r6 r7)⟩,
    ⟨Rect.unit (s := S2x112x128) ![0, 0, 0] S1x112x128.size inb_S2x112x128_S1x112x128_0_0_0, k0_pay279 f0 (k0_pay277 t0 t1) t2 t3 t4 t5 t6 t7⟩] := by
  refine ⟨fun p hp => ?_, fun y _ => ?_⟩
  · simp only [List.mem_cons, List.not_mem_nil, or_false] at hp
    rcases hp with h | h <;> rw [h] <;> intro y <;> obtain ⟨h, g, l, rfl⟩ := ix3_surj (n := 1) (m := 112) (q := 128) y <;>
      obtain rfl : h = 0 := Subsingleton.elim _ _
    · refine Eq.trans ?_ (congrArg (R13 x0 x1 x2 x3 x4) (idx_lead3 1 (by decide) inb_S2x112x128_S1x112x128_1_0_0 g l)).symm
      dsimp only
      rw [pay2_apply, hf1, scale1 x0 x1 x2 x3 x4 f1 hf1 r0 r1 r2 r3 r4 r5 r6 r7 hr]
      show _ = Ideal.div (FAC x0 x1 x2 x3 x4 (128 * 1 + l.val)) (SCL x0 x1 x2 x3 x4 (128 * 1 + l.val) g.val)
      rw [Nat.mul_one]
    · refine Eq.trans ?_ (congrArg (R13 x0 x1 x2 x3 x4) (idx_lead3 0 (by decide) inb_S2x112x128_S1x112x128_0_0_0 g l)).symm
      dsimp only
      rw [pay279_apply, hf0, scale0 x0 x1 x2 x3 x4 f0 hf0 t0 t1 t2 t3 t4 t5 t6 t7 ht]
      show _ = Ideal.div (FAC x0 x1 x2 x3 x4 (128 * 0 + l.val)) (SCL x0 x1 x2 x3 x4 (128 * 0 + l.val) g.val)
      rw [Nat.mul_zero, Nat.zero_add]
  · obtain ⟨h, g, l, rfl⟩ := ix3_surj (n := 2) (m := 112) (q := 128) y
    rcases two h with rfl | rfl
    · exact ⟨_, .tail _ (.head _), mem_of_idx _ _ _ (idx_lead3 0 (by decide) inb_S2x112x128_S1x112x128_0_0_0 g l)⟩
    · exact ⟨_, .head _, mem_of_idx _ _ _ (idx_lead3 1 (by decide) inb_S2x112x128_S1x112x128_1_0_0 g l)⟩

include hf0 ht hf1 hr in
/-- The scales of the block. -/
theorem fills7 (inb) : Fills (O7 x0 x1 x2 x3 x4) (fun _ => True) [
    ⟨Rect.unit (s := S1x256x112) ![0, 0, 0] S1x256x112.size inb,
      k0_pay3 (k0_pay281 (k0_pay278 f0 (k0_pay277 t0 t1) t2 t3 t4 t5 t6 t7) k0_pay280) f1 (k0_pay283 r0 r1 r2 r3 r4 r5 r6 r7)⟩] := by
  refine ⟨fun p hp => ?_, fun y _ => ?_⟩
  · simp only [List.mem_cons, List.not_mem_nil, or_false] at hp
    rw [hp]; intro y; obtain ⟨h, n, g, rfl⟩ := ix3_surj (n := 1) (m := 256) (q := 112) y
    obtain rfl : h = 0 := Subsingleton.elim _ _
    refine Eq.trans ?_ (congrArg (O7 x0 x1 x2 x3 x4) (idx_lead3 0 (by decide) inb n g)).symm
    dsimp only
    rw [pay3_apply]
    show _ = SCL x0 x1 x2 x3 x4 n.val g.val
    split
    · exact scale0 x0 x1 x2 x3 x4 f0 hf0 t0 t1 t2 t3 t4 t5 t6 t7 ht g _
    · rw [scale1 x0 x1 x2 x3 x4 f1 hf1 r0 r1 r2 r3 r4 r5 r6 r7 hr]
      refine congrArg (SCL x0 x1 x2 x3 x4 · g.val) ?_
      show 128 + (n.val - 128) = n.val
      omega
  · obtain ⟨h, n, g, rfl⟩ := ix3_surj (n := 1) (m := 256) (q := 112) y
    obtain rfl : h = 0 := Subsingleton.elim _ _
    exact ⟨_, .head _, mem_of_idx _ _ _ (idx_lead3 0 (by decide) inb n g)⟩

/-- The weights of the product. -/
theorem fills9 : Fills (W9 x3) (fun _ => True) [
    ⟨Rect.unit (s := S256x256) ![0, 0] S256x256.size inb_S256x256_S256x256_0_0, k0_pay265 x3⟩] := by
  have hi : ∀ y : S256x256.Idx, (Rect.unit (s := S256x256) ![0, 0] S256x256.size inb_S256x256_S256x256_0_0).idx y = y := fun y =>
    idx_unit_eq _ _ _ _ _ rfl fun a => by
      match a with
      | ⟨0, _⟩ => exact (Nat.zero_add _).symm
      | ⟨1, _⟩ => exact (Nat.zero_add _).symm
  refine ⟨fun p hp => ?_, fun y _ => ⟨_, .head _, mem_of_idx _ _ _ (hi y)⟩⟩
  simp only [List.mem_cons, List.not_mem_nil, or_false] at hp
  rw [hp]; intro y
  refine Eq.trans ?_ (congrArg (W9 x3) (hi y)).symm
  dsimp only
  rw [pay265_eq]

theorem idx_lead4 {n m p q : ℕ} (h : ℕ) (hh : h < n) (inb) (c : Fin m) (d : Fin p) (l : Fin q) :
    (Rect.unit (s := ⟨4, ![n, m, p, q]⟩) ![h, 0, 0, 0] ![1, m, p, q] inb).idx (ix4 (0 : Fin 1) c d l) = ix4 (⟨h, hh⟩ : Fin n) c d l := by
  refine idx_unit_eq _ _ _ _ _ rfl fun a => ?_
  match a with
  | ⟨0, _⟩ => rfl
  | ⟨1, _⟩ => show c.val = 0 + c.val; omega
  | ⟨2, _⟩ => show d.val = 0 + d.val; omega
  | ⟨3, _⟩ => show l.val = 0 + l.val; omega

theorem ix4_surj {n m p q : ℕ} (y : (⟨4, ![n, m, p, q]⟩ : Shape).Idx) : ∃ (h : Fin n) (c : Fin m) (d : Fin p) (l : Fin q), y = ix4 h c d l :=
  ⟨y 0, y 1, y 2, y 3, by funext a; match a with | ⟨0, _⟩ => rfl | ⟨1, _⟩ => rfl | ⟨2, _⟩ => rfl | ⟨3, _⟩ => rfl⟩

/-- The scales of the codes, both halves of the rows. -/
theorem fills10 : Fills (S10 x1) (fun _ => True) [
    ⟨Rect.unit (s := S2x112x2x128) ![1, 0, 0, 0] S1x112x2x128.size inb_S2x112x2x128_S1x112x2x128_1_0_0_0, k0_pay272 (k0_pay267 x1) (k0_pay268 x1)⟩,
    ⟨Rect.unit (s := S2x112x2x128) ![0, 0, 0, 0] S1x112x2x128.size inb_S2x112x2x128_S1x112x2x128_0_0_0_0, k0_pay271 (k0_pay267 x1) (k0_pay268 x1)⟩] := by
  refine ⟨fun p hp => ?_, fun y _ => ?_⟩
  · simp only [List.mem_cons, List.not_mem_nil, or_false] at hp
    rcases hp with h | h <;> rw [h] <;> intro y <;> obtain ⟨h, g, d, l, rfl⟩ := ix4_surj (n := 1) (m := 112) (p := 2) (q := 128) y <;>
      obtain rfl : h = 0 := Subsingleton.elim _ _
    · refine Eq.trans ?_ (congrArg (S10 x1) (idx_lead4 1 (by decide) inb_S2x112x2x128_S1x112x2x128_1_0_0_0 g d l)).symm
      dsimp only
      rw [pay272_apply]
      show _ = x1 (ix3 0 (N 256 (128 * 1 + l.val)) (N 112 g.val))
      rw [N_val]
      congr 2
      apply Fin.ext
      show 128 + l.val = (128 * 1 + l.val) % 256
      omega
    · refine Eq.trans ?_ (congrArg (S10 x1) (idx_lead4 0 (by decide) inb_S2x112x2x128_S1x112x2x128_0_0_0_0 g d l)).symm
      dsimp only
      rw [pay271_apply]
      show _ = x1 (ix3 0 (N 256 (128 * 0 + l.val)) (N 112 g.val))
      rw [N_val]
      congr 2
      apply Fin.ext
      show l.val = (128 * 0 + l.val) % 256
      omega
  · obtain ⟨h, g, d, l, rfl⟩ := ix4_surj (n := 2) (m := 112) (p := 2) (q := 128) y
    rcases two h with rfl | rfl
    · exact ⟨_, .tail _ (.head _), mem_of_idx _ _ _ (idx_lead4 0 (by decide) inb_S2x112x2x128_S1x112x2x128_0_0_0_0 g d l)⟩
    · exact ⟨_, .head _, mem_of_idx _ _ _ (idx_lead4 1 (by decide) inb_S2x112x2x128_S1x112x2x128_1_0_0_0 g d l)⟩

section
variable {sig' sig'' : RefSig} {κ κ' : Kind} {sp sp' : Space} (v5 : View sig' κ sp S1x1x256 .f32) (v12 : View sig'' κ' sp' S2x896x128 .f32)
  (X5 : v5.ty.Contents (Elt Ideal)) (h5 : v5.read (Elt Ideal) X5 = x4)
  (X12 : v12.ty.Contents (Elt Ideal)) (h12 : v12.read (Elt Ideal) X12 = A12 x0 x1 x2 x3)
  (a0 a1 : FVec Ideal S8x128 .f32) (ha0 : a0 = ACC x0 x1 x2 x3 0 112) (ha1 : a1 = ACC x0 x1 x2 x3 1 112)

include h12 in
theorem rd12 (h s : ℕ) (inb) (g : Fin 112) (l : Fin 128) :
    v12.readAt (Elt Ideal) (⟨![h, s, 0], S1x112x128.size, ![1, 8, 1], inb⟩ : LoadRect S2x896x128) X12 (ix3 0 g l)
      = lane (MW x0 x1 x2 x3 (128 * h + l.val)) (8 * g.val + s) :=
  (congrFun h12 _).trans (ldS x0 x1 x2 x3 h s inb g l)

include h5 ha0 in
theorem rd0 (l : Fin 128) :
    (k0_pay276 a0 (v5.readAt (Elt Ideal) (Rect.unit (s := S1x1x256) ![0, 0, 0] S1x1x128.size inb_S1x1x256_S1x1x128_0_0_0).toLoadRect X5)) (ix2 0 l) = FAC x0 x1 x2 x3 x4 l.val := by
  rw [ha0]
  refine Eq.trans ?_ (fac0 x0 x1 x2 x3 x4 l)
  rw [View.readAt_eq_ld, h5]

include h5 ha1 in
theorem rd1 (l : Fin 128) :
    (k0_pay282 a1 (v5.readAt (Elt Ideal) (Rect.unit (s := S1x1x256) ![0, 0, 128] S1x1x128.size inb_S1x1x256_S1x1x128_0_0_128).toLoadRect X5)) (ix2 0 l) = FAC x0 x1 x2 x3 x4 (128 + l.val) := by
  rw [ha1]
  refine Eq.trans ?_ (fac1 x0 x1 x2 x3 x4 l)
  rw [View.readAt_eq_ld, h5]

include h5 h12 ha0 ha1 in
/-- The quotients as the kernel stores them, -/
theorem mid13 : Fills (R13 x0 x1 x2 x3 x4) (fun _ => True) [
    ⟨Rect.unit (s := S2x112x128) ![1, 0, 0] S1x112x128.size inb_S2x112x128_S1x112x128_1_0_0, k0_pay2
        (k0_pay282 a1 (v5.readAt (Elt Ideal) (Rect.unit (s := S1x1x256) ![0, 0, 128] S1x1x128.size inb_S1x1x256_S1x1x128_0_0_128).toLoadRect X5))
        (k0_pay283 (v12.readAt (Elt Ideal) (⟨![1, 0, 0], S1x112x128.size, ![1, 8, 1], inb_S2x896x128_S1x112x128_1_0_0_s_1_8_1⟩ : LoadRect S2x896x128) X12)
        (v12.readAt (Elt Ideal) (⟨![1, 1, 0], S1x112x128.size, ![1, 8, 1], inb_S2x896x128_S1x112x128_1_1_0_s_1_8_1⟩ : LoadRect S2x896x128) X12)
        (v12.readAt (Elt Ideal) (⟨![1, 2, 0], S1x112x128.size, ![1, 8, 1], inb_S2x896x128_S1x112x128_1_2_0_s_1_8_1⟩ : LoadRect S2x896x128) X12)
        (v12.readAt (Elt Ideal) (⟨![1, 3, 0], S1x112x128.size, ![1, 8, 1], inb_S2x896x128_S1x112x128_1_3_0_s_1_8_1⟩ : LoadRect S2x896x128) X12)
        (v12.readAt (Elt Ideal) (⟨![1, 4, 0], S1x112x128.size, ![1, 8, 1], inb_S2x896x128_S1x112x128_1_4_0_s_1_8_1⟩ : LoadRect S2x896x128) X12)
        (v12.readAt (Elt Ideal) (⟨![1, 5, 0], S1x112x128.size, ![1, 8, 1], inb_S2x896x128_S1x112x128_1_5_0_s_1_8_1⟩ : LoadRect S2x896x128) X12)
        (v12.readAt (Elt Ideal) (⟨![1, 6, 0], S1x112x128.size, ![1, 8, 1], inb_S2x896x128_S1x112x128_1_6_0_s_1_8_1⟩ : LoadRect S2x896x128) X12)
        (v12.readAt (Elt Ideal) (⟨![1, 7, 0], S1x112x128.size, ![1, 8, 1], inb_S2x896x128_S1x112x128_1_7_0_s_1_8_1⟩ : LoadRect S2x896x128) X12))⟩,
    ⟨Rect.unit (s := S2x112x128) ![0, 0, 0] S1x112x128.size inb_S2x112x128_S1x112x128_0_0_0, k0_pay279
        (k0_pay276 a0 (v5.readAt (Elt Ideal) (Rect.unit (s := S1x1x256) ![0, 0, 0] S1x1x128.size inb_S1x1x256_S1x1x128_0_0_0).toLoadRect X5))
        (k0_pay277 (v12.readAt (Elt Ideal) (⟨![0, 0, 0], S1x112x128.size, ![1, 8, 1], inb_S2x896x128_S1x112x128_0_0_0_s_1_8_1⟩ : LoadRect S2x896x128) X12)
        (v12.readAt (Elt Ideal) (⟨![0, 1, 0], S1x112x128.size, ![1, 8, 1], inb_S2x896x128_S1x112x128_0_1_0_s_1_8_1⟩ : LoadRect S2x896x128) X12))
        (v12.readAt (Elt Ideal) (⟨![0, 2, 0], S1x112x128.size, ![1, 8, 1], inb_S2x896x128_S1x112x128_0_2_0_s_1_8_1⟩ : LoadRect S2x896x128) X12)
        (v12.readAt (Elt Ideal) (⟨![0, 3, 0], S1x112x128.size, ![1, 8, 1], inb_S2x896x128_S1x112x128_0_3_0_s_1_8_1⟩ : LoadRect S2x896x128) X12)
        (v12.readAt (Elt Ideal) (⟨![0, 4, 0], S1x112x128.size, ![1, 8, 1], inb_S2x896x128_S1x112x128_0_4_0_s_1_8_1⟩ : LoadRect S2x896x128) X12)
        (v12.readAt (Elt Ideal) (⟨![0, 5, 0], S1x112x128.size, ![1, 8, 1], inb_S2x896x128_S1x112x128_0_5_0_s_1_8_1⟩ : LoadRect S2x896x128) X12)
        (v12.readAt (Elt Ideal) (⟨![0, 6, 0], S1x112x128.size, ![1, 8, 1], inb_S2x896x128_S1x112x128_0_6_0_s_1_8_1⟩ : LoadRect S2x896x128) X12)
        (v12.readAt (Elt Ideal) (⟨![0, 7, 0], S1x112x128.size, ![1, 8, 1], inb_S2x896x128_S1x112x128_0_7_0_s_1_8_1⟩ : LoadRect S2x896x128) X12)⟩] :=
  fills13 x0 x1 x2 x3 x4 _ _ (rd0 x0 x1 x2 x3 x4 v5 X5 h5 a0 ha0) (rd1 x0 x1 x2 x3 x4 v5 X5 h5 a1 ha1)
    _ _ _ _ _ _ _ _ _ _ _ _ _ _ _ _
    (fun g l => ⟨rd12 x0 x1 x2 x3 v12 X12 h12 0 0 _ g l, rd12 x0 x1 x2 x3 v12 X12 h12 0 1 _ g l, rd12 x0 x1 x2 x3 v12 X12 h12 0 2 _ g l, rd12 x0 x1 x2 x3 v12 X12 h12 0 3 _ g l, rd12 x0 x1 x2 x3 v12 X12 h12 0 4 _ g l, rd12 x0 x1 x2 x3 v12 X12 h12 0 5 _ g l, rd12 x0 x1 x2 x3 v12 X12 h12 0 6 _ g l, rd12 x0 x1 x2 x3 v12 X12 h12 0 7 _ g l⟩)
    (fun g l => ⟨rd12 x0 x1 x2 x3 v12 X12 h12 1 0 _ g l, rd12 x0 x1 x2 x3 v12 X12 h12 1 1 _ g l, rd12 x0 x1 x2 x3 v12 X12 h12 1 2 _ g l, rd12 x0 x1 x2 x3 v12 X12 h12 1 3 _ g l, rd12 x0 x1 x2 x3 v12 X12 h12 1 4 _ g l, rd12 x0 x1 x2 x3 v12 X12 h12 1 5 _ g l, rd12 x0 x1 x2 x3 v12 X12 h12 1 6 _ g l, rd12 x0 x1 x2 x3 v12 X12 h12 1 7 _ g l⟩)

include h5 h12 ha0 ha1 in
/-- and the scales. -/
theorem mid7 : Fills (O7 x0 x1 x2 x3 x4) (fun _ => True) [
    ⟨Rect.unit (s := S1x256x112) ![0, 0, 0] S1x256x112.size inb_S1x256x112_S1x256x112_0_0_0, k0_pay3 (k0_pay281 (k0_pay278
        (k0_pay276 a0 (v5.readAt (Elt Ideal) (Rect.unit (s := S1x1x256) ![0, 0, 0] S1x1x128.size inb_S1x1x256_S1x1x128_0_0_0).toLoadRect X5))
        (k0_pay277 (v12.readAt (Elt Ideal) (⟨![0, 0, 0], S1x112x128.size, ![1, 8, 1], inb_S2x896x128_S1x112x128_0_0_0_s_1_8_1⟩ : LoadRect S2x896x128) X12)
        (v12.readAt (Elt Ideal) (⟨![0, 1, 0], S1x112x128.size, ![1, 8, 1], inb_S2x896x128_S1x112x128_0_1_0_s_1_8_1⟩ : LoadRect S2x896x128) X12))
        (v12.readAt (Elt Ideal) (⟨![0, 2, 0], S1x112x128.size, ![1, 8, 1], inb_S2x896x128_S1x112x128_0_2_0_s_1_8_1⟩ : LoadRect S2x896x128) X12)
        (v12.readAt (Elt Ideal) (⟨![0, 3, 0], S1x112x128.size, ![1, 8, 1], inb_S2x896x128_S1x112x128_0_3_0_s_1_8_1⟩ : LoadRect S2x896x128) X12)
        (v12.readAt (Elt Ideal) (⟨![0, 4, 0], S1x112x128.size, ![1, 8, 1], inb_S2x896x128_S1x112x128_0_4_0_s_1_8_1⟩ : LoadRect S2x896x128) X12)
        (v12.readAt (Elt Ideal) (⟨![0, 5, 0], S1x112x128.size, ![1, 8, 1], inb_S2x896x128_S1x112x128_0_5_0_s_1_8_1⟩ : LoadRect S2x896x128) X12)
        (v12.readAt (Elt Ideal) (⟨![0, 6, 0], S1x112x128.size, ![1, 8, 1], inb_S2x896x128_S1x112x128_0_6_0_s_1_8_1⟩ : LoadRect S2x896x128) X12)
        (v12.readAt (Elt Ideal) (⟨![0, 7, 0], S1x112x128.size, ![1, 8, 1], inb_S2x896x128_S1x112x128_0_7_0_s_1_8_1⟩ : LoadRect S2x896x128) X12)) k0_pay280)
        (k0_pay282 a1 (v5.readAt (Elt Ideal) (Rect.unit (s := S1x1x256) ![0, 0, 128] S1x1x128.size inb_S1x1x256_S1x1x128_0_0_128).toLoadRect X5))
        (k0_pay283 (v12.readAt (Elt Ideal) (⟨![1, 0, 0], S1x112x128.size, ![1, 8, 1], inb_S2x896x128_S1x112x128_1_0_0_s_1_8_1⟩ : LoadRect S2x896x128) X12)
        (v12.readAt (Elt Ideal) (⟨![1, 1, 0], S1x112x128.size, ![1, 8, 1], inb_S2x896x128_S1x112x128_1_1_0_s_1_8_1⟩ : LoadRect S2x896x128) X12)
        (v12.readAt (Elt Ideal) (⟨![1, 2, 0], S1x112x128.size, ![1, 8, 1], inb_S2x896x128_S1x112x128_1_2_0_s_1_8_1⟩ : LoadRect S2x896x128) X12)
        (v12.readAt (Elt Ideal) (⟨![1, 3, 0], S1x112x128.size, ![1, 8, 1], inb_S2x896x128_S1x112x128_1_3_0_s_1_8_1⟩ : LoadRect S2x896x128) X12)
        (v12.readAt (Elt Ideal) (⟨![1, 4, 0], S1x112x128.size, ![1, 8, 1], inb_S2x896x128_S1x112x128_1_4_0_s_1_8_1⟩ : LoadRect S2x896x128) X12)
        (v12.readAt (Elt Ideal) (⟨![1, 5, 0], S1x112x128.size, ![1, 8, 1], inb_S2x896x128_S1x112x128_1_5_0_s_1_8_1⟩ : LoadRect S2x896x128) X12)
        (v12.readAt (Elt Ideal) (⟨![1, 6, 0], S1x112x128.size, ![1, 8, 1], inb_S2x896x128_S1x112x128_1_6_0_s_1_8_1⟩ : LoadRect S2x896x128) X12)
        (v12.readAt (Elt Ideal) (⟨![1, 7, 0], S1x112x128.size, ![1, 8, 1], inb_S2x896x128_S1x112x128_1_7_0_s_1_8_1⟩ : LoadRect S2x896x128) X12))⟩] :=
  fills7 x0 x1 x2 x3 x4 _ _ (rd0 x0 x1 x2 x3 x4 v5 X5 h5 a0 ha0) (rd1 x0 x1 x2 x3 x4 v5 X5 h5 a1 ha1)
    _ _ _ _ _ _ _ _ _ _ _ _ _ _ _ _
    (fun g l => ⟨rd12 x0 x1 x2 x3 v12 X12 h12 0 0 _ g l, rd12 x0 x1 x2 x3 v12 X12 h12 0 1 _ g l, rd12 x0 x1 x2 x3 v12 X12 h12 0 2 _ g l, rd12 x0 x1 x2 x3 v12 X12 h12 0 3 _ g l, rd12 x0 x1 x2 x3 v12 X12 h12 0 4 _ g l, rd12 x0 x1 x2 x3 v12 X12 h12 0 5 _ g l, rd12 x0 x1 x2 x3 v12 X12 h12 0 6 _ g l, rd12 x0 x1 x2 x3 v12 X12 h12 0 7 _ g l⟩)
    (fun g l => ⟨rd12 x0 x1 x2 x3 v12 X12 h12 1 0 _ g l, rd12 x0 x1 x2 x3 v12 X12 h12 1 1 _ g l, rd12 x0 x1 x2 x3 v12 X12 h12 1 2 _ g l, rd12 x0 x1 x2 x3 v12 X12 h12 1 3 _ g l, rd12 x0 x1 x2 x3 v12 X12 h12 1 4 _ g l, rd12 x0 x1 x2 x3 v12 X12 h12 1 5 _ g l, rd12 x0 x1 x2 x3 v12 X12 h12 1 6 _ g l, rd12 x0 x1 x2 x3 v12 X12 h12 1 7 _ g l⟩) _
end

end Cert.KernelIdeal.Hand

end
-- ==== Proof.KValue.lean ====
/-
The body of the idealized kernel, run over its skeleton: on whole staging memrefs it hands back the inputs' as they were
and the two outputs'.
-/
module

public import proofs.«01_k».proof.Proof.Gen.KernelIdeal.Frame
public import proofs.«01_k».proof.Proof.LoopRead
public import proofs.«01_k».proof.Proof.Mid
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1000000 in
/-- The body's triple: on whole staging memrefs — the inputs' at their contents,
    the FORGOTTEN outputs' (5, 6) at anything, handed back at some contents nothing names —
    the body runs to the continuation holding the inputs' as they were, the scratch at some contents: the printed functions are their skeletons (`Gen.*_eq_skeleton`),
    which `sl_exec` runs (Lib/Exec.lean). -/
theorem valueRun0 (c : Dev nD) (i : grid0.Coords) (arg1 : Memref sig .tc .vmem S1x256x7168 .i8) (harg1 : arg1.IsWhole) (arg2 : Memref sig .tc .vmem S1x256x112 .bf16) (harg2 : arg2.IsWhole) (arg3 : Memref sig .tc .vmem S1x24x14336 .bf16) (harg3 : arg3.IsWhole) (arg4 : Memref sig .tc .vmem S1x256x24 .bf16) (harg4 : arg4.IsWhole) (arg5 : Memref sig .tc .vmem S1x1x256 .f32) (harg5 : arg5.IsWhole) (arg6 : Memref sig .tc .vmem S1x256x7168 .i8) (harg6 : arg6.IsWhole) (arg7 : Memref sig .tc .vmem S1x256x112 .bf16) (harg7 : arg7.IsWhole) (arg8 : Memref sig .tc .vmem S14336x128 .bf16) (harg8 : arg8.IsWhole) (arg9 : Memref sig .tc .vmem S256x256 .bf16) (harg9 : arg9.IsWhole) (arg10 : Memref sig .tc .vmem S2x112x2x128 .bf16) (harg10 : arg10.IsWhole) (arg11 : Memref sig .tc .vmem S2x14336x128 .f32) (harg11 : arg11.IsWhole) (arg12 : Memref sig .tc .vmem S2x896x128 .f32) (harg12 : arg12.IsWhole) (arg13 : Memref sig .tc .vmem S2x112x128 .f32) (harg13 : arg13.IsWhole)
    (x0 : Vec Ideal S1x256x7168 .i8) (x1 : Vec Ideal S1x256x112 .bf16) (x2 : Vec Ideal S1x24x14336 .bf16) (x3 : Vec Ideal S1x256x24 .bf16) (x4 : Vec Ideal S1x1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (O6 x0 x1 x2 x3 x4) ∗ owns (c : Thread nD τ) arg7 fullShare (O7 x0 x1 x2 x3 x4) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := Ideal)) Variants.none c none) E (cc0_dora_requant i arg1 harg1 arg2 harg2 arg3 harg3 arg4 harg4 arg5 harg5 arg6 harg6 arg7 harg7 arg8 harg8 arg9 harg9 arg10 harg10 arg11 harg11 arg12 harg12 arg13 harg13) K := by
    intro E K
    simp only [cc0_dora_requant_eq_skeleton]; unfold cc0_dora_requant_skel
    simp only [k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine read6 c i _ _ _ _ _ _ _ _ _ _ _ _ _ _ _ _ _ _ _ _ _ _ _ _ _ _ x0 x1 x2 x3 x4 _ ?_ _ ?_ _
      · refine read11 c i _ _ _ _ _ _ _ _ _ _ _ _ _ _ _ _ _ _ _ _ _ _ _ _ _ _ x0 x1 x2 x3 _ _ _ ?_ _ ?_ _ ?_ _ ?_ _
        · exact harg1.read_unread _
        · exact read8 c i _ _ _ _ _ _ _ _ _ _ _ _ _ _ _ _ _ _ _ _ _ _ _ _ _ _ x2 _ (harg3.read_unread _) _
        · unfold valueRun0.sl.HS1_1
          rw [View.readAt_full, harg4.read_unread]
          exact (fills9 x3).read (fun _ => trivial) _ _
        · unfold valueRun0.sl.HS2_2 valueRun0.sl.r valueRun0.sl.r_1
          rw [View.readAt_full, harg2.read_unread]
          exact (fills10 x1).read (fun _ => trivial) _ _
      · unfold valueRun0.sl.HS5_2 valueRun0.sl.r_7 valueRun0.sl.r_8 valueRun0.sl.r_2 valueRun0.sl.r_3 valueRun0.sl.r_4 valueRun0.sl.v62 valueRun0.sl.v65 valueRun0.sl.v68 valueRun0.sl.v71 valueRun0.sl.v74 valueRun0.sl.v77 valueRun0.sl.v106 valueRun0.sl.v108 valueRun0.sl.v111 valueRun0.sl.v114 valueRun0.sl.v117 valueRun0.sl.v120 valueRun0.sl.v123 valueRun0.sl.v126
        refine (mid13 x0 x1 x2 x3 x4 _ _ _ (harg5.read_unread _) _ ?_ _ _ ?_ ?_).read (fun _ => trivial) _ _
        · refine read12 c i _ _ _ _ _ _ _ _ _ _ _ _ _ _ _ _ _ _ _ _ _ _ _ _ _ _ x0 x1 x2 x3 _ _ _ ?_ _ ?_ _ ?_ _ ?_ _
          · exact harg1.read_unread _
          · exact read8 c i _ _ _ _ _ _ _ _ _ _ _ _ _ _ _ _ _ _ _ _ _ _ _ _ _ _ x2 _ (harg3.read_unread _) _
          · unfold valueRun0.sl.HS1_1
            rw [View.readAt_full, harg4.read_unread]
            exact (fills9 x3).read (fun _ => trivial) _ _
          · unfold valueRun0.sl.HS2_2 valueRun0.sl.r valueRun0.sl.r_1
            rw [View.readAt_full, harg2.read_unread]
            exact (fills10 x1).read (fun _ => trivial) _ _
        · refine congrArg Prod.fst (carry_end c i _ _ _ _ _ _ _ _ _ _ _ _ _ _ _ _ _ _ _ _ _ _ _ _ _ _ x0 x1 x2 x3 _ _ _ ?_ _ ?_ _ ?_ _ ?_)
          · exact harg1.read_unread _
          · exact read8 c i _ _ _ _ _ _ _ _ _ _ _ _ _ _ _ _ _ _ _ _ _ _ _ _ _ _ x2 _ (harg3.read_unread _) _
          · unfold valueRun0.sl.HS1_1
            rw [View.readAt_full, harg4.read_unread]
            exact (fills9 x3).read (fun _ => trivial) _ _
          · unfold valueRun0.sl.HS2_2 valueRun0.sl.r valueRun0.sl.r_1
            rw [View.readAt_full, harg2.read_unread]
            exact (fills10 x1).read (fun _ => trivial) _ _
        · refine congrArg Prod.snd (carry_end c i _ _ _ _ _ _ _ _ _ _ _ _ _ _ _ _ _ _ _ _ _ _ _ _ _ _ x0 x1 x2 x3 _ _ _ ?_ _ ?_ _ ?_ _ ?_)
          · exact harg1.read_unread _
          · exact read8 c i _ _ _ _ _ _ _ _ _ _ _ _ _ _ _ _ _ _ _ _ _ _ _ _ _ _ x2 _ (harg3.read_unread _) _
          · unfold valueRun0.sl.HS1_1
            rw [View.readAt_full, harg4.read_unread]
            exact (fills9 x3).read (fun _ => trivial) _ _
          · unfold valueRun0.sl.HS2_2 valueRun0.sl.r valueRun0.sl.r_1
            rw [View.readAt_full, harg2.read_unread]
            exact (fills10 x1).read (fun _ => trivial) _ _
    isplitl [H6]
    · iexists _; isplitr; swap; · iexact H6
      ipureintro
      unfold valueRun0.sl.H6_1 valueRun0.sl.r_6 valueRun0.sl.r_5 valueRun0.sl.r_7 valueRun0.sl.r_8 valueRun0.sl.r_2 valueRun0.sl.r_3 valueRun0.sl.r_4 valueRun0.sl.v62 valueRun0.sl.v65 valueRun0.sl.v68 valueRun0.sl.v71 valueRun0.sl.v74 valueRun0.sl.v77 valueRun0.sl.v106 valueRun0.sl.v108 valueRun0.sl.v111 valueRun0.sl.v114 valueRun0.sl.v117 valueRun0.sl.v120 valueRun0.sl.v123 valueRun0.sl.v126
      refine (mid7 x0 x1 x2 x3 x4 _ _ _ (harg5.read_unread _) _ ?_ _ _ ?_ ?_).read (fun _ => trivial) _ _
      · refine read12 c i _ _ _ _ _ _ _ _ _ _ _ _ _ _ _ _ _ _ _ _ _ _ _ _ _ _ x0 x1 x2 x3 _ _ _ ?_ _ ?_ _ ?_ _ ?_ _
        · exact harg1.read_unread _
        · exact read8 c i _ _ _ _ _ _ _ _ _ _ _ _ _ _ _ _ _ _ _ _ _ _ _ _ _ _ x2 _ (harg3.read_unread _) _
        · unfold valueRun0.sl.HS1_1
          rw [View.readAt_full, harg4.read_unread]
          exact (fills9 x3).read (fun _ => trivial) _ _
        · unfold valueRun0.sl.HS2_2 valueRun0.sl.r valueRun0.sl.r_1
          rw [View.readAt_full, harg2.read_unread]
          exact (fills10 x1).read (fun _ => trivial) _ _
      · refine congrArg Prod.fst (carry_end c i _ _ _ _ _ _ _ _ _ _ _ _ _ _ _ _ _ _ _ _ _ _ _ _ _ _ x0 x1 x2 x3 _ _ _ ?_ _ ?_ _ ?_ _ ?_)
        · exact harg1.read_unread _
        · exact read8 c i _ _ _ _ _ _ _ _ _ _ _ _ _ _ _ _ _ _ _ _ _ _ _ _ _ _ x2 _ (harg3.read_unread _) _
        · unfold valueRun0.sl.HS1_1
          rw [View.readAt_full, harg4.read_unread]
          exact (fills9 x3).read (fun _ => trivial) _ _
        · unfold valueRun0.sl.HS2_2 valueRun0.sl.r valueRun0.sl.r_1
          rw [View.readAt_full, harg2.read_unread]
          exact (fills10 x1).read (fun _ => trivial) _ _
      · refine congrArg Prod.snd (carry_end c i _ _ _ _ _ _ _ _ _ _ _ _ _ _ _ _ _ _ _ _ _ _ _ _ _ _ x0 x1 x2 x3 _ _ _ ?_ _ ?_ _ ?_ _ ?_)
        · exact harg1.read_unread _
        · exact read8 c i _ _ _ _ _ _ _ _ _ _ _ _ _ _ _ _ _ _ _ _ _ _ _ _ _ _ x2 _ (harg3.read_unread _) _
        · unfold valueRun0.sl.HS1_1
          rw [View.readAt_full, harg4.read_unread]
          exact (fills9 x3).read (fun _ => trivial) _ _
        · unfold valueRun0.sl.HS2_2 valueRun0.sl.r valueRun0.sl.r_1
          rw [View.readAt_full, harg2.read_unread]
          exact (fills10 x1).read (fun _ => trivial) _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Hand

end
-- ==== Proof.KVFrame.lean ====
/-
The run of the idealized kernel at the exact reading with what it writes named: at every grid point the body leaves the
block of codes and the block of scales that its five input blocks determine.
-/
module

public import proofs.«01_k».proof.Proof.KFrame
public import proofs.«01_k».proof.Proof.KValue
public import Idealize.ShloMosaic.Lib.Claim

@[expose] public section

-- membership in a rectangle of production extents (`View.cover_of_tiled`): the elaborator's structural look
-- recurses once per coordinate of the long axes
set_option maxRecDepth 16384

noncomputable section

namespace Cert.KernelIdeal.HandValue

open Cert.KernelIdeal Cert.KernelIdeal.Gen
open Cert.KernelIdeal.Hand (O6 O7 valueRun0 PhiA0_eq defs₀_row ms0_0 ms0_1 ms0_2 ms0_3 ms0_4 ms0_5 ms0_6 scM0_0 scM0_1 scM0_2 scM0_3 scM0_4 scM0_5)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The proof data of the one pipeline on core `c`: the arrays as the region finds them (`V`); after the body at
    point `t` each input's buffer at its block and the outputs' at the codes and the scales of those blocks; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => O6 (iblk m c 0 t) (iblk m c 1 t) (iblk m c 2 t) (iblk m c 3 t) (iblk m c 4 t)
    | ⟨6, h⟩ => O7 (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = O6 (iblk m c 0 t) (iblk m c 1 t) (iblk m c 2 t) (iblk m c 3 t) (iblk m c 4 t) := by dsimp only [dats]
theorem after0_6 (c : Dev nD) (t : Fin cfg0.N) : (dats m 0 c).after 6 t = O7 (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((valueRun0 c (grid0.coords t) _ _ _ _ _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

-- `θ_run_frame`'s implicit arguments are found by unifying its conclusion with this one, which takes unfolding plain
-- definitions in a metavariable's type
set_option backward.isDefEq.respectTransparency.types false in
/-- Every weakly fair execution of @main from zero counters terminates, with every array of the pipeline at what the
    proof data gives. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.HandValue

end
-- ==== Proof.Merge.lean ====
/-
The merged weight of a row as the kernel computes it and as the definition reads: equal where the low-rank factor is finite or
meets zeros only, and both infinite somewhere otherwise.
-/
module

public import proofs.«01_k».proof.Proof.RowMath

@[expose] public section

noncomputable section

namespace Cert.Dora

open Idealize.ShloMosaic

theorem lora_pos : ∃ r : ℝ, 0 < r ∧ lora = (r : EReal) := by
  refine ⟨11184811 * (1 / 16777216), by norm_num, ?_⟩
  rw [EReal.coe_mul]
  unfold lora
  simp [Ideal.ofBits, Ideal.ieee]
  norm_num

theorem inf_or_real (x : EReal) : Inf x ∨ ∃ r : ℝ, x = r := by
  induction x with
  | bot => exact .inl (.inr rfl)
  | top => exact .inl (.inl rfl)
  | coe r => exact .inr ⟨r, rfl⟩

theorem inf_add_left {x : EReal} (h : Inf x) (y : EReal) : Inf (x + y) := by
  rcases h with rfl | rfl
  · induction y with
    | bot => exact .inr (by simp)
    | top => exact .inl (by simp)
    | coe r => exact .inl (by simp)
  · exact .inr (by simp)

theorem inf_add_right {x : EReal} (h : Inf x) (y : EReal) : Inf (y + x) := add_comm x y ▸ inf_add_left h y

theorem inf_sum {n : ℕ} (f : Fin n → EReal) (r : Fin n) (h : Inf (f r)) : Inf (∑ r, f r) := by
  rw [← Finset.add_sum_erase _ _ (Finset.mem_univ r)]
  exact inf_add_left h _

theorem inf_mul {x y : EReal} (h : Inf x) (hy : y ≠ 0) : Inf (x * y) := by
  rcases lt_or_gt_of_ne hy with h0 | h0
  · rcases h with rfl | rfl
    · exact .inr (EReal.top_mul_of_neg h0)
    · exact .inl (EReal.bot_mul_of_neg h0)
  · rcases h with rfl | rfl
    · exact .inl (EReal.top_mul_of_pos h0)
    · exact .inr (EReal.bot_mul_of_pos h0)

theorem lora_ne_zero : lora ≠ 0 := by
  obtain ⟨r, hr, e⟩ := lora_pos
  rw [e]; exact_mod_cast hr.ne'

theorem lora_mul_sum {n : ℕ} (f : Fin n → EReal) : lora * ∑ r, f r = ∑ r, lora * f r := by
  obtain ⟨L, hL, e⟩ := lora_pos
  rw [e]
  have : ∀ s : Finset (Fin n), (L : EReal) * ∑ r ∈ s, f r = ∑ r ∈ s, (L : EReal) * f r := by
    intro s
    induction s using Finset.induction_on with
    | empty => simp
    | insert a s ha ih => rw [Finset.sum_insert ha, Finset.sum_insert ha, EReal.left_distrib_of_nonneg_of_ne_top (by exact_mod_cast hL.le) (by simp), ih]
  exact this _

/-- A column whose infinite factors all meet zeros. -/
def Tame (a b : Fin 24 → EReal) : Prop := ∀ r, Inf (b r) → a r = 0

theorem merged_tame (dq : EReal) (a b : Fin 24 → EReal) (h : Tame a b) : mergedK dq a b = mergedR dq a b := by
  obtain ⟨L, hL, e⟩ := lora_pos
  have h1 : ∀ r, a r * (b r * lora - b r * lora) = 0 := fun r => by
    rcases inf_or_real (b r) with hi | ⟨y, hy⟩
    · rw [h r hi, zero_mul]
    · rw [hy, e, ← EReal.coe_mul, ← EReal.coe_sub, sub_self, EReal.coe_zero, mul_zero]
  have h2 : ∀ r, a r * (b r * lora - b r * lora - (b r * lora - b r * lora)) = 0 := fun r => by
    rcases inf_or_real (b r) with hi | ⟨y, hy⟩
    · rw [h r hi, zero_mul]
    · rw [hy, e, ← EReal.coe_mul, ← EReal.coe_sub, ← EReal.coe_sub, sub_self, EReal.coe_zero, mul_zero]
  unfold mergedK mergedR
  rw [Finset.sum_eq_zero fun r _ => h1 r, Finset.sum_eq_zero fun r _ => h2 r, add_zero, add_zero, lora_mul_sum]
  refine congrArg (dq + ·) (Finset.sum_congr rfl fun r _ => ?_)
  rw [mul_comm (b r) lora, mul_left_comm, mul_comm (a r) (b r)]

theorem merged_wild (dq : EReal) (a b : Fin 24 → EReal) (h : ¬ Tame a b) : Inf (mergedK dq a b) ∧ Inf (mergedR dq a b) := by
  unfold Tame at h
  push Not at h
  obtain ⟨r, hb, ha⟩ := h
  constructor
  · refine inf_add_right (inf_add_left (inf_sum _ r ?_) _) _
    rw [mul_comm]; exact inf_mul (inf_mul hb lora_ne_zero) ha
  · refine inf_add_right ?_ _
    rw [mul_comm]
    exact inf_mul (inf_sum _ r (inf_mul hb ha)) lora_ne_zero

theorem merged_alike (n : ℕ) (dq : ℕ → EReal) (a b : ℕ → Fin 24 → EReal) :
    Alike n (fun c => mergedK (dq c) (a c) (b c)) (fun c => mergedR (dq c) (a c) (b c)) := by
  by_cases h : ∀ c < n, Tame (a c) (b c)
  · exact .inl fun c hc => merged_tame _ _ _ (h c hc)
  · push Not at h
    obtain ⟨c, hc, hw⟩ := h
    have := merged_wild (dq c) (a c) (b c) hw
    exact .inr ⟨⟨c, hc, this.1⟩, ⟨c, hc, this.2⟩⟩

end Cert.Dora

end
-- ==== Proof.Rows.lean ====
/-
Both results in terms of the five arrays: a row of the merged weight as the kernel computes it and by the definition, and
the equation of the scales and of the packed codes that follow from the two rows.
-/
module

public import proofs.«01_k».proof.Proof.Codes
public import proofs.«01_k».proof.Proof.Merge
public import proofs.«01_k».proof.Proof.Offsets
public import Idealize.ShloMosaic.Lib.Pointwise

@[expose] public section

set_option maxRecDepth 16384

noncomputable section

namespace Cert.Dora

open Idealize.ShloMosaic Cert.KernelIdeal.Hand

variable (a0 : IVec ⟨3, ![12, 256, 7168]⟩ 8) (a1 : FVec Ideal ⟨3, ![12, 256, 112]⟩ .bf16) (a2 : FVec Ideal ⟨3, ![12, 24, 14336]⟩ .bf16)
  (a3 : FVec Ideal ⟨3, ![12, 256, 24]⟩ .bf16) (a4 : FVec Ideal ⟨2, ![12, 256]⟩ .f32)

/-- The dequantised weight of expert `b`, row `n`, column `c`. -/
def dqA (b : Fin 12) (n c : ℕ) : EReal :=
  codeE (a0 (ix3 b (N 256 n) (N 7168 (c / 2)))) (c % 2) * a1 (ix3 b (N 256 n) (N 112 (c / 128)))

/-- Row `n` of the merged weight as the kernel computes it, -/
def rowK (b : Fin 12) (n c : ℕ) : EReal :=
  mergedK (dqA a0 a1 b n c) (fun r => a2 (ix3 b r (N 14336 c))) (fun r => a3 (ix3 b (N 256 n) r))

/-- and by the definition. -/
def rowR (b : Fin 12) (n c : ℕ) : EReal :=
  mergedR (dqA a0 a1 b n c) (fun r => a2 (ix3 b r (N 14336 c))) (fun r => a3 (ix3 b (N 256 n) r))

/-- The row's magnitude. -/
def magA (b : Fin 12) (n : ℕ) : EReal := a4 (ix2 b (N 256 n))

theorem rows_alike (b : Fin 12) (n : ℕ) : Alike 14336 (rowK a0 a1 a2 a3 b n) (rowR a0 a1 a2 a3 b n) :=
  merged_alike 14336 (fun c => dqA a0 a1 b n c) (fun c r => a2 (ix3 b r (N 14336 c))) (fun _ r => a3 (ix3 b (N 256 n) r))

/-- The scales as the kernel computes them, -/
def scalesK : FVec Ideal ⟨3, ![12, 256, 112]⟩ .bf16 := fun y =>
  scaleK 14336 (rowK a0 a1 a2 a3 (y 0) (y 1).val) (magA a4 (y 0) (y 1).val) (y 2).val

/-- and by the definition. -/
def scalesR : FVec Ideal ⟨3, ![12, 256, 112]⟩ .bf16 := fun y =>
  scaleR 14336 (rowR a0 a1 a2 a3 (y 0) (y 1).val) (magA a4 (y 0) (y 1).val) (y 2).val

/-- The packed codes as the kernel computes them, -/
def codesK : IVec ⟨3, ![12, 256, 7168]⟩ 8 := fun y =>
  byteN (BitVec.setWidth 4 (wordK (quotK 14336 (rowK a0 a1 a2 a3 (y 0) (y 1).val) (magA a4 (y 0) (y 1).val) ((y 2).val * 2))))
    (BitVec.setWidth 4 (wordK (quotK 14336 (rowK a0 a1 a2 a3 (y 0) (y 1).val) (magA a4 (y 0) (y 1).val) ((y 2).val * 2 + 1))))

/-- and by the definition. -/
def codesR : IVec ⟨3, ![12, 256, 7168]⟩ 8 := fun y =>
  byteN (BitVec.setWidth 4 (wordR (quotR 14336 (rowR a0 a1 a2 a3 (y 0) (y 1).val) (magA a4 (y 0) (y 1).val) ((y 2).val * 2))))
    (BitVec.setWidth 4 (wordR (quotR 14336 (rowR a0 a1 a2 a3 (y 0) (y 1).val) (magA a4 (y 0) (y 1).val) ((y 2).val * 2 + 1))))

theorem scales_eq : scalesK a0 a1 a2 a3 a4 = scalesR a0 a1 a2 a3 a4 := by
  funext y
  have h2 : (y 2).val < 112 := (y 2).isLt
  exact scale_alike (rows_alike a0 a1 a2 a3 (y 0) (y 1).val) _ (by omega)

theorem codes_eq : codesK a0 a1 a2 a3 a4 = codesR a0 a1 a2 a3 a4 := by
  funext y
  have h2 : (y 2).val < 7168 := (y 2).isLt
  unfold codesK codesR
  rw [nib_wordK, nib_wordK, quot_alike (rows_alike a0 a1 a2 a3 (y 0) (y 1).val) _ (by omega) (by omega),
    quot_alike (rows_alike a0 a1 a2 a3 (y 0) (y 1).val) _ (by omega) (by omega)]

end Cert.Dora

end
-- ==== Proof.KArrays.lean ====
/-
The kernel's two result arrays after its run: block by block the codes and the scales of the rows, so the whole arrays.
-/
module

public import proofs.«01_k».proof.Proof.KVFrame
public import proofs.«01_k».proof.Proof.Rows
public import Idealize.ShloMosaic.Lib.Pipeline.ValueKit

@[expose] public section

set_option maxRecDepth 16384

noncomputable section

namespace Cert.KernelIdeal.HandValue

open Cert.KernelIdeal Cert.KernelIdeal.Gen Cert.KernelIdeal.Hand Cert.Dora
open Idealize.ShloMosaic Idealize.ShloMosaic.TcCoe Idealize.SL.Sem

variable (m : (ℓ : Loc nD τ sig) → Buf (Elt Ideal) ℓ)

theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 0, 0] :=
  (by decide +kernel : ∀ t : Fin grid0.N, _)

/-- The expert whose block grid point `t` computes. -/
def ex (t : Fin cfg0.N) : Fin 12 := ⟨t.val, t.isLt⟩

abbrev A0 (c : Dev nD) : IVec S12x256x7168 8 := m ((c : Thread nD τ).loc main_arg0)
abbrev A1 (c : Dev nD) : FVec Ideal S12x256x112 .bf16 := m ((c : Thread nD τ).loc main_arg1)
abbrev A2 (c : Dev nD) : FVec Ideal S12x24x14336 .bf16 := m ((c : Thread nD τ).loc main_arg2)
abbrev A3 (c : Dev nD) : FVec Ideal S12x256x24 .bf16 := m ((c : Thread nD τ).loc main_arg3)
abbrev A4 (c : Dev nD) : FVec Ideal S12x256 .f32 := m ((c : Thread nD τ).loc main_arg4)

theorem blk0 (c : Dev nD) (t : Fin cfg0.N) (n : Fin 256) (j : Fin 7168) : iblk m c 0 t (ix3 0 n j) = A0 m c (ix3 (ex t) n j) := by
  blk_ext [iblk, V, idx t, ex]

theorem blk1 (c : Dev nD) (t : Fin cfg0.N) (n : Fin 256) (g : Fin 112) : iblk m c 1 t (ix3 0 n g) = A1 m c (ix3 (ex t) n g) := by
  blk_ext [iblk, V, idx t, ex]

theorem blk2 (c : Dev nD) (t : Fin cfg0.N) (r : Fin 24) (k : Fin 14336) : iblk m c 2 t (ix3 0 r k) = A2 m c (ix3 (ex t) r k) := by
  blk_ext [iblk, V, idx t, ex]

theorem blk3 (c : Dev nD) (t : Fin cfg0.N) (n : Fin 256) (r : Fin 24) : iblk m c 3 t (ix3 0 n r) = A3 m c (ix3 (ex t) n r) := by
  blk_ext [iblk, V, idx t, ex]

theorem blk4 (c : Dev nD) (t : Fin cfg0.N) (n : Fin 256) : iblk m c 4 t (ix3 0 0 n) = A4 m c (ix2 (ex t) n) := by
  blk_ext! [iblk, V, idx t, ex]

/-- The rows of a block are the expert's rows. -/
theorem MW_blk (c : Dev nD) (t : Fin cfg0.N) (n : ℕ) :
    MW (iblk m c 0 t) (iblk m c 1 t) (iblk m c 2 t) (iblk m c 3 t) n = rowK (A0 m c) (A1 m c) (A2 m c) (A3 m c) (ex t) n := by
  funext k
  unfold MW DQ rowK dqA
  simp only [blk0, blk1, blk2, blk3]

theorem MAG_blk (c : Dev nD) (t : Fin cfg0.N) (n : ℕ) : MAG (iblk m c 4 t) n = magA (A4 m c) (ex t) n := by
  unfold MAG magA
  rw [blk4]

theorem O6_blk (c : Dev nD) (t : Fin cfg0.N) (n : Fin 256) (j : Fin 7168) :
    O6 (iblk m c 0 t) (iblk m c 1 t) (iblk m c 2 t) (iblk m c 3 t) (iblk m c 4 t) (ix3 0 n j) = codesK (A0 m c) (A1 m c) (A2 m c) (A3 m c) (A4 m c) (ix3 (ex t) n j) := by
  unfold O6 WRD codesK
  simp only [MW_blk, MAG_blk]
  rfl

theorem O7_blk (c : Dev nD) (t : Fin cfg0.N) (n : Fin 256) (g : Fin 112) :
    O7 (iblk m c 0 t) (iblk m c 1 t) (iblk m c 2 t) (iblk m c 3 t) (iblk m c 4 t) (ix3 0 n g) = scalesK (A0 m c) (A1 m c) (A2 m c) (A3 m c) (A4 m c) (ix3 (ex t) n g) := by
  unfold O7 SCL scalesK
  simp only [MW_blk, MAG_blk]
  rfl

/-- The array of codes after the run, -/
theorem codes_final (c : Dev nD) :
    (dats m 0 c).arrAt 5 cfg0.N = codesK (A0 m c) (A1 m c) (A2 m c) (A3 m c) (A4 m c) := by
  refine (dats m 0 c).arrAt_eq_of_covers 5 _ (by decide +kernel) fun t hf y => ?_
  blk_simp
  rw [after0_5]
  idx_vars y
  obtain rfl : y0 = 0 := Subsingleton.elim _ _
  refine (O6_blk m c t y1 y2).trans (congrArg (codesK (A0 m c) (A1 m c) (A2 m c) (A3 m c) (A4 m c)) ?_)
  blk_ext [idx t, ex]

/-- and the array of scales. -/
theorem scales_final (c : Dev nD) :
    (dats m 0 c).arrAt 6 cfg0.N = scalesK (A0 m c) (A1 m c) (A2 m c) (A3 m c) (A4 m c) := by
  refine (dats m 0 c).arrAt_eq_of_covers 6 _ (by decide +kernel) fun t hf y => ?_
  blk_simp
  rw [after0_6]
  idx_vars y
  obtain rfl : y0 = 0 := Subsingleton.elim _ _
  refine (O7_blk m c t y1 y2).trans (congrArg (scalesK (A0 m c) (A1 m c) (A2 m c) (A3 m c) (A4 m c)) ?_)
  blk_ext [idx t, ex]

end Cert.KernelIdeal.HandValue

end
-- ==== Proof.RefValue.lean ====
/-
The reference's two results, element by element, at the exact reading: each named stage at an index, then the rows of the
merged weight, the row factor, the scales and the packed bytes, which are those of the definition.
-/
module

public import proofs.«01_k».proof.Proof.RefRun
public import proofs.«01_k».proof.Proof.Rows
public import proofs.«01_k».proof.Proof.Sums
public import Idealize.ShloMosaic.Lib.Pointwise

@[expose] public section

set_option maxRecDepth 16384

noncomputable section

namespace Cert.Dora

open Idealize.ShloMosaic

/-- The low four bits of a byte less sixteen from eight on are its signed low nibble, -/
theorem ref_low : ∀ b : BitVec 8, (Scalar.select (IntOp.cmpi .sge (IntOp.andi (BitVec.setWidth 32 b) 15#32) 8#32)
    (IntOp.subi (IntOp.andi (BitVec.setWidth 32 b) 15#32) 16#32) (IntOp.andi (BitVec.setWidth 32 b) 15#32)).toInt = codeI b 0 := by
  decide +kernel

/-- and the same of the byte shifted by four its signed high nibble. -/
theorem ref_high : ∀ b : BitVec 8,
    (Scalar.select (IntOp.cmpi .sge (IntOp.andi (IntOp.shrsi .host (BitVec.setWidth 32 b) 4#32) 15#32) 8#32)
      (IntOp.subi (IntOp.andi (IntOp.shrsi .host (BitVec.setWidth 32 b) 4#32) 15#32) 16#32)
      (IntOp.andi (IntOp.shrsi .host (BitVec.setWidth 32 b) 4#32) 15#32)).toInt = codeI b 1 := by
  decide +kernel

theorem pack_words (k l : ℤ) (hk : -7 ≤ k) (hk' : k ≤ 7) (hl : -7 ≤ l) (hl' : l ≤ 7) :
    BitVec.setWidth 8 (IntOp.ori (IntOp.shli .host (IntOp.andi (BitVec.ofInt 32 l) 15#32) 4#32)
      (IntOp.andi (BitVec.ofInt 32 k) 15#32)) = byteN (BitVec.setWidth 4 (BitVec.ofInt 32 k)) (BitVec.setWidth 4 (BitVec.ofInt 32 l)) := by
  interval_cases k <;> interval_cases l <;> rfl

/-- The byte of two codes, low nibble first. -/
theorem ref_pack (x y : EReal) :
    BitVec.setWidth 8 (IntOp.ori (IntOp.shli .host (IntOp.andi (wordR y) 15#32) 4#32) (IntOp.andi (wordR x) 15#32))
      = byteN (BitVec.setWidth 4 (wordR x)) (BitVec.setWidth 4 (wordR y)) := by
  obtain ⟨k, hk, hk', ek, -⟩ := words x
  obtain ⟨l, hl, hl', el, -⟩ := words y
  rw [ek, el]
  exact pack_words k l hk hk' hl hl'

end Cert.Dora

namespace Cert.ReferenceIdeal.Hand

open Cert.ReferenceIdeal Cert.ReferenceIdeal.Gen Idealize.ShloMosaic Cert.Dora Cert.KernelIdeal.Hand

variable (a0 : IVec S12x256x7168 8) (a1 : FVec Ideal S12x256x112 .bf16) (a2 : FVec Ideal S12x24x14336 .bf16)
  (a3 : FVec Ideal S12x256x24 .bf16) (a4 : FVec Ideal S12x256 .f32)

/-! ### The stages at an index -/

theorem lt_byte (g : Fin 112) (t : Fin 64) : g.val * 64 + t.val < 7168 := by omega

theorem nibLo_apply (b : Fin 12) (n : Fin 256) (g : Fin 112) (t : Fin 64) :
    (nibLo a0 (ix4 b n g t)).toInt = codeI (a0 (ix3 b n ⟨g.val * 64 + t.val, lt_byte g t⟩)) 0 := by
  pointwise [nibLo, nib]
  exact ref_low _

theorem nibHi_apply (b : Fin 12) (n : Fin 256) (g : Fin 112) (t : Fin 64) :
    (nibHi a0 (ix4 b n g t)).toInt = codeI (a0 (ix3 b n ⟨g.val * 64 + t.val, lt_byte g t⟩)) 1 := by
  pointwise [nibHi, nib]
  exact ref_high _

theorem aLo_apply (b : Fin 12) (r : Fin 24) (g : Fin 112) (t : Fin 64) :
    aLo a2 (ix4 b r g t) = a2 (ix3 b r (N 14336 (128 * g.val + 2 * t.val))) := by
  pointwise [aLo]
  refine congrArg (fun k => a2 (ix3 b r k)) (Fin.ext ?_)
  show _ = (128 * g.val + 2 * t.val) % 14336
  dsimp only; omega

theorem aHi_apply (b : Fin 12) (r : Fin 24) (g : Fin 112) (t : Fin 64) :
    aHi a2 (ix4 b r g t) = a2 (ix3 b r (N 14336 (128 * g.val + 2 * t.val + 1))) := by
  pointwise [aHi]
  refine congrArg (fun k => a2 (ix3 b r k)) (Fin.ext ?_)
  show _ = (128 * g.val + 2 * t.val + 1) % 14336
  dsimp only; omega

theorem merged_apply (q : IVec S12x256x112x64 32) (al : FVec Ideal S12x24x112x64 .bf16) (b : Fin 12) (n : Fin 256)
    (g : Fin 112) (t : Fin 64) :
    merged (F := Ideal) q a1 al a3 (ix4 b n g t)
      = ((((q (ix4 b n g t)).toInt : ℝ) : EReal)) * a1 (ix3 b n g) + lora * ∑ r, a3 (ix3 b n r) * al (ix4 b r g t) := by
  pointwise [merged]
  rfl

theorem factor_apply (lo hi : FVec Ideal S12x256x112x64 .f32) (b : Fin 12) (n : Fin 256) :
    factor lo hi a4 (ix2 b n) = Ideal.div (a4 (ix2 b n)) (Ideal.sqrt (∑ g, ∑ t, lo (ix4 b n g t) * lo (ix4 b n g t)
      + ∑ g, ∑ t, hi (ix4 b n g t) * hi (ix4 b n g t))) := by
  pointwise [factor]

theorem timesRow_apply (x : FVec Ideal S12x256x112x64 .f32) (f : FVec Ideal S12x256 .f32) (b : Fin 12) (n : Fin 256)
    (g : Fin 112) (t : Fin 64) : timesRow x f (ix4 b n g t) = x (ix4 b n g t) * f (ix2 b n) := by
  pointwise [timesRow]

theorem quant_apply (x : FVec Ideal S12x256x112x64 .f32) (s : FVec Ideal S12x256x112 .bf16) (b : Fin 12) (n : Fin 256)
    (g : Fin 112) (t : Fin 64) : quant x s (ix4 b n g t) = wordR (Ideal.div (x (ix4 b n g t)) (s (ix3 b n g))) := by
  pointwise [quant]
  unfold wordR
  have e7 : (FloatOps.sitofp .f32 7#32 : Ideal .f32) = ((7 : ℝ) : EReal) := by
    show ((((7#32 : BitVec 32).toInt : ℝ)) : EReal) = _
    rw [show (7#32 : BitVec 32).toInt = 7 from rfl]; norm_num
  have em : (FloatOps.sitofp .f32 4294967289#32 : Ideal .f32) = ((-7 : ℝ) : EReal) := by
    show ((((4294967289#32 : BitVec 32).toInt : ℝ)) : EReal) = _
    rw [show (4294967289#32 : BitVec 32).toInt = -7 from rfl]; norm_num
  rw [e7, em]
  rfl

theorem pack_apply (lo hi : IVec S12x256x112x64 32) (b : Fin 12) (n : Fin 256) (j : Fin 7168) :
    pack lo hi (ix3 b n j)
      = BitVec.setWidth 8 (IntOp.ori (IntOp.shli .host (IntOp.andi (hi (ix4 b n ⟨j.val / 64, by omega⟩ ⟨j.val % 64, by omega⟩)) 15#32) 4#32)
        (IntOp.andi (lo (ix4 b n ⟨j.val / 64, by omega⟩ ⟨j.val % 64, by omega⟩)) 15#32)) := by
  pointwise [pack]

theorem scale_apply (a : FVec Ideal S12x256x112 .f32) (b : Fin 12) (n : Fin 256) (g : Fin 112) :
    scale a (ix3 b n g) = scaleOf (a (ix3 b n g)) := by
  pointwise [scale]
  unfold scaleOf
  refine if_congr Iff.rfl ?_ rfl
  exact Ideal.ofBits_one_f32

/-- A maximum over the last of four axes. -/
theorem hostMax4 {n0 n1 n2 n3 : ℕ} {t u : Shape} (x : (⟨4, ![n0, n1, n2, n3]⟩ : Shape).Idx → EReal) (init : u.Idx → EReal)
    (h : (⟨4, ![n0, n1, n2, n3]⟩ : Shape).ReducesTo [3] t) (hu : 0 < u.numel) (j : t.Idx) :
    Host.reduce max x init h hu j = (Finset.univ : Finset (Fin n3)).fold max (init (Shape.Idx.first hu))
      (fun k => x (ix4 ⟨(j ⟨0, h.lt_r4_a3_0⟩).val, Shape.coordLt (j ⟨0, h.lt_r4_a3_0⟩) h.size_r4_a3_0⟩
        ⟨(j ⟨1, h.lt_r4_a3_1⟩).val, Shape.coordLt (j ⟨1, h.lt_r4_a3_1⟩) h.size_r4_a3_1⟩
        ⟨(j ⟨2, h.lt_r4_a3_2⟩).val, Shape.coordLt (j ⟨2, h.lt_r4_a3_2⟩) h.size_r4_a3_2⟩ k)) := by
  rw [Host.reduce_eq_fold, Shape.ReducesTo.fold_fiber_r4_a3]

theorem fold_sup {n : ℕ} (f : Fin n → EReal) : Finset.univ.fold max (Ideal.ofBits .f32 0xFF800000#32) f = Finset.univ.sup f := by
  have e : Ideal.ofBits .f32 0xFF800000#32 = (⊥ : EReal) := by simp [Ideal.ofBits, Ideal.ieee]
  rw [e]; rfl

theorem hostMax_apply (x : FVec Ideal S12x256x112x64 .f32) (b : Fin 12) (n : Fin 256) (g : Fin 112) :
    Host.reduce FloatOps.maximumf (Host.absf x) (constant S_ .f32 0xFF800000#32) reducesTo_S12x256x112x64_S12x256x112_d3 h_S_ (ix3 b n g)
      = Finset.univ.sup fun t : Fin 64 => absE (x (ix4 b n g t)) :=
  (hostMax4 (fun i => absE (x i)) _ reducesTo_S12x256x112x64_S12x256x112_d3 h_S_ (ix3 b n g)).trans
    (fold_sup fun t : Fin 64 => absE (x (ix4 b n g t)))

/-- The larger of the maxima over the even and over the odd columns of a group is the maximum over the group. -/
theorem sup_halves (m : ℕ → EReal) (g : ℕ) :
    max (Finset.univ.sup fun t : Fin 64 => absE (m (128 * g + 2 * t.val))) (Finset.univ.sup fun t : Fin 64 => absE (m (128 * g + 2 * t.val + 1)))
      = amaxG m g := by
  unfold amaxG
  apply le_antisymm
  · refine max_le (Finset.sup_le fun t _ => ?_) (Finset.sup_le fun t _ => ?_)
    · exact Finset.le_sup (f := fun t => absE (m (128 * g + t))) (b := 2 * t.val) (Finset.mem_range.mpr (by omega))
    · rw [Nat.add_assoc]
      exact Finset.le_sup (f := fun t => absE (m (128 * g + t))) (b := 2 * t.val + 1) (Finset.mem_range.mpr (by omega))
  · refine Finset.sup_le fun t ht => ?_
    have ht' : t < 128 := Finset.mem_range.mp ht
    obtain ⟨k, hk⟩ := Nat.even_or_odd' t
    have hk' : k < 64 := by omega
    rcases hk with hk | hk <;> rw [hk]
    · exact le_max_of_le_left (Finset.le_sup (f := fun t : Fin 64 => absE (m (128 * g + 2 * t.val))) (Finset.mem_univ (⟨k, hk'⟩ : Fin 64)))
    · rw [← Nat.add_assoc]
      exact le_max_of_le_right (Finset.le_sup (f := fun t : Fin 64 => absE (m (128 * g + 2 * t.val + 1)))
        (Finset.mem_univ (⟨k, hk'⟩ : Fin 64)))

theorem amax_apply (lo hi : FVec Ideal S12x256x112x64 .f32) (m : ℕ → EReal) (b : Fin 12) (n : Fin 256) (g : Fin 112)
    (hlo : ∀ t : Fin 64, lo (ix4 b n g t) = m (128 * g.val + 2 * t.val))
    (hhi : ∀ t : Fin 64, hi (ix4 b n g t) = m (128 * g.val + 2 * t.val + 1)) :
    amax lo hi (ix3 b n g) = amaxG m g.val := by
  have key : ∀ X Y : FVec Ideal S12x256x112 .f32, maximumf X Y (ix3 b n g) = max (X (ix3 b n g)) (Y (ix3 b n g)) := fun _ _ => rfl
  unfold amax
  rw [key, hostMax_apply, hostMax_apply, ← sup_halves]
  simp only [hlo, hhi]

/-! ### The rows -/

theorem mLo_apply (b : Fin 12) (n : Fin 256) (g : Fin 112) (t : Fin 64) :
    mLo a0 a1 a2 a3 (ix4 b n g t) = rowR a0 a1 a2 a3 b n.val (128 * g.val + 2 * t.val) := by
  unfold mLo rowR mergedR dqA codeE
  rw [merged_apply, nibLo_apply, N_val]
  simp only [aLo_apply]
  have e1 : (⟨g.val * 64 + t.val, lt_byte g t⟩ : Fin 7168) = N 7168 ((128 * g.val + 2 * t.val) / 2) :=
    Fin.ext (show _ = (128 * g.val + 2 * t.val) / 2 % 7168 by dsimp only; omega)
  have e2 : N 112 ((128 * g.val + 2 * t.val) / 128) = g :=
    Fin.ext (show (128 * g.val + 2 * t.val) / 128 % 112 = g.val by omega)
  rw [e1, e2, show (128 * g.val + 2 * t.val) % 2 = 0 by omega]

theorem mHi_apply (b : Fin 12) (n : Fin 256) (g : Fin 112) (t : Fin 64) :
    mHi a0 a1 a2 a3 (ix4 b n g t) = rowR a0 a1 a2 a3 b n.val (128 * g.val + 2 * t.val + 1) := by
  unfold mHi rowR mergedR dqA codeE
  rw [merged_apply, nibHi_apply, N_val]
  simp only [aHi_apply]
  have e1 : (⟨g.val * 64 + t.val, lt_byte g t⟩ : Fin 7168) = N 7168 ((128 * g.val + 2 * t.val + 1) / 2) :=
    Fin.ext (show _ = (128 * g.val + 2 * t.val + 1) / 2 % 7168 by dsimp only; omega)
  have e2 : N 112 ((128 * g.val + 2 * t.val + 1) / 128) = g :=
    Fin.ext (show (128 * g.val + 2 * t.val + 1) / 128 % 112 = g.val by omega)
  rw [e1, e2, show (128 * g.val + 2 * t.val + 1) % 2 = 1 by omega]

/-- The sum over the even columns and the sum over the odd columns are the sum over the row. -/
theorem sum_halves (f : ℕ → EReal) :
    ∑ g : Fin 112, ∑ t : Fin 64, f (128 * g.val + 2 * t.val) + ∑ g : Fin 112, ∑ t : Fin 64, f (128 * g.val + 2 * t.val + 1)
      = ∑ c ∈ Finset.range 14336, f c := by
  rw [← Finset.sum_add_distrib, show 14336 = 112 * 128 from rfl, sum_range_mul]
  rw [Finset.sum_range fun g => ∑ t ∈ Finset.range 128, f (128 * g + t)]
  refine Finset.sum_congr rfl fun g _ => ?_
  rw [← Finset.sum_add_distrib, show 128 = 64 * 2 from rfl, sum_range_mul,
    Finset.sum_range fun t => ∑ p ∈ Finset.range 2, f (64 * 2 * g.val + (2 * t + p))]
  refine Finset.sum_congr rfl fun t _ => ?_
  rw [Finset.sum_range_succ, Finset.sum_range_one]
  rfl

theorem rowFactor_apply (b : Fin 12) (n : Fin 256) :
    rowFactor a0 a1 a2 a3 a4 (ix2 b n) = fac 14336 (rowR a0 a1 a2 a3 b n.val) (magA a4 b n.val) := by
  unfold rowFactor fac magA ssq
  rw [factor_apply, N_val, ← sum_halves]
  simp only [mLo_apply, mHi_apply]

theorem mfLo_apply (b : Fin 12) (n : Fin 256) (g : Fin 112) (t : Fin 64) :
    mfLo a0 a1 a2 a3 a4 (ix4 b n g t) = rowR a0 a1 a2 a3 b n.val (128 * g.val + 2 * t.val)
      * fac 14336 (rowR a0 a1 a2 a3 b n.val) (magA a4 b n.val) := by
  unfold mfLo
  rw [timesRow_apply, rowFactor_apply, mLo_apply]

theorem mfHi_apply (b : Fin 12) (n : Fin 256) (g : Fin 112) (t : Fin 64) :
    mfHi a0 a1 a2 a3 a4 (ix4 b n g t) = rowR a0 a1 a2 a3 b n.val (128 * g.val + 2 * t.val + 1)
      * fac 14336 (rowR a0 a1 a2 a3 b n.val) (magA a4 b n.val) := by
  unfold mfHi
  rw [timesRow_apply, rowFactor_apply, mHi_apply]

/-! ### The results -/

theorem outScales_apply (b : Fin 12) (n : Fin 256) (g : Fin 112) :
    outScales a0 a1 a2 a3 a4 (ix3 b n g) = scaleR 14336 (rowR a0 a1 a2 a3 b n.val) (magA a4 b n.val) g.val := by
  unfold outScales scaleR
  rw [scale_apply, amax_apply _ _ (fun c => rowR a0 a1 a2 a3 b n.val c * fac 14336 (rowR a0 a1 a2 a3 b n.val) (magA a4 b n.val)) b n g
    (mfLo_apply a0 a1 a2 a3 a4 b n g) (mfHi_apply a0 a1 a2 a3 a4 b n g)]

/-- The second result is the scales by the definition, -/
theorem outScales_eq : outScales a0 a1 a2 a3 a4 = scalesR a0 a1 a2 a3 a4 := by
  funext y
  idx_vars y
  exact outScales_apply a0 a1 a2 a3 a4 _ _ _

theorem outCodes_apply (b : Fin 12) (n : Fin 256) (j : Fin 7168) :
    outCodes a0 a1 a2 a3 a4 (ix3 b n j) = codesR a0 a1 a2 a3 a4 (ix3 b n j) := by
  unfold outCodes
  rw [pack_apply, quant_apply, quant_apply, ref_pack, outScales_apply, mfLo_apply, mfHi_apply]
  show byteN (BitVec.setWidth 4 (wordR (Ideal.div (rowR a0 a1 a2 a3 b n.val (128 * (j.val / 64) + 2 * (j.val % 64)) * _) (scaleR _ _ _ (j.val / 64)))))
    (BitVec.setWidth 4 (wordR (Ideal.div (rowR a0 a1 a2 a3 b n.val (128 * (j.val / 64) + 2 * (j.val % 64) + 1) * _) (scaleR _ _ _ (j.val / 64))))) = _
  have e : 128 * (j.val / 64) + 2 * (j.val % 64) = j.val * 2 := by omega
  have e1 : j.val / 64 = j.val * 2 / 128 := by omega
  have e2 : j.val / 64 = (j.val * 2 + 1) / 128 := by omega
  rw [e]
  refine congrArg₂ (fun u v => byteN (BitVec.setWidth 4 (wordR u)) (BitVec.setWidth 4 (wordR v))) ?_ ?_
  · rw [e1]; rfl
  · rw [e2]; rfl

/-- and the first the packed codes. -/
theorem outCodes_eq : outCodes a0 a1 a2 a3 a4 = codesR a0 a1 a2 a3 a4 := by
  funext y
  idx_vars y
  exact outCodes_apply a0 a1 a2 a3 a4 _ _ _

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KFrame
public import proofs.«01_k».proof.Proof.PFrame
public import proofs.«01_k».proof.Proof.KArrays
public import proofs.«01_k».proof.Proof.RefValue
public import Idealize.ShloMosaic.Lib.Bf16Pair
public import Idealize.ShloMosaic.Lib.Bf16PairInverse
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Hand.frame m ρ

theorem frame_pi : Cert.quiescent_KernelIdeal := fun m ρ _ => Cert.KernelIdeal.Hand.frame m ρ

theorem frame_ri : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Hand.run m ρ)

theorem preserves : Cert.preserves_Kernel_KernelIdeal :=
  open Cert.KernelIdeal IdealRules.bf16_pair in
  ⟨bufferStatement S2x112x2x128 S2x112x1x128, packStatement S112x256, statement S1x112x2x128 S1x112x1x128,
    statement S1x1x2x128 S1x1x1x128, statement S16x128 S8x128⟩

/-- Both results of the idealized kernel are those of the idealized reference: each side's arrays are the codes and the scales of
    its rows of the merged weight, and those of the two rows are equal. -/
theorem algebraic : Cert.algebraic_KernelIdeal_ReferenceIdeal := by
  intro m g m' g' _ hagree
  refine ⟨fun c => Cert.Dora.codesK (Cert.KernelIdeal.HandValue.A0 m c) (Cert.KernelIdeal.HandValue.A1 m c) (Cert.KernelIdeal.HandValue.A2 m c)
      (Cert.KernelIdeal.HandValue.A3 m c) (Cert.KernelIdeal.HandValue.A4 m c),
    fun c => Cert.Dora.scalesK (Cert.KernelIdeal.HandValue.A0 m c) (Cert.KernelIdeal.HandValue.A1 m c) (Cert.KernelIdeal.HandValue.A2 m c)
      (Cert.KernelIdeal.HandValue.A3 m c) (Cert.KernelIdeal.HandValue.A4 m c), ?_, ?_⟩
  · exact (θ_run Cert.KernelIdeal.defs _ _).mono
      (fun r h c => ⟨((h.1 c).1 5).trans (Cert.KernelIdeal.HandValue.codes_final m c),
        ((h.1 c).1 6).trans (Cert.KernelIdeal.HandValue.scales_final m c), h.2 c⟩)
      (θ_run_and (Cert.KernelIdeal.HandValue.run_main m g) (Cert.KernelIdeal.Hand.unchanged m g))
  · refine (θ_run Cert.ReferenceIdeal.defs _ _).mono (fun r h c => ⟨(h c).1.trans ?_, (h c).2.1.trans ?_, (h c).2.2⟩)
      (Cert.ReferenceIdeal.Hand.run m' g')
    · rw [Cert.ReferenceIdeal.Hand.outCodes_eq, ← Cert.Dora.codes_eq, (hagree c).1, (hagree c).2.1, (hagree c).2.2.1, (hagree c).2.2.2.1,
        (hagree c).2.2.2.2]
    · rw [Cert.ReferenceIdeal.Hand.outScales_eq, ← Cert.Dora.scales_eq, (hagree c).1, (hagree c).2.1, (hagree c).2.2.1, (hagree c).2.2.2.1,
        (hagree c).2.2.2.2]

theorem claim : Cert.Claim := ⟨Cert.Kernel.Gen.facts, Cert.KernelIdeal.Gen.facts, Cert.ReferenceIdeal.Gen.facts,
  frame_p, frame_pi, frame_ri, preserves, algebraic⟩

end Cert.Proof

end
